-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_list [hPre_a_list : Cert.Pre_a_list.Facts] (m : (ℓ : Loc Cert.KernelIdeal.nD Cert.KernelIdeal.τ Cert.KernelIdeal.sig) → Buf (Elt Ideal) ℓ) : Prop :=
  ∀ c : Dev Cert.KernelIdeal.nD,
    (Cert.Pre_a_list.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_list [hPre_a_list : Cert.Pre_a_list.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_list.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_a_list [hKernelIdeal : Cert.KernelIdeal.Facts] [hPre_a_list : Cert.Pre_a_list.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_list m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_a_list [hReferenceIdeal : Cert.ReferenceIdeal.Facts] [hPre_a_list : Cert.Pre_a_list.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_list m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_a_list [hKernelIdeal : Cert.KernelIdeal.Facts] [hReferenceIdeal : Cert.ReferenceIdeal.Facts] [hPre_a_list : Cert.Pre_a_list.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_list m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v85) = v5 c
          ∧ r.2.mem ((c.tc : Thread Cert.ReferenceIdeal.nD Cert.ReferenceIdeal.τ).loc Cert.ReferenceIdeal.main_v71) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_a_list : Cert.Pre_a_list.Facts),
    quiescent_Kernel (hKernel := hKernel)
    ∧ quiescent_KernelIdeal (hKernelIdeal := hKernelIdeal)
    ∧ quiescent_KernelIdeal_pre_a_list (hKernelIdeal := hKernelIdeal) (hPre_a_list := hPre_a_list)
    ∧ quiescent_ReferenceIdeal (hReferenceIdeal := hReferenceIdeal)
    ∧ quiescent_ReferenceIdeal_pre_a_list (hReferenceIdeal := hReferenceIdeal) (hPre_a_list := hPre_a_list)
    ∧ preserves_Kernel_KernelIdeal
    ∧ algebraic_KernelIdeal_ReferenceIdeal_pre_a_list (hKernelIdeal := hKernelIdeal) (hReferenceIdeal := hReferenceIdeal) (hPre_a_list := hPre_a_list)
-- ==== Pre_a_list.lean ====
abbrev S12x576x1024 : Shape := ⟨3, ![12, 576, 1024]⟩
abbrev S12x1024 : Shape := ⟨2, ![12, 1024]⟩
abbrev S12x120 : Shape := ⟨2, ![12, 120]⟩
abbrev S12 : Shape := ⟨1, ![12]⟩
abbrev S12x576 : Shape := ⟨2, ![12, 576]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S120 : Shape := ⟨1, ![120]⟩
abbrev S1x120 : Shape := ⟨2, ![1, 120]⟩
abbrev S12x1 : Shape := ⟨2, ![12, 1]⟩
abbrev S_ : Shape := ⟨0, ![]⟩
abbrev S12x120x1 : Shape := ⟨3, ![12, 120, 1]⟩
abbrev S12x1x120 : Shape := ⟨3, ![12, 1, 120]⟩
abbrev S12x120x120 : Shape := ⟨3, ![12, 120, 120]⟩
abbrev S120x1 : Shape := ⟨2, ![120, 1]⟩
abbrev S120x120 : Shape := ⟨2, ![120, 120]⟩
abbrev S1x120x120 : Shape := ⟨3, ![1, 120, 120]⟩
abbrev S12x1x1 : Shape := ⟨3, ![12, 1, 1]⟩

class Facts : Prop where
  bcast_S120_S1x120_1 : S120.BroadcastsInDim S1x120 (![1] : Fin 1 → Fin S1x120.rank)
  bcast_S12_S12x1_0 : S12.BroadcastsInDim S12x1 (![0] : Fin 1 → Fin S12x1.rank)
  bcast_S1x120_S12x120_0_1 : S1x120.BroadcastsInDim S12x120 (![0, 1] : Fin 2 → Fin S12x120.rank)
  bcast_S12x1_S12x120_0_1 : S12x1.BroadcastsInDim S12x120 (![0, 1] : Fin 2 → Fin S12x120.rank)
  bcast_S_S12x120 : S_.BroadcastsInDim S12x120 (![] : Fin 0 → Fin S12x120.rank)
  bcast_S12x120_S12x120x1_0_1 : S12x120.BroadcastsInDim S12x120x1 (![0, 1] : Fin 2 → Fin S12x120x1.rank)
  bcast_S12x120_S12x1x120_0_2 : S12x120.BroadcastsInDim S12x1x120 (![0, 2] : Fin 2 → Fin S12x1x120.rank)
  bcast_S12x120x1_S12x120x120_0_1_2 : S12x120x1.BroadcastsInDim S12x120x120 (![0, 1, 2] : Fin 3 → Fin S12x120x120.rank)
  bcast_S12x1x120_S12x120x120_0_1_2 : S12x1x120.BroadcastsInDim S12x120x120 (![0, 1, 2] : Fin 3 → Fin S12x120x120.rank)
  bcast_S120_S120x1_0 : S120.BroadcastsInDim S120x1 (![0] : Fin 1 → Fin S120x1.rank)
  bcast_S120x1_S120x120_0_1 : S120x1.BroadcastsInDim S120x120 (![0, 1] : Fin 2 → Fin S120x120.rank)
  bcast_S1x120_S120x120_0_1 : S1x120.BroadcastsInDim S120x120 (![0, 1] : Fin 2 → Fin S120x120.rank)
  bcast_S120x120_S1x120x120_1_2 : S120x120.BroadcastsInDim S1x120x120 (![1, 2] : Fin 2 → Fin S1x120x120.rank)
  bcast_S1x120x120_S12x120x120_0_1_2 : S1x120x120.BroadcastsInDim S12x120x120 (![0, 1, 2] : Fin 3 → Fin S12x120x120.rank)
  bcast_S_S12 : S_.BroadcastsInDim S12 (![] : Fin 0 → Fin S12.rank)
  bcast_S12_S12x1x1_0 : S12.BroadcastsInDim S12x1x1 (![0] : Fin 1 → Fin S12x1x1.rank)
  bcast_S12x1x1_S12x120x1_0_1_2 : S12x1x1.BroadcastsInDim S12x120x1 (![0, 1, 2] : Fin 3 → Fin S12x120x1.rank)

variable [Facts]

def fn_part1 {F : FTy → Type} [FloatOps F] (main_arg4 : IVec S12x120 32) (main_arg5 : IVec S12 32) (main_v12 : IVec S12x120 1) (main_v17 : IVec S12x120x120 1) (main_v20 : IVec S120x120 32) (main_v21 : IVec S120x120 32) : IVec S12x120x120 1 :=
  let main_v22 : IVec S120x120 1 := cmpi .ne main_v20 main_v21
  let main_v23 : IVec S1x120x120 1 := broadcastInDim S1x120x120 ![1, 2] bcast_S120x120_S1x120x120_1_2 main_v22
  let main_v24 : IVec S12x120x120 1 := broadcastInDim S12x120x120 ![0, 1, 2] bcast_S1x120x120_S12x120x120_0_1_2 main_v23
  let main_v25 : IVec S12x120x120 1 := andi main_v17 main_v24
  let main_v26 : IVec S12x120x1 32 := broadcastInDim S12x120x1 ![0, 1] bcast_S12x120_S12x120x1_0_1 main_arg4
  let main_v27 : IVec S12x1x120 32 := broadcastInDim S12x1x120 ![0, 2] bcast_S12x120_S12x1x120_0_2 main_arg4
  let main_v28 : IVec S12x120x120 32 := broadcastInDim S12x120x120 ![0, 1, 2] bcast_S12x120x1_S12x120x120_0_1_2 main_v26
  let main_v29 : IVec S12x120x120 32 := broadcastInDim S12x120x120 ![0, 1, 2] bcast_S12x1x120_S12x120x120_0_1_2 main_v27
  let main_v30 : IVec S12x120x120 1 := cmpi .eq main_v28 main_v29
  let main_v31 : IVec S12x120x120 1 := andi main_v25 main_v30
  let main_c_1 : IVec S_ 32 := constantI S_ 32 120#32
  let main_v32 : IVec S12 32 := broadcastInDim S12 ![] bcast_S_S12 main_c_1
  let main_v33 : IVec S12 1 := cmpi .sle main_arg5 main_v32
  let main_v34 : IVec S12x1x1 1 := broadcastInDim S12x1x1 ![0] bcast_S12_S12x1x1_0 main_v33
  let main_v35 : IVec S12x120x1 1 := broadcastInDim S12x120x1 ![0, 1] bcast_S12x120_S12x120x1_0_1 main_v12
  let main_v36 : IVec S12x120x1 1 := broadcastInDim S12x120x1 ![0, 1, 2] bcast_S12x1x1_S12x120x1_0_1_2 main_v34
  let main_v37 : IVec S12x120x1 1 := andi main_v36 main_v35
  let main_v38 : IVec S12x120x120 1 := noti main_v31
  let main_v39 : IVec S12x120x120 1 := broadcastInDim S12x120x120 ![0, 1, 2] bcast_S12x120x1_S12x120x120_0_1_2 main_v37
  let main_v40 : IVec S12x120x120 1 := andi main_v39 main_v38
  main_v40

def fn {F : FTy → Type} [FloatOps F] (main_arg0 : FVec F S12x576x1024 .bf16) (main_arg1 : FVec F S12x1024 .f32) (main_arg2 : FVec F S12x1024 .f32) (main_arg3 : FVec F S12x1024 .f32) (main_arg4 : IVec S12x120 32) (main_arg5 : IVec S12 32) (main_arg6 : FVec F S12x576x1024 .fp8e4m3) (main_arg7 : FVec F S12x576 .f32) (main_arg8 : FVec F S1024x4096 .fp8e4m3) (main_arg9 : FVec F S4096 .f32) (main_arg10 : FVec F S4096 .f32) (main_arg11 : FVec F S4096x1024 .fp8e4m3) (main_arg12 : FVec F S1024 .f32) (main_arg13 : FVec F S1024 .f32) : IVec S12x120x120 1 :=
  let main_v0 : IVec S120 32 := iotaInDim S120 32 0
  let main_v1 : IVec S1x120 32 := broadcastInDim S1x120 ![1] bcast_S120_S1x120_1 main_v0
  let main_v2 : IVec S12x1 32 := broadcastInDim S12x1 ![0] bcast_S12_S12x1_0 main_arg5
  let main_v3 : IVec S12x120 32 := broadcastInDim S12x120 ![0, 1] bcast_S1x120_S12x120_0_1 main_v1
  let main_v4 : IVec S12x120 32 := broadcastInDim S12x120 ![0, 1] bcast_S12x1_S12x120_0_1 main_v2
  let main_v5 : IVec S12x120 1 := cmpi .slt main_v3 main_v4
  let main_v6 : IVec S12x120 1 := noti main_v5
  let main_c : IVec S_ 32 := constantI S_ 32 0#32
  let main_v7 : IVec S12x120 32 := broadcastInDim S12x120 ![] bcast_S_S12x120 main_c
  let main_v8 : IVec S12x120 1 := cmpi .sge main_arg4 main_v7
  let main_c_0 : IVec S_ 32 := constantI S_ 32 576#32
  let main_v9 : IVec S12x120 32 := broadcastInDim S12x120 ![] bcast_S_S12x120 main_c_0
  let main_v10 : IVec S12x120 1 := cmpi .slt main_arg4 main_v9
  let main_v11 : IVec S12x120 1 := andi main_v8 main_v10
  let main_v12 : IVec S12x120 1 := ori main_v6 main_v11
  let main_v13 : IVec S12x120x1 1 := broadcastInDim S12x120x1 ![0, 1] bcast_S12x120_S12x120x1_0_1 main_v5
  let main_v14 : IVec S12x1x120 1 := broadcastInDim S12x1x120 ![0, 2] bcast_S12x120_S12x1x120_0_2 main_v5
  let main_v15 : IVec S12x120x120 1 := broadcastInDim S12x120x120 ![0, 1, 2] bcast_S12x120x1_S12x120x120_0_1_2 main_v13
  let main_v16 : IVec S12x120x120 1 := broadcastInDim S12x120x120 ![0, 1, 2] bcast_S12x1x120_S12x120x120_0_1_2 main_v14
  let main_v17 : IVec S12x120x120 1 := andi main_v15 main_v16
  let main_v18 : IVec S120x1 32 := broadcastInDim S120x1 ![0] bcast_S120_S120x1_0 main_v0
  let main_v19 : IVec S1x120 32 := broadcastInDim S1x120 ![1] bcast_S120_S1x120_1 main_v0
  let main_v20 : IVec S120x120 32 := broadcastInDim S120x120 ![0, 1] bcast_S120x1_S120x120_0_1 main_v18
  let main_v21 : IVec S120x120 32 := broadcastInDim S120x120 ![0, 1] bcast_S1x120_S120x120_0_1 main_v19
  fn_part1 (F := F) main_arg4 main_arg5 main_v12 main_v17 main_v20 main_v21
-- ==== Kernel.lean ====
abbrev S12x576x1024 : Shape := ⟨3, ![12, 576, 1024]⟩
abbrev S12x1024 : Shape := ⟨2, ![12, 1024]⟩
abbrev S12x120 : Shape := ⟨2, ![12, 120]⟩
abbrev S12 : Shape := ⟨1, ![12]⟩
abbrev S12x576 : Shape := ⟨2, ![12, 576]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S12x120x1024 : Shape := ⟨3, ![12, 120, 1024]⟩
abbrev S12x120x4096 : Shape := ⟨3, ![12, 120, 4096]⟩
abbrev S1x576x1024 : Shape := ⟨3, ![1, 576, 1024]⟩
abbrev S1x120x1024 : Shape := ⟨3, ![1, 120, 1024]⟩
abbrev S1x120x4096 : Shape := ⟨3, ![1, 120, 4096]⟩
abbrev S128x4096 : Shape := ⟨2, ![128, 4096]⟩
abbrev S1 : Shape := ⟨1, ![1]⟩
abbrev S1x128 : Shape := ⟨2, ![1, 128]⟩
abbrev S1x120 : Shape := ⟨2, ![1, 120]⟩
abbrev S1x8 : Shape := ⟨2, ![1, 8]⟩
abbrev S128x128 : Shape := ⟨2, ![128, 128]⟩
abbrev S128x1 : Shape := ⟨2, ![128, 1]⟩
abbrev S128x576 : Shape := ⟨2, ![128, 576]⟩
abbrev S576x1024 : Shape := ⟨2, ![576, 1024]⟩
abbrev S128x1024 : Shape := ⟨2, ![128, 1024]⟩
abbrev S128 : Shape := ⟨1, ![128]⟩
abbrev S128x256 : Shape := ⟨2, ![128, 256]⟩
abbrev S120x1024 : Shape := ⟨2, ![120, 1024]⟩
abbrev S1024x512 : Shape := ⟨2, ![1024, 512]⟩
abbrev S128x512 : Shape := ⟨2, ![128, 512]⟩
abbrev S1x512 : Shape := ⟨2, ![1, 512]⟩
abbrev S120x4096 : Shape := ⟨2, ![120, 4096]⟩
abbrev S576x128 : Shape := ⟨2, ![576, 128]⟩
abbrev S576 : Shape := ⟨1, ![576]⟩
abbrev S576x1 : Shape := ⟨2, ![576, 1]⟩
abbrev S1x576 : Shape := ⟨2, ![1, 576]⟩
abbrev S1x64 : Shape := ⟨2, ![1, 64]⟩
abbrev S1x640 : Shape := ⟨2, ![1, 640]⟩
abbrev S128x640 : Shape := ⟨2, ![128, 640]⟩
abbrev S640x128 : Shape := ⟨2, ![640, 128]⟩
abbrev S640x1 : Shape := ⟨2, ![640, 1]⟩
abbrev S64x1 : Shape := ⟨2, ![64, 1]⟩

abbrev nBuf : Space → Nat
  | .hbm => 24
  | .vmem => 27
  | .smem => 1
  | _ => 0

abbrev bufTy : (tb : Table) → Fin (tcTables nBuf tb) → BufTy
  | .hbm, ⟨0, _⟩ => ⟨S12x576x1024, .bf16⟩
  | .hbm, ⟨1, _⟩ => ⟨S12x1024, .f32⟩
  | .hbm, ⟨2, _⟩ => ⟨S12x1024, .f32⟩
  | .hbm, ⟨3, _⟩ => ⟨S12x1024, .f32⟩
  | .hbm, ⟨4, _⟩ => ⟨S12x120, .i32⟩
  | .hbm, ⟨5, _⟩ => ⟨S12x576x1024, .fp8e4m3⟩
  | .hbm, ⟨6, _⟩ => ⟨S12x576, .f32⟩
  | .hbm, ⟨7, _⟩ => ⟨S1024x4096, .fp8e4m3⟩
  | .hbm, ⟨8, _⟩ => ⟨S4096, .f32⟩
  | .hbm, ⟨9, _⟩ => ⟨S4096, .f32⟩
  | .hbm, ⟨10, _⟩ => ⟨S4096x1024, .fp8e4m3⟩
  | .hbm, ⟨11, _⟩ => ⟨S1024, .f32⟩
  | .hbm, ⟨12, _⟩ => ⟨S1024, .f32⟩
  | .hbm, ⟨13, _⟩ => ⟨S1x4096, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S12x576x1024, .bf16⟩
  | .hbm, ⟨18, _⟩ => ⟨S12x120x1024, .fp8e4m3⟩
  | .hbm, ⟨19, _⟩ => ⟨S12x120, .f32⟩
  | .hbm, ⟨20, _⟩ => ⟨S12x120x4096, .fp8e4m3⟩
  | .hbm, ⟨21, _⟩ => ⟨S12x120, .f32⟩
  | .hbm, ⟨22, _⟩ => ⟨S12x576x1024, .fp8e4m3⟩
  | .hbm, ⟨23, _⟩ => ⟨S12x576, .f32⟩
  | .local _ .vmem, ⟨0, _⟩ => ⟨S1x576x1024, .bf16⟩
  | .local _ .vmem, ⟨1, _⟩ => ⟨S1x576x1024, .bf16⟩
  | .local _ .vmem, ⟨2, _⟩ => ⟨S12x1024, .f32⟩
  | .local _ .vmem, ⟨3, _⟩ => ⟨S12x1024, .f32⟩
  | .local _ .vmem, ⟨4, _⟩ => ⟨S12x1024, .f32⟩
  | .local _ .vmem, ⟨5, _⟩ => ⟨S12x120, .i32⟩
  | .local _ .vmem, ⟨6, _⟩ => ⟨S1x576x1024, .fp8e4m3⟩
  | .local _ .vmem, ⟨7, _⟩ => ⟨S1x576x1024, .fp8e4m3⟩
  | .local _ .vmem, ⟨8, _⟩ => ⟨S12x576, .f32⟩
  | .local _ .vmem, ⟨9, _⟩ => ⟨S1024x4096, .fp8e4m3⟩
  | .local _ .vmem, ⟨10, _⟩ => ⟨S1x4096, .f32⟩
  | .local _ .vmem, ⟨11, _⟩ => ⟨S1x4096, .f32⟩
  | .local _ .vmem, ⟨12, _⟩ => ⟨S4096x1024, .fp8e4m3⟩
  | .local _ .vmem, ⟨13, _⟩ => ⟨S1x1024, .f32⟩
  | .local _ .vmem, ⟨14, _⟩ => ⟨S1x1024, .f32⟩
  | .local _ .vmem, ⟨15, _⟩ => ⟨S1x576x1024, .bf16⟩
  | .local _ .vmem, ⟨16, _⟩ => ⟨S1x576x1024, .bf16⟩
  | .local _ .vmem, ⟨17, _⟩ => ⟨S1x120x1024, .fp8e4m3⟩
  | .local _ .vmem, ⟨18, _⟩ => ⟨S1x120x1024, .fp8e4m3⟩
  | .local _ .vmem, ⟨19, _⟩ => ⟨S12x120, .f32⟩
  | .local _ .vmem, ⟨20, _⟩ => ⟨S1x120x4096, .fp8e4m3⟩
  | .local _ .vmem, ⟨21, _⟩ => ⟨S1x120x4096, .fp8e4m3⟩
  | .local _ .vmem, ⟨22, _⟩ => ⟨S12x120, .f32⟩
  | .local _ .vmem, ⟨23, _⟩ => ⟨S1x576x1024, .fp8e4m3⟩
  | .local _ .vmem, ⟨24, _⟩ => ⟨S1x576x1024, .fp8e4m3⟩
  | .local _ .vmem, ⟨25, _⟩ => ⟨S12x576, .f32⟩
  | .local _ .vmem, ⟨26, _⟩ => ⟨S128x4096, .f32⟩
  | .local _ .smem, ⟨0, _⟩ => ⟨S12, .i32⟩
  | _, _ => ⟨S12x576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem18_0 : DmaSem sig := 23
abbrev cc0_sem18_1 : DmaSem sig := 24
abbrev cc0_sem19_0 : DmaSem sig := 25

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v5 : Index := Scalar.indexCast arg0
  let c0 : Index := 0#32
  ![v5.toNat, 0]
def k0_off3 (i : grid0.Coords) : Fin 2 → Nat :=
  let arg0 : BitVec 32 := BitVec.ofNat 32 (i 0).val
  let v43 : Index := Scalar.indexCast arg0
  let c0_11 : Index := 0#32
  ![v43.toNat, 0]
def k0_off4 (i : grid0.Coords) : Fin 2 → Nat :=
  let arg0 : BitVec 32 := BitVec.ofNat 32 (i 0).val
  let v573 : Index := Scalar.indexCast arg0
  let c0_189 : Index := 0#32
  ![v573.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x576x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x120 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x576x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S12x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x576x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x120x1024 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S12x120 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x120x4096 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S12x120 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x576x1024 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S12x576 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S12x576x1024 : Shape := ⟨3, ![12, 576, 1024]⟩
abbrev S12x1024 : Shape := ⟨2, ![12, 1024]⟩
abbrev S12x120 : Shape := ⟨2, ![12, 120]⟩
abbrev S12 : Shape := ⟨1, ![12]⟩
abbrev S12x576 : Shape := ⟨2, ![12, 576]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S12x1 : Shape := ⟨2, ![12, 1]⟩
abbrev S120 : Shape := ⟨1, ![120]⟩
abbrev S1x120 : Shape := ⟨2, ![1, 120]⟩
abbrev S_ : Shape := ⟨0, ![]⟩
abbrev S12x120x1 : Shape := ⟨3, ![12, 120, 1]⟩
abbrev S12x120x2 : Shape := ⟨3, ![12, 120, 2]⟩
abbrev S12x120x1024 : Shape := ⟨3, ![12, 120, 1024]⟩
abbrev S1440x1024 : Shape := ⟨2, ![1440, 1024]⟩
abbrev S12x1x1024 : Shape := ⟨3, ![12, 1, 1024]⟩
abbrev S1440x1 : Shape := ⟨2, ![1440, 1]⟩
abbrev S1x4096 : Shape := ⟨2, ![1, 4096]⟩
abbrev S1x1024 : Shape := ⟨2, ![1, 1024]⟩
abbrev S6912x1024 : Shape := ⟨2, ![6912, 1024]⟩
abbrev S1440x4096 : Shape := ⟨2, ![1440, 4096]⟩
abbrev S1440 : Shape := ⟨1, ![1440]⟩
abbrev S12x576x1 : Shape := ⟨3, ![12, 576, 1]⟩
abbrev S12x120x4096 : Shape := ⟨3, ![12, 120, 4096]⟩

abbrev nBuf : Space → Nat
  | .hbm => 121
  | .vmem => 18
  | .smem => 0
  | _ => 0

abbrev bufTy : (tb : Table) → Fin (tcTables nBuf tb) → BufTy
  | .hbm, ⟨0, _⟩ => ⟨S12x576x1024, .bf16⟩
  | .hbm, ⟨1, _⟩ => ⟨S12x1024, .f32⟩
  | .hbm, ⟨2, _⟩ => ⟨S12x1024, .f32⟩
  | .hbm, ⟨3, _⟩ => ⟨S12x1024, .f32⟩
  | .hbm, ⟨4, _⟩ => ⟨S12x120, .i32⟩
  | .hbm, ⟨5, _⟩ => ⟨S12, .i32⟩
  | .hbm, ⟨6, _⟩ => ⟨S12x576x1024, .fp8e4m3⟩
  | .hbm, ⟨7, _⟩ => ⟨S12x576, .f32⟩
  | .hbm, ⟨8, _⟩ => ⟨S1024x4096, .fp8e4m3⟩
  | .hbm, ⟨9, _⟩ => ⟨S4096, .f32⟩
  | .hbm, ⟨10, _⟩ => ⟨S4096, .f32⟩
  | .hbm, ⟨11, _⟩ => ⟨S4096x1024, .fp8e4m3⟩
  | .hbm, ⟨12, _⟩ => ⟨S1024, .f32⟩
  | .hbm, ⟨13, _⟩ => ⟨S1024, .f32⟩
  | .hbm, ⟨14, _⟩ => ⟨S12, .i32⟩
  | .hbm, ⟨15, _⟩ => ⟨S12x1, .i32⟩
  | .hbm, ⟨16, _⟩ => ⟨S120, .i32⟩
  | .hbm, ⟨17, _⟩ => ⟨S1x120, .i32⟩
  | .hbm, ⟨18, _⟩ => ⟨S12x1, .i32⟩
  | .hbm, ⟨19, _⟩ => ⟨S12x120, .i32⟩
  | .hbm, ⟨20, _⟩ => ⟨S12x120, .i32⟩
  | .hbm, ⟨21, _⟩ => ⟨S12x120, .i1⟩
  | .hbm, ⟨22, _⟩ => ⟨S_, .i32⟩
  | .hbm, ⟨23, _⟩ => ⟨S12x1, .i32⟩
  | .hbm, ⟨24, _⟩ => ⟨S12x1, .i1⟩
  | .hbm, ⟨25, _⟩ => ⟨S_, .i32⟩
  | .hbm, ⟨26, _⟩ => ⟨S12x1, .i32⟩
  | .hbm, ⟨27, _⟩ => ⟨S12x1, .i32⟩
  | .hbm, ⟨28, _⟩ => ⟨S12x1, .i32⟩
  | .hbm, ⟨29, _⟩ => ⟨S_, .i32⟩
  | .hbm, ⟨30, _⟩ => ⟨S12x120, .i32⟩
  | .hbm, ⟨31, _⟩ => ⟨S12x120, .i1⟩
  | .hbm, ⟨32, _⟩ => ⟨S_, .i32⟩
  | .hbm, ⟨33, _⟩ => ⟨S12x120, .i32⟩
  | .hbm, ⟨34, _⟩ => ⟨S12x120, .i32⟩
  | .hbm, ⟨35, _⟩ => ⟨S12x120, .i32⟩
  | .hbm, ⟨36, _⟩ => ⟨S12x120, .i32⟩
  | .hbm, ⟨37, _⟩ => ⟨S12x120x1, .i32⟩
  | .hbm, ⟨38, _⟩ => ⟨S12x120x1, .i32⟩
  | .hbm, ⟨39, _⟩ => ⟨S12x120x2, .i32⟩
  | .hbm, ⟨40, _⟩ => ⟨S12x120x1024, .bf16⟩
  | .hbm, ⟨41, _⟩ => ⟨S1440x1024, .bf16⟩
  | .hbm, ⟨42, _⟩ => ⟨S12x1x1024, .f32⟩
  | .hbm, ⟨43, _⟩ => ⟨S12x120x1024, .f32⟩
  | .hbm, ⟨44, _⟩ => ⟨S1440x1024, .f32⟩
  | .hbm, ⟨45, _⟩ => ⟨S12x1x1024, .f32⟩
  | .hbm, ⟨46, _⟩ => ⟨S12x120x1024, .f32⟩
  | .hbm, ⟨47, _⟩ => ⟨S1440x1024, .f32⟩
  | .hbm, ⟨48, _⟩ => ⟨S12x120, .i32⟩
  | .hbm, ⟨49, _⟩ => ⟨S1440x1, .i32⟩
  | .hbm, ⟨50, _⟩ => ⟨S1x4096, .f32⟩
  | .hbm, ⟨51, _⟩ => ⟨S1x4096, .f32⟩
  | .hbm, ⟨52, _⟩ => ⟨S1x1024, .f32⟩
  | .hbm, ⟨53, _⟩ => ⟨S1x1024, .f32⟩
  | .hbm, ⟨54, _⟩ => ⟨S6912x1024, .fp8e4m3⟩
  | .hbm, ⟨55, _⟩ => ⟨S1440x1024, .fp8e4m3⟩
  | .hbm, ⟨56, _⟩ => ⟨S1440x1, .f32⟩
  | .hbm, ⟨57, _⟩ => ⟨S1440x4096, .fp8e4m3⟩
  | .hbm, ⟨58, _⟩ => ⟨S1440x1, .f32⟩
  | .hbm, ⟨59, _⟩ => ⟨S1440x1024, .f32⟩
  | .hbm, ⟨60, _⟩ => ⟨S1440x1, .f32⟩
  | .hbm, ⟨61, _⟩ => ⟨S6912x1024, .f32⟩
  | .hbm, ⟨62, _⟩ => ⟨S_, .i32⟩
  | .hbm, ⟨63, _⟩ => ⟨S_, .i32⟩
  | .hbm, ⟨64, _⟩ => ⟨S12x120, .i32⟩
  | .hbm, ⟨65, _⟩ => ⟨S12x120, .i32⟩
  | .hbm, ⟨66, _⟩ => ⟨S12x576x1024, .f32⟩
  | .hbm, ⟨67, _⟩ => ⟨S12x120x1024, .f32⟩
  | .hbm, ⟨68, _⟩ => ⟨S_, .i32⟩
  | .hbm, ⟨69, _⟩ => ⟨S12x1, .i32⟩
  | .hbm, ⟨70, _⟩ => ⟨S12x1, .i1⟩
  | .hbm, ⟨71, _⟩ => ⟨S_, .i32⟩
  | .hbm, ⟨72, _⟩ => ⟨S12x1, .i32⟩
  | .hbm, ⟨73, _⟩ => ⟨S12x1, .i32⟩
  | .hbm, ⟨74, _⟩ => ⟨S12x1, .i32⟩
  | .hbm, ⟨75, _⟩ => ⟨S_, .i32⟩
  | .hbm, ⟨76, _⟩ => ⟨S12x120, .i32⟩
  | .hbm, ⟨77, _⟩ => ⟨S12x120, .i1⟩
  | .hbm, ⟨78, _⟩ => ⟨S_, .i32⟩
  | .hbm, ⟨79, _⟩ => ⟨S12x120, .i32⟩
  | .hbm, ⟨80, _⟩ => ⟨S12x120, .i32⟩
  | .hbm, ⟨81, _⟩ => ⟨S12x120, .i32⟩
  | .hbm, ⟨82, _⟩ => ⟨S12x120, .i32⟩
  | .hbm, ⟨83, _⟩ => ⟨S12x120x1, .i32⟩
  | .hbm, ⟨84, _⟩ => ⟨S12x120x1, .i32⟩
  | .hbm, ⟨85, _⟩ => ⟨S12x120x2, .i32⟩
  | .hbm, ⟨86, _⟩ => ⟨S12x576x1024, .f32⟩
  | .hbm, ⟨87, _⟩ => ⟨S12x120, .f32⟩
  | .hbm, ⟨88, _⟩ => ⟨S_, .i32⟩
  | .hbm, ⟨89, _⟩ => ⟨S12x1, .i32⟩
  | .hbm, ⟨90, _⟩ => ⟨S12x1, .i1⟩
  | .hbm, ⟨91, _⟩ => ⟨S_, .i32⟩
  | .hbm, ⟨92, _⟩ => ⟨S12x1, .i32⟩
  | .hbm, ⟨93, _⟩ => ⟨S12x1, .i32⟩
  | .hbm, ⟨94, _⟩ => ⟨S12x1, .i32⟩
  | .hbm, ⟨95, _⟩ => ⟨S_, .i32⟩
  | .hbm, ⟨96, _⟩ => ⟨S12x120, .i32⟩
  | .hbm, ⟨97, _⟩ => ⟨S12x120, .i1⟩
  | .hbm, ⟨98, _⟩ => ⟨S_, .i32⟩
  | .hbm, ⟨99, _⟩ => ⟨S12x120, .i32⟩
  | .hbm, ⟨100, _⟩ => ⟨S12x120, .i32⟩
  | .hbm, ⟨101, _⟩ => ⟨S12x120, .i32⟩
  | .hbm, ⟨102, _⟩ => ⟨S12x120, .i32⟩
  | .hbm, ⟨103, _⟩ => ⟨S12x120x1, .i32⟩
  | .hbm, ⟨104, _⟩ => ⟨S12x120x1, .i32⟩
  | .hbm, ⟨105, _⟩ => ⟨S12x120x2, .i32⟩
  | .hbm, ⟨106, _⟩ => ⟨S12x576, .f32⟩
  | .hbm, ⟨107, _⟩ => ⟨S12x576x1024, .f32⟩
  | .hbm, ⟨108, _⟩ => ⟨S12x1x1024, .f32⟩
  | .hbm, ⟨109, _⟩ => ⟨S12x576x1, .f32⟩
  | .hbm, ⟨110, _⟩ => ⟨S12x576x1024, .f32⟩
  | .hbm, ⟨111, _⟩ => ⟨S12x576x1024, .f32⟩
  | .hbm, ⟨112, _⟩ => ⟨S12x576x1024, .f32⟩
  | .hbm, ⟨113, _⟩ => ⟨S12x576x1024, .f32⟩
  | .hbm, ⟨114, _⟩ => ⟨S12x576x1024, .f32⟩
  | .hbm, ⟨115, _⟩ => ⟨S12x576x1024, .bf16⟩
  | .hbm, ⟨116, _⟩ => ⟨S12x120x1024, .fp8e4m3⟩
  | .hbm, ⟨117, _⟩ => ⟨S12x120, .f32⟩
  | .hbm, ⟨118, _⟩ => ⟨S12x120x4096, .fp8e4m3⟩
  | .hbm, ⟨119, _⟩ => ⟨S12x120, .f32⟩
  | .hbm, ⟨120, _⟩ => ⟨S12x576x1024, .fp8e4m3⟩
  | .local _ .vmem, ⟨0, _⟩ => ⟨S1440x1024, .bf16⟩
  | .local _ .vmem, ⟨1, _⟩ => ⟨S1440x1024, .f32⟩
  | .local _ .vmem, ⟨2, _⟩ => ⟨S1440x1024, .f32⟩
  | .local _ .vmem, ⟨3, _⟩ => ⟨S1440x1, .i32⟩
  | .local _ .vmem, ⟨4, _⟩ => ⟨S1024x4096, .fp8e4m3⟩
  | .local _ .vmem, ⟨5, _⟩ => ⟨S1x4096, .f32⟩
  | .local _ .vmem, ⟨6, _⟩ => ⟨S1x4096, .f32⟩
  | .local _ .vmem, ⟨7, _⟩ => ⟨S4096x1024, .fp8e4m3⟩
  | .local _ .vmem, ⟨8, _⟩ => ⟨S1x1024, .f32⟩
  | .local _ .vmem, ⟨9, _⟩ => ⟨S1x1024, .f32⟩
  | .local _ .vmem, ⟨10, _⟩ => ⟨S6912x1024, .fp8e4m3⟩
  | .local _ .vmem, ⟨11, _⟩ => ⟨S1440x1024, .fp8e4m3⟩
  | .local _ .vmem, ⟨12, _⟩ => ⟨S1440x1, .f32⟩
  | .local _ .vmem, ⟨13, _⟩ => ⟨S1440x4096, .fp8e4m3⟩
  | .local _ .vmem, ⟨14, _⟩ => ⟨S1440x1, .f32⟩
  | .local _ .vmem, ⟨15, _⟩ => ⟨S1440x1024, .f32⟩
  | .local _ .vmem, ⟨16, _⟩ => ⟨S1440x1, .f32⟩
  | .local _ .vmem, ⟨17, _⟩ => ⟨S6912x1024, .f32⟩
  | _, _ => ⟨S12x576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v37_3 : Ref sig .tc := ⟨.hbm, 58, rfl⟩
abbrev main_v37_4 : Ref sig .tc := ⟨.hbm, 59, rfl⟩
abbrev main_v37_5 : Ref sig .tc := ⟨.hbm, 60, rfl⟩
abbrev main_v37_6 : Ref sig .tc := ⟨.hbm, 61, rfl⟩
abbrev main_c_3 : Ref sig .tc := ⟨.hbm, 62, rfl⟩
abbrev main_call0_v0 : Ref sig .tc := ⟨.hbm, 63, rfl⟩
abbrev main_call0_v1 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_4 : Ref sig .tc := ⟨.hbm, 68, rfl⟩
abbrev main_v41 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_6 : Ref sig .tc := ⟨.hbm, 75, rfl⟩
abbrev main_v46 : Ref sig .tc := ⟨.hbm, 76, rfl⟩
abbrev main_v47 : Ref sig .tc := ⟨.hbm, 77, rfl⟩
abbrev main_c_7 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_8 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_10 : Ref sig .tc := ⟨.hbm, 95, rfl⟩
abbrev main_v62 : Ref sig .tc := ⟨.hbm, 96, rfl⟩
abbrev main_v63 : Ref sig .tc := ⟨.hbm, 97, rfl⟩
abbrev main_c_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S1440x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1440x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1440x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1440x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6912x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1440x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1440x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1440x4096 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1440x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1440x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1440x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6912x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.BitsPoints.lean ====
/- When the pipeline of the kernel at its own floats fetches and writes back each window. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at the first point only, at any contents of the tables (its index map reads none). -/
theorem fetch0_1 (a : (pcfg0 (F := F)).Adm) : ∀ t : Fin (cfg0 a).N, ((cfg0 a).win 1).fetch t = true ↔ t.val % 12 = 0 :=
  (fun t => Pipeline.Window.fetchOf_const cc0_transform_1 (fun _ _ => rfl) (n := 12) (by decide) t : ∀ t : Fin grid0.N, Pipeline.Window.fetchOf grid0 false cc0_transform_1 t = true ↔ t.val % 12 = 0)
/-- Window 2 (operand 3 (%arg2)) is fetched at the first point only, at any contents of the tables (its index map reads none). -/
theorem fetch0_2 (a : (pcfg0 (F := F)).Adm) : ∀ t : Fin (cfg0 a).N, ((cfg0 a).win 2).fetch t = true ↔ t.val % 12 = 0 :=
  (fun t => Pipeline.Window.fetchOf_const cc0_transform_2 (fun _ _ => rfl) (n := 12) (by decide) t : ∀ t : Fin grid0.N, Pipeline.Window.fetchOf grid0 false cc0_transform_2 t = true ↔ t.val % 12 = 0)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 12 = 0 :=
  (fun t => Pipeline.Window.fetchOf_const cc0_transform_3 (fun _ _ => rfl) (n := 12) (by decide) t : ∀ t : Fin grid0.N, Pipeline.Window.fetchOf grid0 false cc0_transform_3 t = true ↔ t.val % 12 = 0)
/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 12 = 0 :=
  (fun t => Pipeline.Window.fetchOf_const cc0_transform_4 (fun _ _ => rfl) (n := 12) (by decide) t : ∀ t : Fin grid0.N, Pipeline.Window.fetchOf grid0 false cc0_transform_4 t = true ↔ t.val % 12 = 0)
/-- Window 5 (operand 6 (%arg6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (operand 7 (%arg7)) is fetched at the first point only, at any contents of the tables (its index map reads none). -/
theorem fetch0_6 (a : (pcfg0 (F := F)).Adm) : ∀ t : Fin (cfg0 a).N, ((cfg0 a).win 6).fetch t = true ↔ t.val % 12 = 0 :=
  (fun t => Pipeline.Window.fetchOf_const cc0_transform_6 (fun _ _ => rfl) (n := 12) (by decide) t : ∀ t : Fin grid0.N, Pipeline.Window.fetchOf grid0 false cc0_transform_6 t = true ↔ t.val % 12 = 0)
/-- Window 7 (operand 8 (%arg8)) is fetched at the first point only, at any contents of the tables (its index map reads none). -/
theorem fetch0_7 (a : (pcfg0 (F := F)).Adm) : ∀ t : Fin (cfg0 a).N, ((cfg0 a).win 7).fetch t = true ↔ t.val % 12 = 0 :=
  (fun t => Pipeline.Window.fetchOf_const cc0_transform_7 (fun _ _ => rfl) (n := 12) (by decide) t : ∀ t : Fin grid0.N, Pipeline.Window.fetchOf grid0 false cc0_transform_7 t = true ↔ t.val % 12 = 0)
/-- Window 8 (operand 9 (%0)) is fetched at the first point only, at any contents of the tables (its index map reads none). -/
theorem fetch0_8 (a : (pcfg0 (F := F)).Adm) : ∀ t : Fin (cfg0 a).N, ((cfg0 a).win 8).fetch t = true ↔ t.val % 12 = 0 :=
  (fun t => Pipeline.Window.fetchOf_const cc0_transform_8 (fun _ _ => rfl) (n := 12) (by decide) t : ∀ t : Fin grid0.N, Pipeline.Window.fetchOf grid0 false cc0_transform_8 t = true ↔ t.val % 12 = 0)
/-- Window 9 (operand 10 (%1)) is fetched at the first point only, at any contents of the tables (its index map reads none). -/
theorem fetch0_9 (a : (pcfg0 (F := F)).Adm) : ∀ t : Fin (cfg0 a).N, ((cfg0 a).win 9).fetch t = true ↔ t.val % 12 = 0 :=
  (fun t => Pipeline.Window.fetchOf_const cc0_transform_9 (fun _ _ => rfl) (n := 12) (by decide) t : ∀ t : Fin grid0.N, Pipeline.Window.fetchOf grid0 false cc0_transform_9 t = true ↔ t.val % 12 = 0)
/-- Window 10 (operand 11 (%arg11)) is fetched at the first point only, at any contents of the tables (its index map reads none). -/
theorem fetch0_10 (a : (pcfg0 (F := F)).Adm) : ∀ t : Fin (cfg0 a).N, ((cfg0 a).win 10).fetch t = true ↔ t.val % 12 = 0 :=
  (fun t => Pipeline.Window.fetchOf_const cc0_transform_10 (fun _ _ => rfl) (n := 12) (by decide) t : ∀ t : Fin grid0.N, Pipeline.Window.fetchOf grid0 false cc0_transform_10 t = true ↔ t.val % 12 = 0)
/-- Window 11 (operand 12 (%2)) is fetched at the first point only, at any contents of the tables (its index map reads none). -/
theorem fetch0_11 (a : (pcfg0 (F := F)).Adm) : ∀ t : Fin (cfg0 a).N, ((cfg0 a).win 11).fetch t = true ↔ t.val % 12 = 0 :=
  (fun t => Pipeline.Window.fetchOf_const cc0_transform_11 (fun _ _ => rfl) (n := 12) (by decide) t : ∀ t : Fin grid0.N, Pipeline.Window.fetchOf grid0 false cc0_transform_11 t = true ↔ t.val % 12 = 0)
/-- Window 12 (operand 13 (%3)) is fetched at the first point only, at any contents of the tables (its index map reads none). -/
theorem fetch0_12 (a : (pcfg0 (F := F)).Adm) : ∀ t : Fin (cfg0 a).N, ((cfg0 a).win 12).fetch t = true ↔ t.val % 12 = 0 :=
  (fun t => Pipeline.Window.fetchOf_const cc0_transform_12 (fun _ _ => rfl) (n := 12) (by decide) t : ∀ t : Fin grid0.N, Pipeline.Window.fetchOf grid0 false cc0_transform_12 t = true ↔ t.val % 12 = 0)
/-- Window 13 (result 0 (%4#0)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 0 (by decide) (by decide) (Pipeline.Window.sep_of_coord cc0_transform_13 0 0 (fun _ => rfl) (by decide)) (P := 1) (m := 0) (by decide) rfl t).mpr (Nat.mod_one _) : ∀ t : Fin grid0.N, Pipeline.Window.flushOf grid0 true cc0_transform_13 t = true)
/-- Window 14 (result 1 (%4#1)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 0 (by decide) (by decide) (Pipeline.Window.sep_of_coord cc0_transform_14 0 0 (fun _ => rfl) (by decide)) (P := 1) (m := 0) (by decide) rfl t).mpr (Nat.mod_one _) : ∀ t : Fin grid0.N, Pipeline.Window.flushOf grid0 true cc0_transform_14 t = true)
/-- Window 15 (result 2 (%4#2)) is written back at the last point only, at any contents of the tables (its index map reads none). -/
theorem flush0_15 (a : (pcfg0 (F := F)).Adm) : ∀ t : Fin (cfg0 a).N, ((cfg0 a).win 15).flush t = true ↔ t.val % 12 = 11 :=
  (fun t => Pipeline.Window.flushOf_const cc0_transform_15 (fun _ _ => rfl) (n := 12) (by decide) rfl t : ∀ t : Fin grid0.N, Pipeline.Window.flushOf grid0 true cc0_transform_15 t = true ↔ t.val % 12 = 11)
/-- Window 16 (result 3 (%4#3)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 0 (by decide) (by decide) (Pipeline.Window.sep_of_coord cc0_transform_16 0 0 (fun _ => rfl) (by decide)) (P := 1) (m := 0) (by decide) rfl t).mpr (Nat.mod_one _) : ∀ t : Fin grid0.N, Pipeline.Window.flushOf grid0 true cc0_transform_16 t = true)
/-- Window 17 (result 4 (%4#4)) is written back at the last point only, at any contents of the tables (its index map reads none). -/
theorem flush0_17 (a : (pcfg0 (F := F)).Adm) : ∀ t : Fin (cfg0 a).N, ((cfg0 a).win 17).flush t = true ↔ t.val % 12 = 11 :=
  (fun t => Pipeline.Window.flushOf_const cc0_transform_17 (fun _ _ => rfl) (n := 12) (by decide) rfl t : ∀ t : Fin grid0.N, Pipeline.Window.flushOf grid0 true cc0_transform_17 t = true ↔ t.val % 12 = 11)
/-- Window 18 (result 5 (%4#5)) is written back at every point, at any contents of the tables (its index map reads none). -/
theorem flush0_18 (a : (pcfg0 (F := F)).Adm) : ∀ t : Fin (cfg0 a).N, ((cfg0 a).win 18).flush t = true :=
  (fun t => (Pipeline.Window.flushOf_reads cc0_transform_18 reads0_18 hreads0_18 0 (by decide) (by decide) (Pipeline.Window.sep_of_coord cc0_transform_18 0 0 (fun _ => rfl) (by decide)) (P := 1) (m := 0) (by decide) rfl t).mpr (Nat.mod_one _) : ∀ t : Fin grid0.N, Pipeline.Window.flushOf grid0 true cc0_transform_18 t = true)
/-- Window 19 (result 6 (%4#6)) is written back at the last point only, at any contents of the tables (its index map reads none). -/
theorem flush0_19 (a : (pcfg0 (F := F)).Adm) : ∀ t : Fin (cfg0 a).N, ((cfg0 a).win 19).flush t = true ↔ t.val % 12 = 11 :=
  (fun t => Pipeline.Window.flushOf_const cc0_transform_19 (fun _ _ => rfl) (n := 12) (by decide) rfl t : ∀ t : Fin grid0.N, Pipeline.Window.flushOf grid0 true cc0_transform_19 t = true ↔ t.val % 12 = 11)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)
abbrev st0_19 (a : (pcfg0 (F := F)).Adm) (t : Fin (cfg0 a).N) := ((cfg0 a).win 19).stage ((cfg0 a).slots t 19)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_toca_refresh (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (Memref.whole cc0_scratch0) (Memref.isWhole_whole _)

end Cert.Kernel.Gen

end
-- ==== Proof.BitsRuns.lean ====
/- What the run of the kernel at its own floats is stated over. -/
module

public import proofs.«01_k».proof.Proof.Gen.Kernel.Launch
public import proofs.«01_k».proof.Proof.Gen.Kernel.Skeleton
public import proofs.«01_k».proof.Proof.BitsPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (by decide : main_arg5 ∈ Pipeline.restRefs sig spec0)).trans (V_main_arg5 m c),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      (Pipeline.RDat.FramePost.arr_in h c 10 rfl).trans ((hA c 10).trans (V_main_arg11 m c)),
      ((h c).2 main_arg12 (by decide : main_arg12 ∈ Pipeline.restRefs sig spec0)).trans (V_main_arg12 m c),
      ((h c).2 main_arg13 (by decide : main_arg13 ∈ Pipeline.restRefs sig spec0)).trans (V_main_arg13 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x576x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S12x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S12x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S12x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S12x120 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x576x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S12x576 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x4096 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4096 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4096 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S4096x1024 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x576x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x120x1024 .fp8e4m3 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S12x120 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x120x4096 .fp8e4m3 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S12x120 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x576x1024 .fp8e4m3 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S12x576 .f32 := spec0_19.stage ((cfgM m hO).slots t 19)
abbrev hs0_19 (hO : Ok m) (t : Fin (cfgM m hO).N) : (ms0_19 m hO t).IsWhole := hstage0_19 (((cfgM m hO).slots t 19).cast nbuf0_19)
/-- The scratch operands: whole scoped buffers of the kernel's own, passed beside the windows. -/
abbrev scM0_0 : Memref sig .tc .vmem S128x4096 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.BitsRunA.lean ====
/- The body of the kernel at its own floats runs to its end, its outputs left at some contents. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (13, 14, 15, 16, 17, 18, 19) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x576x1024 .bf16) (harg2 : arg2.IsWhole) (arg3 : Memref sig .tc .vmem S12x1024 .f32) (harg3 : arg3.IsWhole) (arg4 : Memref sig .tc .vmem S12x1024 .f32) (harg4 : arg4.IsWhole) (arg5 : Memref sig .tc .vmem S12x1024 .f32) (harg5 : arg5.IsWhole) (arg6 : Memref sig .tc .vmem S12x120 .i32) (harg6 : arg6.IsWhole) (arg7 : Memref sig .tc .vmem S1x576x1024 .fp8e4m3) (harg7 : arg7.IsWhole) (arg8 : Memref sig .tc .vmem S12x576 .f32) (harg8 : arg8.IsWhole) (arg9 : Memref sig .tc .vmem S1024x4096 .fp8e4m3) (harg9 : arg9.IsWhole) (arg10 : Memref sig .tc .vmem S1x4096 .f32) (harg10 : arg10.IsWhole) (arg11 : Memref sig .tc .vmem S1x4096 .f32) (harg11 : arg11.IsWhole) (arg12 : Memref sig .tc .vmem S4096x1024 .fp8e4m3) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x576x1024 .bf16) (harg15 : arg15.IsWhole) (arg16 : Memref sig .tc .vmem S1x120x1024 .fp8e4m3) (harg16 : arg16.IsWhole) (arg17 : Memref sig .tc .vmem S12x120 .f32) (harg17 : arg17.IsWhole) (arg18 : Memref sig .tc .vmem S1x120x4096 .fp8e4m3) (harg18 : arg18.IsWhole) (arg19 : Memref sig .tc .vmem S12x120 .f32) (harg19 : arg19.IsWhole) (arg20 : Memref sig .tc .vmem S1x576x1024 .fp8e4m3) (harg20 : arg20.IsWhole) (arg21 : Memref sig .tc .vmem S12x576 .f32) (harg21 : arg21.IsWhole) (arg22 : Memref sig .tc .vmem S128x4096 .f32) (harg22 : arg22.IsWhole)
    (x0 : Vec F S1x576x1024 .bf16) (x1 : Vec F S12x1024 .f32) (x2 : Vec F S12x1024 .f32) (x3 : Vec F S12x1024 .f32) (x4 : Vec F S12x120 .i32) (x5 : Vec F S1x576x1024 .fp8e4m3) (x6 : Vec F S12x576 .f32) (x7 : Vec F S1024x4096 .fp8e4m3) (x8 : Vec F S1x4096 .f32) (x9 : Vec F S1x4096 .f32) (x10 : Vec F S4096x1024 .fp8e4m3) (x11 : Vec F S1x1024 .f32) (x12 : Vec F S1x1024 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_toca_refresh i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_toca_refresh_eq_skeleton]; unfold cc0_toca_refresh_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    iexact HT0

end Cert.Kernel.Gen

end
-- ==== Proof.BitsFrame.lean ====
/- The frame of the kernel at its own floats: it ends, its arguments unchanged, nothing said of its outputs. -/
module

public import proofs.«01_k».proof.Proof.BitsRunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (13, 14, 15, 16, 17, 18, 19): nothing reads what the kernel leaves in them, so nothing
    of it is named (Lib/Pipeline/Dat.lean `Dat.toRForget`). -/
def forgets0 : Fin 20 → Bool := fun w => w.val == 13 || w.val == 14 || w.val == 15 || w.val == 16 || w.val == 17 || w.val == 18 || w.val == 19

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨18, h⟩ => Pipeline.Dat.unnamed (cfg := (cfgM m hO)) ⟨18, h⟩ t
    | ⟨19, h⟩ => Pipeline.Dat.unnamed (cfg := (cfgM m hO)) ⟨19, h⟩ t
    | ⟨_ + 20, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d)
    ∗ (∃ d, owns (c : Thread nD τ) (ms0_19 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HT0]; · iexact HT0
  iintro ⟨H0, H1, H2, H3, H4, H5, H6, H7, H8, H9, H10, H11, H12, H13, H14, H15, H16, H17, H18, H19, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 13, 14, 15, 16, 17, 18, 19) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => (dats m hO 0 c).toRForget forgets0) (A_eq m hO) (run_main m ρ hO)

/-- The frame: the argument arrays end unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.Kernel.Gen

end
-- ==== Proof.KernelPoints.lean ====
/- When the pipeline of the kernel fetches and writes back each window, and the staging buffers at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at the first point only, at any contents of the tables (its index map reads none). -/
theorem fetch0_1 (a : (pcfg0 (F := F)).Adm) : ∀ t : Fin (cfg0 a).N, ((cfg0 a).win 1).fetch t = true ↔ t.val % 12 = 0 :=
  (fun t => Pipeline.Window.fetchOf_const cc0_transform_1 (fun _ _ => rfl) (n := 12) (by decide) t : ∀ t : Fin grid0.N, Pipeline.Window.fetchOf grid0 false cc0_transform_1 t = true ↔ t.val % 12 = 0)
/-- Window 2 (operand 3 (%arg2)) is fetched at the first point only, at any contents of the tables (its index map reads none). -/
theorem fetch0_2 (a : (pcfg0 (F := F)).Adm) : ∀ t : Fin (cfg0 a).N, ((cfg0 a).win 2).fetch t = true ↔ t.val % 12 = 0 :=
  (fun t => Pipeline.Window.fetchOf_const cc0_transform_2 (fun _ _ => rfl) (n := 12) (by decide) t : ∀ t : Fin grid0.N, Pipeline.Window.fetchOf grid0 false cc0_transform_2 t = true ↔ t.val % 12 = 0)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 12 = 0 :=
  (fun t => Pipeline.Window.fetchOf_const cc0_transform_3 (fun _ _ => rfl) (n := 12) (by decide) t : ∀ t : Fin grid0.N, Pipeline.Window.fetchOf grid0 false cc0_transform_3 t = true ↔ t.val % 12 = 0)
/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 12 = 0 :=
  (fun t => Pipeline.Window.fetchOf_const cc0_transform_4 (fun _ _ => rfl) (n := 12) (by decide) t : ∀ t : Fin grid0.N, Pipeline.Window.fetchOf grid0 false cc0_transform_4 t = true ↔ t.val % 12 = 0)
/-- Window 5 (operand 6 (%arg6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (operand 7 (%arg7)) is fetched at the first point only, at any contents of the tables (its index map reads none). -/
theorem fetch0_6 (a : (pcfg0 (F := F)).Adm) : ∀ t : Fin (cfg0 a).N, ((cfg0 a).win 6).fetch t = true ↔ t.val % 12 = 0 :=
  (fun t => Pipeline.Window.fetchOf_const cc0_transform_6 (fun _ _ => rfl) (n := 12) (by decide) t : ∀ t : Fin grid0.N, Pipeline.Window.fetchOf grid0 false cc0_transform_6 t = true ↔ t.val % 12 = 0)
/-- Window 7 (operand 8 (%arg8)) is fetched at the first point only, at any contents of the tables (its index map reads none). -/
theorem fetch0_7 (a : (pcfg0 (F := F)).Adm) : ∀ t : Fin (cfg0 a).N, ((cfg0 a).win 7).fetch t = true ↔ t.val % 12 = 0 :=
  (fun t => Pipeline.Window.fetchOf_const cc0_transform_7 (fun _ _ => rfl) (n := 12) (by decide) t : ∀ t : Fin grid0.N, Pipeline.Window.fetchOf grid0 false cc0_transform_7 t = true ↔ t.val % 12 = 0)
/-- Window 8 (operand 9 (%0)) is fetched at the first point only, at any contents of the tables (its index map reads none). -/
theorem fetch0_8 (a : (pcfg0 (F := F)).Adm) : ∀ t : Fin (cfg0 a).N, ((cfg0 a).win 8).fetch t = true ↔ t.val % 12 = 0 :=
  (fun t => Pipeline.Window.fetchOf_const cc0_transform_8 (fun _ _ => rfl) (n := 12) (by decide) t : ∀ t : Fin grid0.N, Pipeline.Window.fetchOf grid0 false cc0_transform_8 t = true ↔ t.val % 12 = 0)
/-- Window 9 (operand 10 (%1)) is fetched at the first point only, at any contents of the tables (its index map reads none). -/
theorem fetch0_9 (a : (pcfg0 (F := F)).Adm) : ∀ t : Fin (cfg0 a).N, ((cfg0 a).win 9).fetch t = true ↔ t.val % 12 = 0 :=
  (fun t => Pipeline.Window.fetchOf_const cc0_transform_9 (fun _ _ => rfl) (n := 12) (by decide) t : ∀ t : Fin grid0.N, Pipeline.Window.fetchOf grid0 false cc0_transform_9 t = true ↔ t.val % 12 = 0)
/-- Window 10 (operand 11 (%arg11)) is fetched at the first point only, at any contents of the tables (its index map reads none). -/
theorem fetch0_10 (a : (pcfg0 (F := F)).Adm) : ∀ t : Fin (cfg0 a).N, ((cfg0 a).win 10).fetch t = true ↔ t.val % 12 = 0 :=
  (fun t => Pipeline.Window.fetchOf_const cc0_transform_10 (fun _ _ => rfl) (n := 12) (by decide) t : ∀ t : Fin grid0.N, Pipeline.Window.fetchOf grid0 false cc0_transform_10 t = true ↔ t.val % 12 = 0)
/-- Window 11 (operand 12 (%2)) is fetched at the first point only, at any contents of the tables (its index map reads none). -/
theorem fetch0_11 (a : (pcfg0 (F := F)).Adm) : ∀ t : Fin (cfg0 a).N, ((cfg0 a).win 11).fetch t = true ↔ t.val % 12 = 0 :=
  (fun t => Pipeline.Window.fetchOf_const cc0_transform_11 (fun _ _ => rfl) (n := 12) (by decide) t : ∀ t : Fin grid0.N, Pipeline.Window.fetchOf grid0 false cc0_transform_11 t = true ↔ t.val % 12 = 0)
/-- Window 12 (operand 13 (%3)) is fetched at the first point only, at any contents of the tables (its index map reads none). -/
theorem fetch0_12 (a : (pcfg0 (F := F)).Adm) : ∀ t : Fin (cfg0 a).N, ((cfg0 a).win 12).fetch t = true ↔ t.val % 12 = 0 :=
  (fun t => Pipeline.Window.fetchOf_const cc0_transform_12 (fun _ _ => rfl) (n := 12) (by decide) t : ∀ t : Fin grid0.N, Pipeline.Window.fetchOf grid0 false cc0_transform_12 t = true ↔ t.val % 12 = 0)
/-- Window 13 (result 0 (%4#0)) is written back at every point, at any contents of the tables (its index map reads none). -/
theorem flush0_13 (a : (pcfg0 (F := F)).Adm) : ∀ t : Fin (cfg0 a).N, ((cfg0 a).win 13).flush t = true :=
  (fun t => (Pipeline.Window.flushOf_reads cc0_transform_13 reads0_13 hreads0_13 0 (by decide) (by decide) (Pipeline.Window.sep_of_coord cc0_transform_13 0 0 (fun _ => rfl) (by decide)) (P := 1) (m := 0) (by decide) rfl t).mpr (Nat.mod_one _) : ∀ t : Fin grid0.N, Pipeline.Window.flushOf grid0 true cc0_transform_13 t = true)
/-- Window 14 (result 1 (%4#1)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 0 (by decide) (by decide) (Pipeline.Window.sep_of_coord cc0_transform_14 0 0 (fun _ => rfl) (by decide)) (P := 1) (m := 0) (by decide) rfl t).mpr (Nat.mod_one _) : ∀ t : Fin grid0.N, Pipeline.Window.flushOf grid0 true cc0_transform_14 t = true)
/-- Window 15 (result 2 (%4#2)) is written back at the last point only, at any contents of the tables (its index map reads none). -/
theorem flush0_15 (a : (pcfg0 (F := F)).Adm) : ∀ t : Fin (cfg0 a).N, ((cfg0 a).win 15).flush t = true ↔ t.val % 12 = 11 :=
  (fun t => Pipeline.Window.flushOf_const cc0_transform_15 (fun _ _ => rfl) (n := 12) (by decide) rfl t : ∀ t : Fin grid0.N, Pipeline.Window.flushOf grid0 true cc0_transform_15 t = true ↔ t.val % 12 = 11)
/-- Window 16 (result 3 (%4#3)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 0 (by decide) (by decide) (Pipeline.Window.sep_of_coord cc0_transform_16 0 0 (fun _ => rfl) (by decide)) (P := 1) (m := 0) (by decide) rfl t).mpr (Nat.mod_one _) : ∀ t : Fin grid0.N, Pipeline.Window.flushOf grid0 true cc0_transform_16 t = true)
/-- Window 17 (result 4 (%4#4)) is written back at the last point only, at any contents of the tables (its index map reads none). -/
theorem flush0_17 (a : (pcfg0 (F := F)).Adm) : ∀ t : Fin (cfg0 a).N, ((cfg0 a).win 17).flush t = true ↔ t.val % 12 = 11 :=
  (fun t => Pipeline.Window.flushOf_const cc0_transform_17 (fun _ _ => rfl) (n := 12) (by decide) rfl t : ∀ t : Fin grid0.N, Pipeline.Window.flushOf grid0 true cc0_transform_17 t = true ↔ t.val % 12 = 11)
/-- Window 18 (result 5 (%4#5)) is written back at every point, at any contents of the tables (its index map reads none). -/
theorem flush0_18 (a : (pcfg0 (F := F)).Adm) : ∀ t : Fin (cfg0 a).N, ((cfg0 a).win 18).flush t = true :=
  (fun t => (Pipeline.Window.flushOf_reads cc0_transform_18 reads0_18 hreads0_18 0 (by decide) (by decide) (Pipeline.Window.sep_of_coord cc0_transform_18 0 0 (fun _ => rfl) (by decide)) (P := 1) (m := 0) (by decide) rfl t).mpr (Nat.mod_one _) : ∀ t : Fin grid0.N, Pipeline.Window.flushOf grid0 true cc0_transform_18 t = true)
/-- Window 19 (result 6 (%4#6)) is written back at the last point only, at any contents of the tables (its index map reads none). -/
theorem flush0_19 (a : (pcfg0 (F := F)).Adm) : ∀ t : Fin (cfg0 a).N, ((cfg0 a).win 19).flush t = true ↔ t.val % 12 = 11 :=
  (fun t => Pipeline.Window.flushOf_const cc0_transform_19 (fun _ _ => rfl) (n := 12) (by decide) rfl t : ∀ t : Fin grid0.N, Pipeline.Window.flushOf grid0 true cc0_transform_19 t = true ↔ t.val % 12 = 11)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)
abbrev st0_19 (a : (pcfg0 (F := F)).Adm) (t : Fin (cfg0 a).N) := ((cfg0 a).win 19).stage ((cfg0 a).slots t 19)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_toca_refresh (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (Memref.whole cc0_scratch0) (Memref.isWhole_whole _)

end Cert.KernelIdeal.Gen

end
-- ==== Proof.KernelKit.lean ====
/- The host program around the kernel, the blocks of its windows, and what the run of its body takes. -/
module

public import proofs.«01_k».proof.Proof.Gen.KernelIdeal.Launch
public import proofs.«01_k».proof.Proof.Gen.KernelIdeal.Skeleton
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (by decide : main_arg5 ∈ Pipeline.restRefs sig spec0)).trans (V_main_arg5 m c),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      (Pipeline.RDat.FramePost.arr_in h c 10 rfl).trans ((hA c 10).trans (V_main_arg11 m c)),
      ((h c).2 main_arg12 (by decide : main_arg12 ∈ Pipeline.restRefs sig spec0)).trans (V_main_arg12 m c),
      ((h c).2 main_arg13 (by decide : main_arg13 ∈ Pipeline.restRefs sig spec0)).trans (V_main_arg13 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x576x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S12x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S12x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S12x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S12x120 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x576x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S12x576 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x4096 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4096 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4096 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S4096x1024 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x576x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x120x1024 .fp8e4m3 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S12x120 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x120x4096 .fp8e4m3 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S12x120 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x576x1024 .fp8e4m3 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S12x576 .f32 := spec0_19.stage ((cfgM m hO).slots t 19)
abbrev hs0_19 (hO : Ok m) (t : Fin (cfgM m hO).N) : (ms0_19 m hO t).IsWhole := hstage0_19 (((cfgM m hO).slots t 19).cast nbuf0_19)
/-- The scratch operands: whole scoped buffers of the kernel's own, passed beside the windows. -/
abbrev scM0_0 : Memref sig .tc .vmem S128x4096 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KernelValue.lean ====
/- What one grid point of the kernel computes, as functions of the blocks it is given: the values its loads, payloads and
   stores name, with the memory left out. -/
module

public import proofs.«01_k».proof.Proof.KernelKit

@[expose] public section

set_option maxRecDepth 16384

noncomputable section

namespace Cert.KernelIdeal.Gen

open Idealize.ShloMosaic Idealize.ShloMosaic.TcCoe

variable {F : FTy → Type} [FloatOps F]

/-- What a grid point is given: its coordinates, the number of live rows, and the thirteen input blocks. -/
structure Blk (F : FTy → Type) where
  i : grid0.Coords
  n : Elt F .i32
  x0 : Vec F S1x576x1024 .bf16
  x1 : Vec F S12x1024 .f32
  x2 : Vec F S12x1024 .f32
  x3 : Vec F S12x1024 .f32
  x4 : Vec F S12x120 .i32
  x5 : Vec F S1x576x1024 .fp8e4m3
  x6 : Vec F S12x576 .f32
  x7 : Vec F S1024x4096 .fp8e4m3
  x8 : Vec F S1x4096 .f32
  x9 : Vec F S1x4096 .f32
  x10 : Vec F S4096x1024 .fp8e4m3
  x11 : Vec F S1x1024 .f32
  x12 : Vec F S1x1024 .f32

namespace Blk

/-- The point's row of listed rows, -/
def ids (b : Blk F) : Vec F S1x120 .i32 := View.ld b.x4 (Rect.unit (s := S12x120) (k0_off2 b.i) S1x120.size (k0_off2_inb b.i))

/-- of shifts, -/
def sh (b : Blk F) : Vec F S1x1024 .f32 := View.ld b.x1 (Rect.unit (s := S12x1024) (k0_off3 b.i) S1x1024.size (k0_off3_inb b.i))

/-- of scales, -/
def sc (b : Blk F) : Vec F S1x1024 .f32 := View.ld b.x2 (Rect.unit (s := S12x1024) (k0_off3 b.i) S1x1024.size (k0_off3_inb b.i))

/-- of gates, -/
def gt (b : Blk F) : Vec F S1x1024 .f32 := View.ld b.x3 (Rect.unit (s := S12x1024) (k0_off3 b.i) S1x1024.size (k0_off3_inb b.i))

/-- and of cached scales. -/
def cs (b : Blk F) : Vec F S1x576 .f32 := View.ld b.x6 (Rect.unit (s := S12x576) (k0_off4 b.i) S1x576.size (k0_off4_inb b.i))

/-- The listed rows, with −1 beyond the live ones. -/
def v1 (b : Blk F) : IVec S1x128 32 := k0_pay2 b.n b.ids

/-- Which listed rows are live. -/
def v2 (b : Blk F) : IVec S128x1 1 := k0_pay4 b.n b.ids

/-- A value on the way. -/
def v3 (b : Blk F) : FVec F S576x1024 FTy.bf16 := k0_pay5 (View.ld b.x0 (Rect.unit (s := S1x576x1024) ![0, 0, 0] S1x576x1024.size inb_S1x576x1024_S1x576x1024_0_0_0))

/-- A value on the way. -/
def v4 (b : Blk F) : FVec F S128x1024 FTy.f32 := k0_pay6 b.n b.ids (View.ld b.x0 (Rect.unit (s := S1x576x1024) ![0, 0, 0] S1x576x1024.size inb_S1x576x1024_S1x576x1024_0_0_0))

/-- The rows normalised, scaled and shifted. -/
def v5 (b : Blk F) : FVec F S128x1024 FTy.f32 := k0_pay7 (v2 b) (v4 b) b.sc b.sh

/-- A value on the way. -/
def v6 (b : Blk F) : IVec S128x1 1 := k0_pay9 (v2 b) (v4 b) b.sc b.sh

/-- A value on the way. -/
def v7 (b : Blk F) : FVec F S128x1 FTy.f32 := k0_pay10 (v2 b) (v4 b) b.sc b.sh

/-- A value on the way. -/
def v8 (b : Blk F) : IVec S128x1 32 := k0_pay11 (v2 b) (v4 b) b.sc b.sh

/-- Their scales. -/
def v9 (b : Blk F) : FVec F S128x1 FTy.f32 := k0_pay12 (v6 b) (v7 b)

/-- Their codes. -/
def v10 (b : Blk F) : FVec F S128x1024 FTy.fp8e4m3 := k0_pay13 (v5 b) (v6 b) (v8 b)

/-- A value on the way. -/
def v11 (b : Blk F) : FVec F S128x512 FTy.f32 := k0_pay17 (v5 b) (v6 b) (v7 b) (v8 b) (View.ld b.x7 (Rect.unit (s := S1024x4096) ![0, 0] S1024x512.size inb_S1024x4096_S1024x512_0_0)) (View.ld b.x8 (Rect.unit (s := S1x4096) ![0, 0] S1x512.size inb_S1x4096_S1x512_0_0)) (View.ld b.x9 (Rect.unit (s := S1x4096) ![0, 0] S1x512.size inb_S1x4096_S1x512_0_0))

/-- A value on the way. -/
def v12 (b : Blk F) : FVec F S128x512 FTy.f32 := k0_pay18 (v5 b) (v6 b) (v7 b) (v8 b) (View.ld b.x7 (Rect.unit (s := S1024x4096) ![0, 0] S1024x512.size inb_S1024x4096_S1024x512_0_0)) (View.ld b.x8 (Rect.unit (s := S1x4096) ![0, 0] S1x512.size inb_S1x4096_S1x512_0_0)) (View.ld b.x9 (Rect.unit (s := S1x4096) ![0, 0] S1x512.size inb_S1x4096_S1x512_0_0))

/-- A value on the way. -/
def v13 (b : Blk F) : FVec F S128x128 FTy.f32 := k0_pay21 (v2 b) k0_pay16 (v11 b) (v12 b)

/-- A value on the way. -/
def v14 (b : Blk F) : FVec F S128x512 FTy.f32 := k0_pay22 (v9 b) (v10 b) (View.ld b.x7 (Rect.unit (s := S1024x4096) ![0, 512] S1024x512.size inb_S1024x4096_S1024x512_0_512)) (View.ld b.x8 (Rect.unit (s := S1x4096) ![0, 512] S1x512.size inb_S1x4096_S1x512_0_512)) (View.ld b.x9 (Rect.unit (s := S1x4096) ![0, 512] S1x512.size inb_S1x4096_S1x512_0_512))

/-- A value on the way. -/
def v15 (b : Blk F) : FVec F S128x512 FTy.f32 := k0_pay23 (v9 b) (v10 b) (View.ld b.x7 (Rect.unit (s := S1024x4096) ![0, 512] S1024x512.size inb_S1024x4096_S1024x512_0_512)) (View.ld b.x8 (Rect.unit (s := S1x4096) ![0, 512] S1x512.size inb_S1x4096_S1x512_0_512)) (View.ld b.x9 (Rect.unit (s := S1x4096) ![0, 512] S1x512.size inb_S1x4096_S1x512_0_512))

/-- A value on the way. -/
def v16 (b : Blk F) : FVec F S128x128 FTy.f32 := k0_pay26 (v2 b) (v13 b) (v14 b) (v15 b)

/-- A value on the way. -/
def v17 (b : Blk F) : FVec F S128x512 FTy.f32 := k0_pay27 (v9 b) (v10 b) (View.ld b.x7 (Rect.unit (s := S1024x4096) ![0, 1024] S1024x512.size inb_S1024x4096_S1024x512_0_1024)) (View.ld b.x8 (Rect.unit (s := S1x4096) ![0, 1024] S1x512.size inb_S1x4096_S1x512_0_1024)) (View.ld b.x9 (Rect.unit (s := S1x4096) ![0, 1024] S1x512.size inb_S1x4096_S1x512_0_1024))

/-- A value on the way. -/
def v18 (b : Blk F) : FVec F S128x512 FTy.f32 := k0_pay28 (v9 b) (v10 b) (View.ld b.x7 (Rect.unit (s := S1024x4096) ![0, 1024] S1024x512.size inb_S1024x4096_S1024x512_0_1024)) (View.ld b.x8 (Rect.unit (s := S1x4096) ![0, 1024] S1x512.size inb_S1x4096_S1x512_0_1024)) (View.ld b.x9 (Rect.unit (s := S1x4096) ![0, 1024] S1x512.size inb_S1x4096_S1x512_0_1024))

/-- A value on the way. -/
def v19 (b : Blk F) : FVec F S128x128 FTy.f32 := k0_pay31 (v2 b) (v16 b) (v17 b) (v18 b) (FloatOps.ofBits FTy.f32 1056964608#32)

/-- A value on the way. -/
def v20 (b : Blk F) : FVec F S128x512 FTy.f32 := k0_pay32 (v9 b) (v10 b) (View.ld b.x7 (Rect.unit (s := S1024x4096) ![0, 1536] S1024x512.size inb_S1024x4096_S1024x512_0_1536)) (View.ld b.x8 (Rect.unit (s := S1x4096) ![0, 1536] S1x512.size inb_S1x4096_S1x512_0_1536)) (View.ld b.x9 (Rect.unit (s := S1x4096) ![0, 1536] S1x512.size inb_S1x4096_S1x512_0_1536))

/-- A value on the way. -/
def v21 (b : Blk F) : FVec F S128x128 FTy.f32 := k0_pay35 (v2 b) (v19 b) (v20 b) (FloatOps.ofBits FTy.f32 0#32)

/-- A value on the way. -/
def v22 (b : Blk F) : FVec F S128x512 FTy.f32 := k0_pay36 (v2 b) (v9 b) (v10 b) (View.ld b.x7 (Rect.unit (s := S1024x4096) ![0, 2048] S1024x512.size inb_S1024x4096_S1024x512_0_2048)) (View.ld b.x8 (Rect.unit (s := S1x4096) ![0, 2048] S1x512.size inb_S1x4096_S1x512_0_2048)) (View.ld b.x9 (Rect.unit (s := S1x4096) ![0, 2048] S1x512.size inb_S1x4096_S1x512_0_2048))

/-- A value on the way. -/
def v23 (b : Blk F) : FVec F S128x128 FTy.f32 := k0_pay38 (v21 b) (v22 b)

/-- A value on the way. -/
def v24 (b : Blk F) : FVec F S128x512 FTy.f32 := k0_pay39 (v2 b) (v9 b) (v10 b) (View.ld b.x7 (Rect.unit (s := S1024x4096) ![0, 2560] S1024x512.size inb_S1024x4096_S1024x512_0_2560)) (View.ld b.x8 (Rect.unit (s := S1x4096) ![0, 2560] S1x512.size inb_S1x4096_S1x512_0_2560)) (View.ld b.x9 (Rect.unit (s := S1x4096) ![0, 2560] S1x512.size inb_S1x4096_S1x512_0_2560))

/-- A value on the way. -/
def v25 (b : Blk F) : FVec F S128x128 FTy.f32 := k0_pay41 (v23 b) (v24 b)

/-- A value on the way. -/
def v26 (b : Blk F) : FVec F S128x512 FTy.f32 := k0_pay44 (v2 b) (v9 b) (v10 b) (View.ld b.x7 (Rect.unit (s := S1024x4096) ![0, 3072] S1024x512.size inb_S1024x4096_S1024x512_0_3072)) (View.ld b.x8 (Rect.unit (s := S1x4096) ![0, 3072] S1x512.size inb_S1x4096_S1x512_0_3072)) (View.ld b.x9 (Rect.unit (s := S1x4096) ![0, 3072] S1x512.size inb_S1x4096_S1x512_0_3072))

/-- A value on the way. -/
def v27 (b : Blk F) : FVec F S128x128 FTy.f32 := k0_pay45 (v2 b) (v9 b) (v10 b) (View.ld b.x7 (Rect.unit (s := S1024x4096) ![0, 3072] S1024x512.size inb_S1024x4096_S1024x512_0_3072)) (View.ld b.x8 (Rect.unit (s := S1x4096) ![0, 3072] S1x512.size inb_S1x4096_S1x512_0_3072)) (View.ld b.x9 (Rect.unit (s := S1x4096) ![0, 3072] S1x512.size inb_S1x4096_S1x512_0_3072))

/-- A value on the way. -/
def v28 (b : Blk F) : FVec F S128x512 FTy.f32 := k0_pay48 (v2 b) (v9 b) (v10 b) (View.ld b.x7 (Rect.unit (s := S1024x4096) ![0, 3584] S1024x512.size inb_S1024x4096_S1024x512_0_3584)) (View.ld b.x8 (Rect.unit (s := S1x4096) ![0, 3584] S1x512.size inb_S1x4096_S1x512_0_3584)) (View.ld b.x9 (Rect.unit (s := S1x4096) ![0, 3584] S1x512.size inb_S1x4096_S1x512_0_3584))

/-- A value on the way. -/
def v29 (b : Blk F) : FVec F S128x128 FTy.f32 := k0_pay49 (v2 b) (v9 b) (v10 b) (v25 b) (v26 b) (v27 b) (View.ld b.x7 (Rect.unit (s := S1024x4096) ![0, 3584] S1024x512.size inb_S1024x4096_S1024x512_0_3584)) (View.ld b.x8 (Rect.unit (s := S1x4096) ![0, 3584] S1x512.size inb_S1x4096_S1x512_0_3584)) (View.ld b.x9 (Rect.unit (s := S1x4096) ![0, 3584] S1x512.size inb_S1x4096_S1x512_0_3584))

/-- A value on the way. -/
def v30 (b : Blk F) : FVec F S128x128 FTy.f32 := k0_pay50 (v2 b) (v9 b) (v10 b) (View.ld b.x7 (Rect.unit (s := S1024x4096) ![0, 3584] S1024x512.size inb_S1024x4096_S1024x512_0_3584)) (View.ld b.x8 (Rect.unit (s := S1x4096) ![0, 3584] S1x512.size inb_S1x4096_S1x512_0_3584)) (View.ld b.x9 (Rect.unit (s := S1x4096) ![0, 3584] S1x512.size inb_S1x4096_S1x512_0_3584))

/-- The eight groups of columns the hidden rows are left in, last first. -/
def hidPieces (b : Blk F) : List (View.Piece (Elt F) S128x4096 EltTy.f32) := [⟨Rect.unit ![0, 3584] S128x512.size inb_S128x4096_S128x512_0_3584, k0_pay47 (v2 b) (v9 b) (v10 b) (View.ld b.x7 (Rect.unit (s := S1024x4096) ![0, 3584] S1024x512.size inb_S1024x4096_S1024x512_0_3584)) (View.ld b.x8 (Rect.unit (s := S1x4096) ![0, 3584] S1x512.size inb_S1x4096_S1x512_0_3584)) (View.ld b.x9 (Rect.unit (s := S1x4096) ![0, 3584] S1x512.size inb_S1x4096_S1x512_0_3584))⟩, ⟨Rect.unit ![0, 3072] S128x512.size inb_S128x4096_S128x512_0_3072, k0_pay43 (v2 b) (v9 b) (v10 b) (View.ld b.x7 (Rect.unit (s := S1024x4096) ![0, 3072] S1024x512.size inb_S1024x4096_S1024x512_0_3072)) (View.ld b.x8 (Rect.unit (s := S1x4096) ![0, 3072] S1x512.size inb_S1x4096_S1x512_0_3072)) (View.ld b.x9 (Rect.unit (s := S1x4096) ![0, 3072] S1x512.size inb_S1x4096_S1x512_0_3072))⟩, ⟨Rect.unit ![0, 2560] S128x512.size inb_S128x4096_S128x512_0_2560, k0_pay40 (v24 b)⟩, ⟨Rect.unit ![0, 2048] S128x512.size inb_S128x4096_S128x512_0_2048, k0_pay37 (v22 b)⟩, ⟨Rect.unit ![0, 1536] S128x512.size inb_S128x4096_S128x512_0_1536, k0_pay34 (v2 b) (v20 b) (FloatOps.ofBits FTy.f32 0#32)⟩, ⟨Rect.unit ![0, 1024] S128x512.size inb_S128x4096_S128x512_0_1024, k0_pay30 (v2 b) (v17 b) (v18 b) (FloatOps.ofBits FTy.f32 1056964608#32)⟩, ⟨Rect.unit ![0, 512] S128x512.size inb_S128x4096_S128x512_0_512, k0_pay25 (v2 b) (v14 b) (v15 b)⟩, ⟨Rect.unit ![0, 0] S128x512.size inb_S128x4096_S128x512_0_0, k0_pay20 (v2 b) (v11 b) (v12 b)⟩]

/-- The hidden rows as they are read back. -/
def hid (b : Blk F) : Vec F S128x4096 .f32 := fun j => View.canon (hidPieces b) ((Rect.unit (s := S128x4096) ![0, 0] S128x4096.size inb_S128x4096_S128x4096_0_0).toLoadRect.idx j)

/-- The scales of the hidden rows. -/
def v31 (b : Blk F) : FVec F S128x1 FTy.f32 := k0_pay53 (v28 b) (v29 b) (v30 b)

/-- The hidden rows over their scales. -/
def v32 (b : Blk F) : FVec F S128x4096 FTy.f32 := k0_pay54 (v28 b) (v29 b) (v30 b) (hid b)

/-- The output rows. -/
def v33 (b : Blk F) : FVec F S128x1024 FTy.f32 := k0_pay59 (v2 b) (v31 b) (v32 b) (FloatOps.ofBits FTy.f32 1138753536#32) k0_pay55 (View.ld b.x10 (Rect.unit (s := S4096x1024) ![0, 0] S4096x1024.size inb_S4096x1024_S4096x1024_0_0)) (View.ld b.x11 (Rect.unit (s := S1x1024) ![0, 0] S1x1024.size inb_S1x1024_S1x1024_0_0)) (View.ld b.x12 (Rect.unit (s := S1x1024) ![0, 0] S1x1024.size inb_S1x1024_S1x1024_0_0))

/-- The quotients of the output rows. -/
def v34 (b : Blk F) : FVec F S128x1 FTy.f32 := k0_pay60 (v2 b) (v31 b) (v32 b) (FloatOps.ofBits FTy.f32 1138753536#32) k0_pay55 (View.ld b.x10 (Rect.unit (s := S4096x1024) ![0, 0] S4096x1024.size inb_S4096x1024_S4096x1024_0_0)) (View.ld b.x11 (Rect.unit (s := S1x1024) ![0, 0] S1x1024.size inb_S1x1024_S1x1024_0_0)) (View.ld b.x12 (Rect.unit (s := S1x1024) ![0, 0] S1x1024.size inb_S1x1024_S1x1024_0_0))

/-- A value on the way. -/
def v35 (b : Blk F) : IVec S576x128 1 := k0_pay64 (v1 b)

/-- The codes brought to their places. -/
def v36 (b : Blk F) : FVec F S576x1024 FTy.f32 := k0_pay65 (v1 b) (v33 b) (v34 b) (iota Kind.tc S128x256 32 [1] iota_S128x256_d1_w32) k0_pay61

/-- The scales, as one row. -/
def v37 (b : Blk F) : FVec F S1x128 FTy.f32 := k0_pay66 (v34 b) (iota Kind.tc S128x256 32 [1] iota_S128x256_d1_w32) k0_pay61

/-- The block with its gated output added. -/
def v38 (b : Blk F) : FVec F S576x1024 FTy.f32 := k0_pay73 (v3 b) (v35 b) (v36 b) (v37 b) (FloatOps.ofBits FTy.f32 0#32) b.cs (View.ld b.x5 (Rect.unit (s := S1x576x1024) ![0, 0, 0] S1x576x1024.size inb_S1x576x1024_S1x576x1024_0_0_0)) b.gt

/-- The updated block, -/
def o13 (b : Blk F) : Vec F S1x576x1024 .bf16 := k0_pay1 (v38 b)

/-- the codes of the normalised rows, -/
def o14 (b : Blk F) : Vec F S1x120x1024 .fp8e4m3 := k0_pay14 (v5 b) (v6 b) (v8 b)

/-- their scales, -/
def o15 (b : Blk F) : Vec F S1x120 .f32 := k0_pay15 (v6 b) (v7 b)

/-- the codes of the hidden rows, -/
def o16 (b : Blk F) : Vec F S1x120x4096 .fp8e4m3 := k0_pay57 (v32 b) (FloatOps.ofBits FTy.f32 1138753536#32) k0_pay55

/-- their scales, -/
def o17 (b : Blk F) : Vec F S1x120 .f32 := k0_pay58 (v31 b)

/-- the cached codes, -/
def o18 (b : Blk F) : Vec F S1x576x1024 .fp8e4m3 :=
  k0_pay72 (v35 b) (v36 b) (v37 b) (FloatOps.ofBits FTy.f32 0#32)
    (View.ld b.x5 (Rect.unit (s := S1x576x1024) ![0, 0, 0] S1x576x1024.size inb_S1x576x1024_S1x576x1024_0_0_0))

/-- and the cached scales. -/
def o19 (b : Blk F) : Vec F S1x576 .f32 := k0_pay70 (v35 b) (v37 b) (FloatOps.ofBits FTy.f32 0#32) b.cs

end Blk

end Cert.KernelIdeal.Gen

end
-- ==== Proof.KernelRun.lean ====
/- The run of the kernel body at a grid point: the seven windows it leaves hold the values of KernelValue.lean. -/
module

public import proofs.«01_k».proof.Proof.KernelValue
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a store through the whole of a view leaves reads as its payload. -/
theorem read_writes_whole {Val : EltTy → Type} [∀ e, Nonempty (Val e)] {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, by
    subst h; show y ∈ (Rect.whole S).set; rw [Rect.set_whole]; exact Finset.mem_univ y⟩), View.canon_unit_zero h]

/-- What a store through a rectangle leaves reads as its payload there and as before elsewhere. -/
theorem read_writes_overlay {Val : EltTy → Type} {κ : Kind} {sp : Space} {S : Shape} {e : EltTy}
    (v : View sig κ sp S e) (f : v.ty.Contents Val) (r : Rect S) (w : r.shape.Idx → Val e) :
    v.read Val (v.writes Val f [(⟨r, w⟩ : View.Piece Val S e)]) = r.overlay (v.read Val f) w := by
  funext y
  by_cases hy : y ∈ r.set
  · obtain ⟨x, rfl⟩ := r.exists_idx_of_mem hy
    exact (View.read_writes_cons_emb v f r w [] x).trans (Rect.overlay_emb r _ w x).symm
  · rw [Rect.overlay_of_not_mem r _ w hy, View.writes_cons, View.read_slice_write_of_not_mem _ _ _ _ (by rwa [Rect.map_emb_univ])]
    rfl

/-- What a grid point is given, the number of live rows read from its table. -/
def blkAt (c : Dev nD) (i : grid0.Coords) (x0 : Vec F S1x576x1024 .bf16) (x1 : Vec F S12x1024 .f32) (x2 : Vec F S12x1024 .f32) (x3 : Vec F S12x1024 .f32) (x4 : Vec F S12x120 .i32) (x5 : Vec F S1x576x1024 .fp8e4m3) (x6 : Vec F S12x576 .f32) (x7 : Vec F S1024x4096 .fp8e4m3) (x8 : Vec F S1x4096 .f32) (x9 : Vec F S1x4096 .f32) (x10 : Vec F S4096x1024 .fp8e4m3) (x11 : Vec F S1x1024 .f32) (x12 : Vec F S1x1024 .f32) (xt0 : TbBuf0 (F := F) c tbM0_0) : Blk F :=
  ⟨i, View.readAt (Elt F) tbM0_0.view (Rect.unit (s := S12) (k0_off1 i) S1.size (k0_off1_inb i)).toLoadRect xt0 (Shape.Idx.first (Nat.lt_of_lt_of_eq Nat.zero_lt_one numel1_S1.symm)), x0, x1, x2, x3, x4, x5, x6, x7, x8, x9, x10, x11, x12⟩

-- (the run's proof term is large: checking it walks past the default budget)
set_option maxHeartbeats 4000000 in
/-- The body's triple: from the input blocks, the outputs' windows at any contents and the scratch at any, the body leaves
    the inputs as they were and each output window at its value, a window written by one row keeping its other rows. -/
theorem kernelRun (c : Dev nD) (i : grid0.Coords) (arg2 : Memref sig .tc .vmem S1x576x1024 .bf16) (harg2 : arg2.IsWhole) (arg3 : Memref sig .tc .vmem S12x1024 .f32) (harg3 : arg3.IsWhole) (arg4 : Memref sig .tc .vmem S12x1024 .f32) (harg4 : arg4.IsWhole) (arg5 : Memref sig .tc .vmem S12x1024 .f32) (harg5 : arg5.IsWhole) (arg6 : Memref sig .tc .vmem S12x120 .i32) (harg6 : arg6.IsWhole) (arg7 : Memref sig .tc .vmem S1x576x1024 .fp8e4m3) (harg7 : arg7.IsWhole) (arg8 : Memref sig .tc .vmem S12x576 .f32) (harg8 : arg8.IsWhole) (arg9 : Memref sig .tc .vmem S1024x4096 .fp8e4m3) (harg9 : arg9.IsWhole) (arg10 : Memref sig .tc .vmem S1x4096 .f32) (harg10 : arg10.IsWhole) (arg11 : Memref sig .tc .vmem S1x4096 .f32) (harg11 : arg11.IsWhole) (arg12 : Memref sig .tc .vmem S4096x1024 .fp8e4m3) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x576x1024 .bf16) (harg15 : arg15.IsWhole) (arg16 : Memref sig .tc .vmem S1x120x1024 .fp8e4m3) (harg16 : arg16.IsWhole) (arg17 : Memref sig .tc .vmem S12x120 .f32) (harg17 : arg17.IsWhole) (arg18 : Memref sig .tc .vmem S1x120x4096 .fp8e4m3) (harg18 : arg18.IsWhole) (arg19 : Memref sig .tc .vmem S12x120 .f32) (harg19 : arg19.IsWhole) (arg20 : Memref sig .tc .vmem S1x576x1024 .fp8e4m3) (harg20 : arg20.IsWhole) (arg21 : Memref sig .tc .vmem S12x576 .f32) (harg21 : arg21.IsWhole) (arg22 : Memref sig .tc .vmem S128x4096 .f32) (harg22 : arg22.IsWhole)
    (x0 : Vec F S1x576x1024 .bf16) (x1 : Vec F S12x1024 .f32) (x2 : Vec F S12x1024 .f32) (x3 : Vec F S12x1024 .f32) (x4 : Vec F S12x120 .i32) (x5 : Vec F S1x576x1024 .fp8e4m3) (x6 : Vec F S12x576 .f32) (x7 : Vec F S1024x4096 .fp8e4m3) (x8 : Vec F S1x4096 .f32) (x9 : Vec F S1x4096 .f32) (x10 : Vec F S4096x1024 .fp8e4m3) (x11 : Vec F S1x1024 .f32) (x12 : Vec F S1x1024 .f32) (y13 : Vec F S1x576x1024 .bf16) (y14 : Vec F S1x120x1024 .fp8e4m3) (y15 : Vec F S12x120 .f32) (y16 : Vec F S1x120x4096 .fp8e4m3) (y17 : Vec F S12x120 .f32) (y18 : Vec F S1x576x1024 .fp8e4m3) (y19 : Vec F S12x576 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19 ∗ (∃ d, owns (c : Thread nD τ) arg22 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (Blk.o13 (blkAt c i x0 x1 x2 x3 x4 x5 x6 x7 x8 x9 x10 x11 x12 xt0)) ∗ owns (c : Thread nD τ) arg16 fullShare (Blk.o14 (blkAt c i x0 x1 x2 x3 x4 x5 x6 x7 x8 x9 x10 x11 x12 xt0)) ∗ owns (c : Thread nD τ) arg17 fullShare ((Rect.unit (s := S12x120) (k0_off2 i) S1x120.size (k0_off2_inb i)).overlay y15 (Blk.o15 (blkAt c i x0 x1 x2 x3 x4 x5 x6 x7 x8 x9 x10 x11 x12 xt0))) ∗ owns (c : Thread nD τ) arg18 fullShare (Blk.o16 (blkAt c i x0 x1 x2 x3 x4 x5 x6 x7 x8 x9 x10 x11 x12 xt0)) ∗ owns (c : Thread nD τ) arg19 fullShare ((Rect.unit (s := S12x120) (k0_off2 i) S1x120.size (k0_off2_inb i)).overlay y17 (Blk.o17 (blkAt c i x0 x1 x2 x3 x4 x5 x6 x7 x8 x9 x10 x11 x12 xt0))) ∗ owns (c : Thread nD τ) arg20 fullShare (Blk.o18 (blkAt c i x0 x1 x2 x3 x4 x5 x6 x7 x8 x9 x10 x11 x12 xt0)) ∗ owns (c : Thread nD τ) arg21 fullShare ((Rect.unit (s := S12x576) (k0_off4 i) S1x576.size (k0_off4_inb i)).overlay y19 (Blk.o19 (blkAt c i x0 x1 x2 x3 x4 x5 x6 x7 x8 x9 x10 x11 x12 xt0))) ∗ (∃ d, owns (c : Thread nD τ) arg22 fullShare d) ∗ tbPt0 c tbM0_0 xt0) -∗ K ⟨⟩))
          ⊢ wp frame (wpE (defs₀ (F := F)) Variants.none c none) E (cc0_toca_refresh i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_toca_refresh_eq_skeleton]; unfold cc0_toca_refresh_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%ds0, %fs0, -, HS0⟩, HT0, Hk⟩
    subst hf0; subst hf1; subst hf2; subst hf3; subst hf4; subst hf5; subst hf6; subst hf7; subst hf8; subst hf9; subst hf10; subst hf11; subst hf12; subst hf13; subst hf14; subst hf15; subst hf16; subst hf17; subst hf18; subst hf19
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    have e0 : kernelRun.sl.r c i xt0 = (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0).n := by delta kernelRun.sl.r; rfl
    have e1 : kernelRun.sl.r_1 c i arg6 xt0 f4 = Blk.v1 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_1 Blk.v1; rw [e0] <;> rfl
    have e2 : kernelRun.sl.r_2 c i arg6 xt0 f4 = Blk.v2 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_2 Blk.v2; rw [e0] <;> rfl
    have e3 : kernelRun.sl.r_3 c arg2 f0 = Blk.v3 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_3 Blk.v3 <;> rfl
    have e4 : kernelRun.sl.r_4 c i arg2 arg6 xt0 f0 f4 = Blk.v4 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_4 Blk.v4; rw [e0] <;> rfl
    have e5 : kernelRun.sl.r_5 c i arg2 arg3 arg4 arg6 xt0 f0 f1 f2 f4 = Blk.v5 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_5 Blk.v5; rw [e2, e4] <;> rfl
    have e6 : kernelRun.sl.r_6 c i arg2 arg3 arg4 arg6 xt0 f0 f1 f2 f4 = Blk.v6 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_6 Blk.v6; rw [e2, e4] <;> rfl
    have e7 : kernelRun.sl.r_7 c i arg2 arg3 arg4 arg6 xt0 f0 f1 f2 f4 = Blk.v7 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_7 Blk.v7; rw [e2, e4] <;> rfl
    have e8 : kernelRun.sl.r_8 c i arg2 arg3 arg4 arg6 xt0 f0 f1 f2 f4 = Blk.v8 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_8 Blk.v8; rw [e2, e4] <;> rfl
    have e9 : kernelRun.sl.r_9 c i arg2 arg3 arg4 arg6 xt0 f0 f1 f2 f4 = Blk.v9 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_9 Blk.v9; rw [e6, e7] <;> rfl
    have e10 : kernelRun.sl.r_10 c i arg2 arg3 arg4 arg6 xt0 f0 f1 f2 f4 = Blk.v10 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_10 Blk.v10; rw [e5, e6, e8] <;> rfl
    have e11 : kernelRun.sl.r_11 c i arg2 arg3 arg4 arg6 arg9 arg10 arg11 xt0 f0 f1 f2 f4 f7 f8 f9 = Blk.v11 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_11 Blk.v11; rw [e5, e6, e7, e8] <;> rfl
    have e12 : kernelRun.sl.r_12 c i arg2 arg3 arg4 arg6 arg9 arg10 arg11 xt0 f0 f1 f2 f4 f7 f8 f9 = Blk.v12 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_12 Blk.v12; rw [e5, e6, e7, e8] <;> rfl
    have e13 : kernelRun.sl.r_13 c i arg2 arg3 arg4 arg6 arg9 arg10 arg11 xt0 f0 f1 f2 f4 f7 f8 f9 = Blk.v13 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_13 Blk.v13; rw [e2, e11, e12] <;> rfl
    have e14 : kernelRun.sl.r_14 c i arg2 arg3 arg4 arg6 arg9 arg10 arg11 xt0 f0 f1 f2 f4 f7 f8 f9 = Blk.v14 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_14 Blk.v14; rw [e9, e10] <;> rfl
    have e15 : kernelRun.sl.r_15 c i arg2 arg3 arg4 arg6 arg9 arg10 arg11 xt0 f0 f1 f2 f4 f7 f8 f9 = Blk.v15 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_15 Blk.v15; rw [e9, e10] <;> rfl
    have e16 : kernelRun.sl.r_16 c i arg2 arg3 arg4 arg6 arg9 arg10 arg11 xt0 f0 f1 f2 f4 f7 f8 f9 = Blk.v16 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_16 Blk.v16; rw [e2, e13, e14, e15] <;> rfl
    have e17 : kernelRun.sl.r_17 c i arg2 arg3 arg4 arg6 arg9 arg10 arg11 xt0 f0 f1 f2 f4 f7 f8 f9 = Blk.v17 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_17 Blk.v17; rw [e9, e10] <;> rfl
    have e18 : kernelRun.sl.r_18 c i arg2 arg3 arg4 arg6 arg9 arg10 arg11 xt0 f0 f1 f2 f4 f7 f8 f9 = Blk.v18 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_18 Blk.v18; rw [e9, e10] <;> rfl
    have e19 : kernelRun.sl.r_19 c i arg2 arg3 arg4 arg6 arg9 arg10 arg11 xt0 f0 f1 f2 f4 f7 f8 f9 = Blk.v19 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_19 Blk.v19; rw [e2, e16, e17, e18] <;> rfl
    have e20 : kernelRun.sl.r_20 c i arg2 arg3 arg4 arg6 arg9 arg10 arg11 xt0 f0 f1 f2 f4 f7 f8 f9 = Blk.v20 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_20 Blk.v20; rw [e9, e10] <;> rfl
    have e21 : kernelRun.sl.r_21 c i arg2 arg3 arg4 arg6 arg9 arg10 arg11 xt0 f0 f1 f2 f4 f7 f8 f9 = Blk.v21 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_21 Blk.v21; rw [e2, e19, e20] <;> rfl
    have e22 : kernelRun.sl.r_22 c i arg2 arg3 arg4 arg6 arg9 arg10 arg11 xt0 f0 f1 f2 f4 f7 f8 f9 = Blk.v22 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_22 Blk.v22; rw [e2, e9, e10] <;> rfl
    have e23 : kernelRun.sl.r_23 c i arg2 arg3 arg4 arg6 arg9 arg10 arg11 xt0 f0 f1 f2 f4 f7 f8 f9 = Blk.v23 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_23 Blk.v23; rw [e21, e22] <;> rfl
    have e24 : kernelRun.sl.r_24 c i arg2 arg3 arg4 arg6 arg9 arg10 arg11 xt0 f0 f1 f2 f4 f7 f8 f9 = Blk.v24 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_24 Blk.v24; rw [e2, e9, e10] <;> rfl
    have e25 : kernelRun.sl.r_25 c i arg2 arg3 arg4 arg6 arg9 arg10 arg11 xt0 f0 f1 f2 f4 f7 f8 f9 = Blk.v25 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_25 Blk.v25; rw [e23, e24] <;> rfl
    have e26 : kernelRun.sl.r_26 c i arg2 arg3 arg4 arg6 arg9 arg10 arg11 xt0 f0 f1 f2 f4 f7 f8 f9 = Blk.v26 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_26 Blk.v26; rw [e2, e9, e10] <;> rfl
    have e27 : kernelRun.sl.r_27 c i arg2 arg3 arg4 arg6 arg9 arg10 arg11 xt0 f0 f1 f2 f4 f7 f8 f9 = Blk.v27 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_27 Blk.v27; rw [e2, e9, e10] <;> rfl
    have e28 : kernelRun.sl.r_28 c i arg2 arg3 arg4 arg6 arg9 arg10 arg11 xt0 f0 f1 f2 f4 f7 f8 f9 = Blk.v28 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_28 Blk.v28; rw [e2, e9, e10] <;> rfl
    have e29 : kernelRun.sl.r_29 c i arg2 arg3 arg4 arg6 arg9 arg10 arg11 xt0 f0 f1 f2 f4 f7 f8 f9 = Blk.v29 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_29 Blk.v29; rw [e2, e9, e10, e25, e26, e27] <;> rfl
    have e30 : kernelRun.sl.r_30 c i arg2 arg3 arg4 arg6 arg9 arg10 arg11 xt0 f0 f1 f2 f4 f7 f8 f9 = Blk.v30 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_30 Blk.v30; rw [e2, e9, e10] <;> rfl
    have e31 : kernelRun.sl.r_31 c i arg2 arg3 arg4 arg6 arg9 arg10 arg11 xt0 f0 f1 f2 f4 f7 f8 f9 = Blk.v31 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_31 Blk.v31; rw [e28, e29, e30] <;> rfl
    have eH : kernelRun.sl.HS0_8 c i arg2 arg3 arg4 arg6 arg9 arg10 arg11 xt0 f0 f1 f2 f4 f7 f8 f9 = Blk.hidPieces (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.HS0_8 Blk.hidPieces; rw [e2, e9, e10, e24, e22, e20, e17, e18, e14, e15, e11, e12] <;> rfl
    have ec : kernelRun.sl.v475 c i arg2 arg3 arg4 arg6 arg9 arg10 arg11 arg22 xt0 f0 f1 f2 f4 f7 f8 f9 = Blk.hid (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.v475 Blk.hid; rw [View.readCov_eq_canon', eH] <;> rfl
    have e32 : kernelRun.sl.r_32 c i arg2 arg3 arg4 arg6 arg9 arg10 arg11 arg22 xt0 f0 f1 f2 f4 f7 f8 f9 = Blk.v32 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_32 Blk.v32; rw [e28, e29, e30, ec] <;> rfl
    have e33 : kernelRun.sl.r_33 c i arg2 arg3 arg4 arg6 arg9 arg10 arg11 arg12 arg13 arg14 arg22 xt0 f0 f1 f2 f4 f7 f8 f9 f10 f11 f12 = Blk.v33 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_33 Blk.v33; rw [e2, e31, e32] <;> rfl
    have e34 : kernelRun.sl.r_34 c i arg2 arg3 arg4 arg6 arg9 arg10 arg11 arg12 arg13 arg14 arg22 xt0 f0 f1 f2 f4 f7 f8 f9 f10 f11 f12 = Blk.v34 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_34 Blk.v34; rw [e2, e31, e32] <;> rfl
    have e35 : kernelRun.sl.r_35 c i arg6 xt0 f4 = Blk.v35 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_35 Blk.v35; rw [e1] <;> rfl
    have e36 : kernelRun.sl.r_36 c i arg2 arg3 arg4 arg6 arg9 arg10 arg11 arg12 arg13 arg14 arg22 xt0 f0 f1 f2 f4 f7 f8 f9 f10 f11 f12 = Blk.v36 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_36 Blk.v36; rw [e1, e33, e34] <;> rfl
    have e37 : kernelRun.sl.r_37 c i arg2 arg3 arg4 arg6 arg9 arg10 arg11 arg12 arg13 arg14 arg22 xt0 f0 f1 f2 f4 f7 f8 f9 f10 f11 f12 = Blk.v37 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_37 Blk.v37; rw [e34] <;> rfl
    have e38 : kernelRun.sl.r_38 c i arg2 arg3 arg4 arg5 arg6 arg7 arg8 arg9 arg10 arg11 arg12 arg13 arg14 arg22 xt0 f0 f1 f2 f3 f4 f5 f6 f7 f8 f9 f10 f11 f12 = Blk.v38 (blkAt c i (arg2.view.read (Elt F) f0) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8) (arg11.view.read (Elt F) f9) (arg12.view.read (Elt F) f10) (arg13.view.read (Elt F) f11) (arg14.view.read (Elt F) f12) xt0) := by
      delta kernelRun.sl.r_38 Blk.v38; rw [e3, e35, e36, e37] <;> rfl
    isplitl [H13]
    · iexists _; isplitr; swap; · iexact H13
      ipureintro; refine (read_writes_whole _ _ (by funext a; fin_cases a <;> rfl) _ _).trans ?_
      delta Blk.o13; rw [e38]
    isplitl [H14]
    · iexists _; isplitr; swap; · iexact H14
      ipureintro; refine (read_writes_whole _ _ (by funext a; fin_cases a <;> rfl) _ _).trans ?_
      delta Blk.o14; rw [e5, e6, e8]
    isplitl [H15]
    · iexists _; isplitr; swap; · iexact H15
      ipureintro; refine (read_writes_overlay _ _ _ _).trans ?_
      delta Blk.o15; rw [e6, e7]
    isplitl [H16]
    · iexists _; isplitr; swap; · iexact H16
      ipureintro; refine (read_writes_whole _ _ (by funext a; fin_cases a <;> rfl) _ _).trans ?_
      delta Blk.o16; rw [e32] <;> rfl
    isplitl [H17]
    · iexists _; isplitr; swap; · iexact H17
      ipureintro; refine (read_writes_overlay _ _ _ _).trans ?_
      delta Blk.o17; rw [e31]
    isplitl [H18]
    · iexists _; isplitr; swap; · iexact H18
      ipureintro; refine (read_writes_whole _ _ (by funext a; fin_cases a <;> rfl) _ _).trans ?_
      delta Blk.o18; rw [e35, e36, e37] <;> rfl
    isplitl [H19]
    · iexists _; isplitr; swap; · iexact H19
      ipureintro; refine (read_writes_overlay _ _ _ _).trans ?_
      delta Blk.o19; rw [e35, e37] <;> rfl
    isplitl [HS0]
    · iexists _, _; isplitr; swap; · iexact HS0
      ipureintro; rfl
    iexact HT0

end Cert.KernelIdeal.Gen

end
-- ==== Proof.KernelFrame.lean ====
/- The kernel's whole run: the proof data (what each grid point leaves in the windows), the body's obligation, the launch, and
   the frame. The windows that hold a whole array and are written one row at a point (15, 17 and 19) are held to a predicate:
   the rows written so far are the rows that the points computed. -/
module

public import proofs.«01_k».proof.Proof.KernelRun
public import Idealize.ShloMosaic.Lib.Pipeline.DatRel
public import Idealize.ShloMosaic.Lib.Pipeline.ArrRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (13, 14, 15, 16, 17, 18, 19): nothing reads what the kernel leaves in them, so nothing
    of it is named (Lib/Pipeline/Dat.lean `Dat.toRForget`). -/
def forgets0 : Fin 20 → Bool := fun w => w.val == 13 || w.val == 14 || w.val == 15 || w.val == 16 || w.val == 17 || w.val == 18 || w.val == 19

/-- What the grid point `t` is given. -/
def blkOf (hO : Ok m) (c : Dev nD) (t : Fin (cfgM m hO).N) : Blk F :=
  blkAt c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0)

/-- The rows written up to the point `t` are those that the points computed. -/
def Rows120 (hO : Ok m) (c : Dev nD) (o : Blk F → Vec F S1x120 .f32) (t : Fin (cfgM m hO).N) (X : S12x120.Idx → Elt F .f32) : Prop :=
  ∀ u : Fin (cfgM m hO).N, u.val ≤ t.val → ∀ y : S1x120.Idx,
    X ((Rect.unit (s := S12x120) (k0_off2 (grid0.coords u)) S1x120.size (k0_off2_inb (grid0.coords u))).emb y) = o (blkOf m hO c u) y
/-- The same of the rows of 576. -/
def Rows576 (hO : Ok m) (c : Dev nD) (o : Blk F → Vec F S1x576 .f32) (t : Fin (cfgM m hO).N) (X : S12x576.Idx → Elt F .f32) : Prop :=
  ∀ u : Fin (cfgM m hO).N, u.val ≤ t.val → ∀ y : S1x576.Idx,
    X ((Rect.unit (s := S12x576) (k0_off4 (grid0.coords u)) S1x576.size (k0_off4_inb (grid0.coords u))).emb y) = o (blkOf m hO c u) y

/-- What is known of the windows written a row at a time. -/
def Rl (hO : Ok m) (c : Dev nD) (w : Fin (cfgM m hO).W) (t : Fin (cfgM m hO).N) : (((cfgM m hO).win w).block.Idx → Elt F ((cfgM m hO).win w).elt) → Prop :=
  match w with
    | ⟨15, _⟩ => Rows120 m hO c Blk.o15 t
    | ⟨17, _⟩ => Rows120 m hO c Blk.o17 t
    | ⟨19, _⟩ => Rows576 m hO c Blk.o19 t
    | _ => fun _ => True

/-- The coordinate of a point is its number. -/
theorem coords_val : ∀ t : Fin grid0.N, ((grid0.coords t) 0).val = t.val := by decide +kernel

theorem off2_ne {t u : Fin grid0.N} (h : u.val ≠ t.val) (y : S1x120.Idx) :
    (Rect.unit (s := S12x120) (k0_off2 (grid0.coords u)) S1x120.size (k0_off2_inb (grid0.coords u))).emb y
      ∉ (Rect.unit (s := S12x120) (k0_off2 (grid0.coords t)) S1x120.size (k0_off2_inb (grid0.coords t))).set := fun hm => by
  obtain ⟨z, hz⟩ := LoadRect.exists_idx_of_mem _ hm
  have h0 := congrArg (fun i : S12x120.Idx => (i 0).val) hz
  have e : ∀ (v : Fin grid0.N) (x : S1x120.Idx), (((Rect.unit (s := S12x120) (k0_off2 (grid0.coords v)) S1x120.size (k0_off2_inb (grid0.coords v))).emb x) 0).val = v.val := fun v x => by
    show k0_off2 (grid0.coords v) 0 + 1 * (x 0).val = _
    rw [k0_off2_eq, show (x 0).val = 0 from Nat.lt_one_iff.mp (x 0).isLt]
    exact coords_val v
  exact h ((e u y).symm.trans (h0.symm.trans (e t z)))

theorem off4_ne {t u : Fin grid0.N} (h : u.val ≠ t.val) (y : S1x576.Idx) :
    (Rect.unit (s := S12x576) (k0_off4 (grid0.coords u)) S1x576.size (k0_off4_inb (grid0.coords u))).emb y
      ∉ (Rect.unit (s := S12x576) (k0_off4 (grid0.coords t)) S1x576.size (k0_off4_inb (grid0.coords t))).set := fun hm => by
  obtain ⟨z, hz⟩ := LoadRect.exists_idx_of_mem _ hm
  have h0 := congrArg (fun i : S12x576.Idx => (i 0).val) hz
  have e : ∀ (v : Fin grid0.N) (x : S1x576.Idx), (((Rect.unit (s := S12x576) (k0_off4 (grid0.coords v)) S1x576.size (k0_off4_inb (grid0.coords v))).emb x) 0).val = v.val := fun v x => by
    show k0_off4 (grid0.coords v) 0 + 1 * (x 0).val = _
    rw [k0_off4_eq, show (x 0).val = 0 from Nat.lt_one_iff.mp (x 0).isLt]
    exact coords_val v
  exact h ((e u y).symm.trans (h0.symm.trans (e t z)))

/-- One row more. -/
theorem Rows120.next (hO : Ok m) (c : Dev nD) (o : Blk F → Vec F S1x120 .f32) (t : Fin (cfgM m hO).N) (Y : S12x120.Idx → Elt F .f32)
    (h : ∀ u : Fin (cfgM m hO).N, u.val < t.val → ∀ y : S1x120.Idx,
      Y ((Rect.unit (s := S12x120) (k0_off2 (grid0.coords u)) S1x120.size (k0_off2_inb (grid0.coords u))).emb y) = o (blkOf m hO c u) y) :
    Rows120 m hO c o t ((Rect.unit (s := S12x120) (k0_off2 (grid0.coords t)) S1x120.size (k0_off2_inb (grid0.coords t))).overlay Y (o (blkOf m hO c t))) := fun u hu y => by
  rcases Nat.lt_or_eq_of_le hu with hl | he
  · rw [Rect.overlay_of_not_mem _ _ _ (off2_ne (Nat.ne_of_lt hl) y)]; exact h u hl y
  · obtain rfl : u = t := Fin.ext he
    exact Rect.overlay_emb _ _ _ _

theorem Rows576.next (hO : Ok m) (c : Dev nD) (o : Blk F → Vec F S1x576 .f32) (t : Fin (cfgM m hO).N) (Y : S12x576.Idx → Elt F .f32)
    (h : ∀ u : Fin (cfgM m hO).N, u.val < t.val → ∀ y : S1x576.Idx,
      Y ((Rect.unit (s := S12x576) (k0_off4 (grid0.coords u)) S1x576.size (k0_off4_inb (grid0.coords u))).emb y) = o (blkOf m hO c u) y) :
    Rows576 m hO c o t ((Rect.unit (s := S12x576) (k0_off4 (grid0.coords t)) S1x576.size (k0_off4_inb (grid0.coords t))).overlay Y (o (blkOf m hO c t))) := fun u hu y => by
  rcases Nat.lt_or_eq_of_le hu with hl | he
  · rw [Rect.overlay_of_not_mem _ _ _ (off4_ne (Nat.ne_of_lt hl) y)]; exact h u hl y
  · obtain rfl : u = t := Fin.ext he
    exact Rect.overlay_emb _ _ _ _

/-- The proof data: the arrays as the region finds them, and what the body leaves in each window. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => Blk.o13 (blkOf m hO c t)
    | ⟨14, _⟩ => Blk.o14 (blkOf m hO c t)
    | ⟨15, h⟩ => Pipeline.Dat.unnamed (cfg := (cfgM m hO)) ⟨15, h⟩ t
    | ⟨16, _⟩ => Blk.o16 (blkOf m hO c t)
    | ⟨17, h⟩ => Pipeline.Dat.unnamed (cfg := (cfgM m hO)) ⟨17, h⟩ t
    | ⟨18, _⟩ => Blk.o18 (blkOf m hO c t)
    | ⟨19, h⟩ => Pipeline.Dat.unnamed (cfg := (cfgM m hO)) ⟨19, h⟩ t
    | ⟨_ + 20, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl

theorem after0_13 (hO : Ok m) (c : Dev nD) (t : Fin (cfgM m hO).N) : (dats m hO 0 c).after 13 t = Blk.o13 (blkOf m hO c t) := by dsimp only [dats]; try rfl
theorem after0_14 (hO : Ok m) (c : Dev nD) (t : Fin (cfgM m hO).N) : (dats m hO 0 c).after 14 t = Blk.o14 (blkOf m hO c t) := by dsimp only [dats]; try rfl
theorem after0_16 (hO : Ok m) (c : Dev nD) (t : Fin (cfgM m hO).N) : (dats m hO 0 c).after 16 t = Blk.o16 (blkOf m hO c t) := by dsimp only [dats]; try rfl
theorem after0_18 (hO : Ok m) (c : Dev nD) (t : Fin (cfgM m hO).N) : (dats m hO 0 c).after 18 t = Blk.o18 (blkOf m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d

/-! ## The body obligation, at a generic point -/

/-- The windows held to a predicate. -/
def marked : Fin 20 → Bool := fun w => match w with | ⟨15, _⟩ => true | ⟨17, _⟩ => true | ⟨19, _⟩ => true | _ => false

/-- The proof data with those windows held to it. -/
abbrev rdats (hO : Ok m) (c : Dev nD) := (dats m hO 0 c).toRRel marked (Rl m hO c)

/-- What a point finds in such a window: the rows of the points before it. -/
theorem finds_rows (hO : Ok m) (c : Dev nD) (w : Fin (cfgM m hO).W) (hw : marked w = true) (hout : ((cfgM m hO).win w).isOut = true)
    (hfl : ∀ t : Fin (cfgM m hO).N, ((cfgM m hO).win w).flush t = true → t.val % 12 = 11) (t : Fin (cfgM m hO).N) (Y)
    (hY : (rdats m hO c).Finds w t Y) (u : Fin (cfgM m hO).N) (hu : u.val < t.val) :
    ∃ t' : Fin (cfgM m hO).N, t'.val + 1 = t.val ∧ Rl m hO c w t' Y := by
  have h12 : (cfgM m hO).N = 12 := rfl
  have ht := t.isLt
  rcases ((rdats m hO c).finds_of_pos (((cfgM m hO).win w).fetch_out hout t) (by omega) Y).mp hY with h | h
  · have := hfl _ h
    simp only at this
    omega
  · exact ⟨_, by show t.val - 1 + 1 = t.val; omega, (dats m hO 0 c).toRRel_leaves hw h⟩

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ Y, ⌜(rdats m hO c).Finds 15 t Y⌝ ∗ owns (c : Thread nD τ) (ms0_15 m hO t) fullShare Y)
    ∗ (∃ d, owns (c : Thread nD τ) (ms0_16 m hO t) fullShare ((dats m hO 0 c).before 16 t d))
    ∗ (∃ Y, ⌜(rdats m hO c).Finds 17 t Y⌝ ∗ owns (c : Thread nD τ) (ms0_17 m hO t) fullShare Y)
    ∗ (∃ d, owns (c : Thread nD τ) (ms0_18 m hO t) fullShare ((dats m hO 0 c).before 18 t d))
    ∗ (∃ Y, ⌜(rdats m hO c).Finds 19 t Y⌝ ∗ owns (c : Thread nD τ) (ms0_19 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ (∃ X, ⌜Rl m hO c 15 t X⌝ ∗ owns (c : Thread nD τ) (ms0_15 m hO t) fullShare X)
    ∗ owns (c : Thread nD τ) (ms0_16 m hO t) fullShare ((dats m hO 0 c).after 16 t)
    ∗ (∃ X, ⌜Rl m hO c 17 t X⌝ ∗ owns (c : Thread nD τ) (ms0_17 m hO t) fullShare X)
    ∗ owns (c : Thread nD τ) (ms0_18 m hO t) fullShare ((dats m hO 0 c).after 18 t)
    ∗ (∃ X, ⌜Rl m hO c 19 t X⌝ ∗ owns (c : Thread nD τ) (ms0_19 m hO t) fullShare X))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_16, after0_18]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, %h15, H15⟩, ⟨%d16, H16⟩, ⟨%d17, %h17, H17⟩, ⟨%d18, H18⟩, ⟨%d19, %h19, H19⟩⟩
  iapply ((kernelRun c (grid0.coords t) _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) _ _ _ _ _ _ _ (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HT0]; · iexact HT0
  iintro ⟨H0, H1, H2, H3, H4, H5, H6, H7, H8, H9, H10, H11, H12, H13, H14, H15, H16, H17, H18, H19, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists _; isplitr; swap; · iexact H15
    ipureintro
    refine Rows120.next m hO c Blk.o15 t d15 fun u hu y => ?_
    obtain ⟨t', ht', hr⟩ := finds_rows m hO c 15 rfl rfl (fun t h => (flush0_15 (adm m hO) t).mp h) t d15 h15 u hu
    exact hr u (by omega) y
  isplitl [H16]; · iexact H16
  isplitl [H17]
  · iexists _; isplitr; swap; · iexact H17
    ipureintro
    refine Rows120.next m hO c Blk.o17 t d17 fun u hu y => ?_
    obtain ⟨t', ht', hr⟩ := finds_rows m hO c 17 rfl rfl (fun t h => (flush0_17 (adm m hO) t).mp h) t d17 h17 u hu
    exact hr u (by omega) y
  isplitl [H18]; · iexact H18
  iexists _; isplitr; swap; · iexact H19
  ipureintro
  refine Rows576.next m hO c Blk.o19 t d19 fun u hu y => ?_
  obtain ⟨t', ht', hr⟩ := finds_rows m hO c 19 rfl rfl (fun t h => (flush0_19 (adm m hO) t).mp h) t d19 h19 u hu
  exact hr u (by omega) y

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : Pipeline.BodyObligationRel (dats (F := F) m hO 0 c) (defs₀ (F := F)) Variants.none () Set.univ marked (Rl m hO c) := fun t => by
  rw [bigSep_W0, bigSep_W0, defs₀_row m hO]
  exact triple_restated (sound_body m hO c t) rfl .rfl fun _ => .rfl

/-! ## The run and the frame -/

set_option backward.isDefEq.respectTransparency.types false in
/-- The launch: every execution ends, the arrays in the relation that the proof data give, every semaphore counter at zero. -/
theorem run_main_quiescent (hO : Ok m) : θ_run defs (onTc (τ := τ) (main (F := F))) (s₀ m ρ) (fun r => (Pipeline.RDat.FramePost ((Pipeline.pin pcfgs fun _ => adm m hO) 0) (fun c => rdats m hO c) (V m)) r ∧ r.2.sem = fun _ => 0) :=
  Pipeline.RDat.θ_run_frameP (Q' := _) pcfgs (fun _ => adm m hO) (0 : Fin 1) launch0 defs₀ Variants.none (fun c => rdats m hO c) m ρ main
    (hbody := fun c => Pipeline.BodyObligationRel.toRRel (dats m hO 0 c) (body_obligation m hO c)) (hshare := fun c => (dats m hO 0 c).share_full fun _ => rfl)
    (howed := fun _ _ => rfl) (V := V m) (hmain := hmain m Variants.none) (hA := A_eq m hO) (hpf := V_pre m) (hΦ := fun _ _ => rfl)

/-- The same without the counters. -/
theorem run_main (hO : Ok m) : θ_run defs (onTc (τ := τ) (main (F := F))) (s₀ m ρ) (Pipeline.RDat.FramePost ((Pipeline.pin pcfgs fun _ => adm m hO) 0) (fun c => rdats m hO c) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => rdats m hO c) (A_eq m hO) (run_main m ρ hO)

/-- The frame: the argument arrays end unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.KernelIdeal.Gen

end
-- ==== Proof.Spec.lean ====
/- The layer, row by row, over the extended reals: what one listed token's row becomes. Both programs are shown to
   compute these functions (KernelBlock.lean, RefBlock.lean), so that the two can be compared. -/
module

public import Idealize.ShloMosaic.PureOps.Ideal

@[expose] public section

noncomputable section

namespace Cert.Spec

open Idealize.ShloMosaic
open scoped BigOperators

/-- The largest magnitude of a row, times the single-precision number nearest 1/448. -/
def quo {n : ℕ} (v : Fin n → EReal) : EReal :=
  Finset.fold max (Ideal.ofBits .f32 4286578688#32) (fun k => FloatOps.absf (F := Ideal) (φ := .f32) (v k)) Finset.univ
    * Ideal.ofBits .f32 991054117#32

/-- Is `q` a normal single-precision magnitude below `2 ^ 126`? -/
def normal (q : EReal) : BitVec 1 :=
  IntOp.andi (BitVec.ofBool (decide (Ideal.ofBits .f32 8388608#32 ≤ q)))
    (BitVec.ofBool (decide (q < Ideal.ofBits .f32 2122317824#32)))

/-- The exponent of a row's scale: one more than the floor of the binary logarithm of `q`; 0 where `q` is not normal. -/
def ex (q : EReal) : EReal :=
  Scalar.select (normal q)
    (Ideal.liftRound Int.floor (Ideal.div (Ideal.log (Scalar.select (normal q) q 1)) ((Real.log 2 : ℝ) : EReal)) + 1) 0

/-- A row's scale, -/
def sca (q : EReal) : EReal := FloatOps.exp2 (F := Ideal) (φ := .f32) (ex q)

/-- and its inverse. -/
def inv (q : EReal) : EReal := FloatOps.exp2 (F := Ideal) (φ := .f32) (0 - ex q)

/-- A scaled value held within ±448. -/
def clip (v : EReal) : EReal := min (Ideal.ofBits .f32 1138753536#32) (max (Ideal.ofBits .f32 3286237184#32) v)

/-- The codes of a row. -/
def codes {n : ℕ} (v : Fin n → EReal) (k : Fin n) : EReal := clip (v k * inv (quo v))

/-- The scale of a row. -/
def scale {n : ℕ} (v : Fin n → EReal) : EReal := sca (quo v)

/-- A row less its mean, -/
def centred (x : Fin 1024 → EReal) (k : Fin 1024) : EReal :=
  x k - Ideal.div (∑ j, x j) (Ideal.ofBits .f32 1149239296#32)

/-- over its standard deviation. -/
def norm (x : Fin 1024 → EReal) (k : Fin 1024) : EReal :=
  centred x k * Ideal.rsqrt
    (Ideal.div (∑ j, centred x j * centred x j) (Ideal.ofBits .f32 1149239296#32) + Ideal.ofBits .f32 897988541#32)

/-- The row normalised, scaled and shifted; zero where the row is not live. -/
def hrow (live : BitVec 1) (x sc sh : Fin 1024 → EReal) (k : Fin 1024) : EReal :=
  Scalar.select live (norm x k * (1 + sc k) + sh k) 0

/-- The gelu in its tanh form. -/
def gelu (u : EReal) : EReal :=
  u * (Ideal.ofBits .f32 1056964608#32
    * (1 + Ideal.tanh (Ideal.ofBits .f32 1061962282#32 * (u + Ideal.ofBits .f32 1027024659#32 * (u * u * u)))))

/-- One entry of a product of a row's codes with a matrix, decoded and biased. -/
def lin {n : ℕ} (v w : Fin n → EReal) (a b : EReal) : EReal :=
  (∑ k, codes v k * w k) * scale v * a + b

/-- The hidden row. -/
def grow (live : BitVec 1) (h : Fin 1024 → EReal) (w1 : Fin 1024 → Fin 4096 → EReal) (s1 b1 : Fin 4096 → EReal)
    (f : Fin 4096) : EReal :=
  Scalar.select live (gelu (lin h (fun k => w1 k f) (s1 f) (b1 f))) 0

/-- The output row. -/
def yrow (live : BitVec 1) (g : Fin 4096 → EReal) (w2 : Fin 4096 → Fin 1024 → EReal) (s2 b2 : Fin 1024 → EReal)
    (k : Fin 1024) : EReal :=
  Scalar.select live (lin g (fun f => w2 f k) (s2 k) (b2 k)) 0

end Cert.Spec

end
-- ==== Proof.Scale.lean ====
/- The kernel reads a row's scale off an exponent field; the definition takes a logarithm. Over the reals they agree. -/
module

public import proofs.«01_k».proof.Proof.Spec
public import Idealize.ShloMosaic.Lib.Pointwise

@[expose] public section

set_option maxRecDepth 16384

noncomputable section

namespace Cert.Spec

open Idealize.ShloMosaic
open scoped BigOperators

/-- The power of two an exponent field `k`, held to at most 253, stands for. -/
def power (k : ℕ) : EReal :=
  Ideal.ofBits .f32 (IntOp.shli ArithUnit.vector (IntOp.minsi (BitVec.ofNat 32 k) 253#32) 23#32)

/-- The largest field whose power of two is not above `q`. -/
def field (q : EReal) : BitVec 32 :=
  Finset.fold IntOp.maxsi 2147483648#32 (fun k : Fin 256 => if power ↑k ≤ q then BitVec.ofNat 32 ↑k else 0#32) Finset.univ

/-- A field that is no normal number's, as one bit. -/
def special (e : BitVec 32) : BitVec 1 := IntOp.ori (IntOp.cmpi CmpIPredicate.eq e 0#32) (IntOp.cmpi CmpIPredicate.eq e 255#32)

/-- The scale read off the field, -/
def ksca (q : EReal) : EReal :=
  Scalar.select (special (field q)) 1 (Ideal.ofBits .f32 (IntOp.shli ArithUnit.vector (IntOp.addi (field q) 1#32) 23#32))

/-- and its inverse. -/
def kinv (q : EReal) : EReal :=
  Scalar.select (special (field q)) 1 (Ideal.ofBits .f32 (IntOp.shli ArithUnit.vector (IntOp.subi 253#32 (field q)) 23#32))

/-- The number an exponent field between 1 and 254 stands for. -/
theorem ofBits_field (E : ℕ) (h1 : 1 ≤ E) (h2 : E ≤ 254) :
    Ideal.ofBits .f32 (BitVec.ofNat 32 E <<< 23) = (((2 : ℝ) ^ ((E : ℤ) - 127) : ℝ) : EReal) := by
  have key : ∀ k : Fin 255, (((BitVec.ofNat 32 (k : ℕ) <<< 23).extractLsb' 31 1 == 1#1) = false)
      ∧ ((BitVec.ofNat 32 (k : ℕ) <<< 23).extractLsb' 23 8).toNat = k
      ∧ ((BitVec.ofNat 32 (k : ℕ) <<< 23).extractLsb' 0 23).toNat = 0 := by decide +kernel
  obtain ⟨ha, hb, hc⟩ := key ⟨E, by omega⟩
  simp only at ha hb hc
  simp only [Ideal.ofBits, Ideal.ieee, Nat.reduceAdd, ha, hb, hc]
  rw [if_neg (by omega), if_neg (by omega)]
  simp only [Bool.false_eq_true, if_false, one_mul, Nat.add_zero, Nat.cast_pow, Nat.cast_ofNat]
  have h : (2 : ℝ) ^ 23 * (2 : ℝ) ^ ((E : ℤ) - (2 ^ (8 - 1) - 1) - 23) = (2 : ℝ) ^ ((E : ℤ) - 127) := by
    rw [← zpow_natCast (2 : ℝ) 23, ← zpow_add₀ (by norm_num)]
    have : ((23 : ℕ) : ℤ) + ((E : ℤ) - (2 ^ (8 - 1) - 1) - 23) = (E : ℤ) - 127 := by norm_num
    rw [this]
  rw [h]

theorem power_zero : power 0 = 0 := by
  have : IntOp.shli ArithUnit.vector (IntOp.minsi (BitVec.ofNat 32 0) 253#32) 23#32 = 0#32 := by decide
  rw [power, this]; exact Ideal.ofBits_zero_f32

theorem power_pos (k : ℕ) (h1 : 1 ≤ k) (h2 : k ≤ 255) :
    power k = (((2 : ℝ) ^ ((min k 253 : ℕ) - 127 : ℤ) : ℝ) : EReal) := by
  have key : ∀ k : Fin 256, IntOp.shli ArithUnit.vector (IntOp.minsi (BitVec.ofNat 32 (k : ℕ)) 253#32) 23#32
      = BitVec.ofNat 32 (min (k : ℕ) 253) <<< 23 := by decide +kernel
  have := key ⟨k, by omega⟩
  simp only at this
  rw [power, this, ofBits_field _ (by omega) (by omega)]

/-- A maximum of words that is one of them and not below any is that one. -/
theorem fold_maxsi_eq {n : ℕ} (f : Fin n → BitVec 32) (v : BitVec 32) (hle : ∀ k, (f k).toInt ≤ v.toInt)
    (k₀ : Fin n) (hk : f k₀ = v) (h0 : (-2147483648 : ℤ) ≤ v.toInt) :
    Finset.fold IntOp.maxsi 2147483648#32 f Finset.univ = v := by
  have hr : ∀ x y z : BitVec 32, (IntOp.maxsi y z).toInt ≤ x.toInt ↔ y.toInt ≤ x.toInt ∧ z.toInt ≤ x.toInt := by
    intro x y z
    simp only [IntOp.maxsi, BitVec.slt_iff_toInt_lt]
    split <;> constructor <;> intro h <;> (try constructor) <;> (try obtain ⟨h1, h2⟩ := h) <;> omega
  have hfold := fun c : BitVec 32 =>
    Finset.fold_op_rel_iff_and (op := (IntOp.maxsi : BitVec 32 → BitVec 32 → BitVec 32)) (f := f) (b := 2147483648#32) (s := Finset.univ)
      (r := fun x y => y.toInt ≤ x.toInt) (fun {x y z} => hr x y z) (c := c)
  apply BitVec.toInt_inj.1
  apply le_antisymm
  · exact (hfold v).2 ⟨by simpa using h0, fun k _ => hle k⟩
  · have := ((hfold _).1 (le_refl _)).2 k₀ (Finset.mem_univ _)
    rwa [hk] at this

theorem toInt_ofNat (k : ℕ) (h : k ≤ 255) : (BitVec.ofNat 32 k).toInt = k := by
  rw [BitVec.toInt_eq_toNat_of_lt] <;> simp only [BitVec.toNat_ofNat] <;> omega

/-- The field of a number. -/
theorem field_eq (q : EReal) (E : ℕ) (hE : E ≤ 255) (hlo : power E ≤ q) (hhi : ∀ k, E < k → k ≤ 255 → ¬ power k ≤ q) :
    field q = BitVec.ofNat 32 E := by
  unfold field
  apply fold_maxsi_eq _ _ ?_ ⟨E, by omega⟩ (if_pos hlo) (by rw [toInt_ofNat _ hE]; omega)
  intro k
  split
  · rename_i h
    rw [toInt_ofNat _ (by omega), toInt_ofNat _ hE]
    by_contra hc
    exact hhi k (by omega) (by omega) h
  · rw [toInt_ofNat _ hE]; simp

theorem tiny_eq : Ideal.ofBits .f32 8388608#32 = (((2 : ℝ) ^ (-126 : ℤ) : ℝ) : EReal) := by
  have := ofBits_field 1 (by omega) (by omega)
  simpa using this

theorem huge_eq : Ideal.ofBits .f32 2122317824#32 = (((2 : ℝ) ^ (126 : ℤ) : ℝ) : EReal) := by
  have := ofBits_field 253 (by omega) (by omega)
  simpa using this

/-- Two to a whole power. -/
theorem exp2_int (z : ℤ) : FloatOps.exp2 (F := Ideal) (φ := .f32) (((z : ℝ)) : EReal) = (((2 : ℝ) ^ z : ℝ) : EReal) := by
  show ((Real.rpow 2 (z : ℝ) : ℝ) : EReal) = _
  rw [EReal.coe_eq_coe_iff]
  exact Real.rpow_intCast 2 z

/-- The field and the exponent of a number that is not negative: both scales are 1 where it is not normal, else the
    same power of two. -/
theorem scale_eq (q : EReal) (h0 : 0 ≤ q) : (ksca q = sca q ∧ kinv q = inv q) ∧ 0 < sca q := by
  have one : (1 : EReal) = ((1 : ℝ) : EReal) := rfl
  by_cases hlo : Ideal.ofBits .f32 8388608#32 ≤ q
  swap
  · have hn : normal q = 0#1 := by simp [normal, hlo, IntOp.andi]
    have hf : field q = BitVec.ofNat 32 0 := by
      refine field_eq q 0 (by omega) (by rw [power_zero]; exact h0) fun k hk hk' hc => hlo ?_
      rw [power_pos k hk hk'] at hc
      rw [tiny_eq]
      refine le_trans ?_ hc
      rw [EReal.coe_le_coe_iff]
      exact zpow_le_zpow_right₀ (by norm_num) (by omega)
    have hs : special (BitVec.ofNat 32 0) = 1#1 := by decide
    have he : ex q = 0 := by simp [ex, hn, Scalar.select]
    simp only [ksca, kinv, sca, inv, hf, hs, he, Scalar.select, if_true]
    have hx : FloatOps.exp2 (F := Ideal) (φ := .f32) (0 : EReal) = 1 := by
      have := exp2_int 0
      simpa using this
    have h10 : ((1#1 : BitVec 1) = 1) := rfl
    exact ⟨⟨by rw [hx, if_pos h10], by rw [show (0 : EReal) - 0 = 0 by simp, hx, if_pos h10]⟩, by rw [hx]; exact zero_lt_one⟩
  by_cases hhi : q < Ideal.ofBits .f32 2122317824#32
  swap
  · have hn : normal q = 0#1 := by simp [normal, hhi, IntOp.andi]
    have hf : field q = BitVec.ofNat 32 255 := by
      refine field_eq q 255 (by omega) ?_ (fun k hk hk' => by omega)
      rw [power_pos 255 (by omega) (by omega)]
      have := not_lt.1 hhi
      rw [huge_eq] at this
      exact this
    have hs : special (BitVec.ofNat 32 255) = 1#1 := by decide
    have he : ex q = 0 := by simp [ex, hn, Scalar.select]
    simp only [ksca, kinv, sca, inv, hf, hs, he, Scalar.select, if_true]
    have hx : FloatOps.exp2 (F := Ideal) (φ := .f32) (0 : EReal) = 1 := by
      have := exp2_int 0
      simpa using this
    have h10 : ((1#1 : BitVec 1) = 1) := rfl
    exact ⟨⟨by rw [hx, if_pos h10], by rw [show (0 : EReal) - 0 = 0 by simp, hx, if_pos h10]⟩, by rw [hx]; exact zero_lt_one⟩
  have hn : normal q = 1#1 := by simp [normal, hlo, hhi, IntOp.andi]
  rw [tiny_eq] at hlo
  rw [huge_eq] at hhi
  induction q using EReal.rec with
  | bot => simp at hlo
  | top => simp at hhi
  | coe r =>
    rw [EReal.coe_le_coe_iff] at hlo
    rw [EReal.coe_lt_coe_iff] at hhi
    have hr : 0 < r := lt_of_lt_of_le (by positivity) hlo
    have hl2 : 0 < Real.log 2 := Real.log_pos (by norm_num)
    obtain ⟨L, hL1, hL2⟩ := exists_mem_Ico_zpow hr (show (1 : ℝ) < 2 by norm_num)
    have hLa : -126 ≤ L := by
      by_contra hc
      have : (2 : ℝ) ^ (L + 1) ≤ (2 : ℝ) ^ (-126 : ℤ) := zpow_le_zpow_right₀ (by norm_num) (by omega)
      linarith
    have hLb : L ≤ 125 := by
      by_contra hc
      have : (2 : ℝ) ^ (126 : ℤ) ≤ (2 : ℝ) ^ L := zpow_le_zpow_right₀ (by norm_num) (by omega)
      linarith
    have hfl : ⌊Real.log r / Real.log 2⌋ = L := by
      rw [Int.floor_eq_iff, le_div_iff₀ hl2, div_lt_iff₀ hl2]
      constructor
      · have := Real.log_le_log (by positivity) hL1
        rwa [Real.log_zpow] at this
      · have := Real.log_lt_log hr hL2
        rw [Real.log_zpow] at this
        push_cast at this
        exact this
    obtain ⟨E, hE⟩ : ∃ E : ℕ, (E : ℤ) = L + 127 := ⟨(L + 127).toNat, by omega⟩
    have hEl : 1 ≤ E := by omega
    have hEh : E ≤ 252 := by omega
    have hf : field (r : EReal) = BitVec.ofNat 32 E := by
      refine field_eq _ E (by omega) ?_ fun k hk hk' hc => ?_
      · rw [power_pos E hEl (by omega), EReal.coe_le_coe_iff]
        rw [show ((min E 253 : ℕ) - 127 : ℤ) = L by omega]
        exact hL1
      · rw [power_pos k (by omega) hk', EReal.coe_le_coe_iff] at hc
        have : (2 : ℝ) ^ (L + 1) ≤ (2 : ℝ) ^ ((min k 253 : ℕ) - 127 : ℤ) :=
          zpow_le_zpow_right₀ (by norm_num) (by omega)
        linarith
    have hs : special (BitVec.ofNat 32 E) = 0#1 := by
      have key : ∀ k : Fin 253, 1 ≤ (k : ℕ) → special (BitVec.ofNat 32 (k : ℕ)) = 0#1 := by decide +kernel
      exact key ⟨E, by omega⟩ hEl
    have hb1 : IntOp.shli ArithUnit.vector (IntOp.addi (BitVec.ofNat 32 E) 1#32) 23#32 = BitVec.ofNat 32 (E + 1) <<< 23 := by
      have key : ∀ k : Fin 253, IntOp.shli ArithUnit.vector (IntOp.addi (BitVec.ofNat 32 (k : ℕ)) 1#32) 23#32
        = BitVec.ofNat 32 ((k : ℕ) + 1) <<< 23 := by decide +kernel
      exact key ⟨E, by omega⟩
    have hb2 : IntOp.shli ArithUnit.vector (IntOp.subi 253#32 (BitVec.ofNat 32 E)) 23#32 = BitVec.ofNat 32 (253 - E) <<< 23 := by
      have key : ∀ k : Fin 253, IntOp.shli ArithUnit.vector (IntOp.subi 253#32 (BitVec.ofNat 32 (k : ℕ))) 23#32
        = BitVec.ofNat 32 (253 - (k : ℕ)) <<< 23 := by decide +kernel
      exact key ⟨E, by omega⟩
    have he : ex (r : EReal) = ((((L : ℤ) : ℝ) + 1 : ℝ) : EReal) := by
      have h10 : ((1#1 : BitVec 1) = 1) := rfl
      simp only [ex, hn, Scalar.select, if_pos h10]
      have h1 : Ideal.log (r : EReal) = ((Real.log r : ℝ) : EReal) := by
        show (if r ≤ 0 then ⊥ else (Real.log r : EReal)) = _
        rw [if_neg (by linarith)]
      have h2 : Ideal.div ((Real.log r : ℝ) : EReal) ((Real.log 2 : ℝ) : EReal) = ((Real.log r / Real.log 2 : ℝ) : EReal) := by
        unfold Ideal.div
        rw [if_neg (by simpa using hl2.ne'), ← EReal.coe_inv, ← EReal.coe_mul, div_eq_mul_inv]
      rw [h1, h2]
      show (((⌊Real.log r / Real.log 2⌋ : ℤ) : ℝ) : EReal) + 1 = _
      rw [hfl]; rfl
    refine ⟨⟨?_, ?_⟩, ?_⟩
    · simp only [ksca, sca, hf, hs, hb1, Scalar.select]
      rw [if_neg (by decide), ofBits_field _ (by omega) (by omega), he,
        show ((L : ℤ) : ℝ) + 1 = ((L + 1 : ℤ) : ℝ) by push_cast; rfl, exp2_int]
      congr 2; push_cast; omega
    · simp only [kinv, inv, hf, hs, hb2, Scalar.select]
      rw [if_neg (by decide), ofBits_field _ (by omega) (by omega), he,
        show (0 : EReal) - ((((L : ℤ) : ℝ) + 1 : ℝ) : EReal) = (((-(L + 1) : ℤ) : ℝ) : EReal) by
          rw [zero_sub, ← EReal.coe_neg]; push_cast; rfl, exp2_int]
      congr 2; omega
    · simp only [sca]
      rw [he, show ((L : ℤ) : ℝ) + 1 = ((L + 1 : ℤ) : ℝ) by push_cast; rfl, exp2_int]
      rw [show (0 : EReal) = ((0 : ℝ) : EReal) from rfl, EReal.coe_lt_coe_iff]
      positivity

/-- The start of a maximum is −∞. -/
theorem negInf_eq : Ideal.ofBits .f32 4286578688#32 = ⊥ := by
  simp [Ideal.ofBits, Ideal.ieee]

/-- The factor of `quo` is positive. -/
theorem factor_nonneg : (0 : EReal) ≤ Ideal.ofBits .f32 991054117#32 := by
  have h1 : (((991054117#32).extractLsb' 31 1 == 1#1) = false)
      ∧ ((991054117#32).extractLsb' 23 8).toNat = 118
      ∧ ((991054117#32).extractLsb' 0 23).toNat = 1198373 := by decide +kernel
  obtain ⟨ha, hb, hc⟩ := h1
  simp only [Ideal.ofBits, Ideal.ieee, Nat.reduceAdd, ha, hb, hc]
  rw [if_neg (by omega), if_neg (by omega)]
  rw [show (0 : EReal) = ((0 : ℝ) : EReal) from rfl, EReal.coe_le_coe_iff]
  simp only [Bool.false_eq_true, if_false, one_mul]
  positivity

/-- A magnitude is not negative. -/
theorem absf_nonneg (v : EReal) : 0 ≤ FloatOps.absf (F := Ideal) (φ := .f32) v := by
  show (0 : EReal) ≤ max v (-v)
  rcases le_total 0 v with h | h
  · exact le_max_of_le_left h
  · exact le_max_of_le_right (by simpa using EReal.neg_le_neg_iff.2 h)

/-- The quotient of a row is not negative. -/
theorem quo_nonneg {n : ℕ} (hn : 0 < n) (v : Fin n → EReal) : 0 ≤ quo v := by
  unfold quo
  refine mul_nonneg ?_ factor_nonneg
  rw [Finset.le_fold_max]
  exact Or.inr ⟨⟨0, hn⟩, Finset.mem_univ _, absf_nonneg _⟩

theorem ksca_quo {n : ℕ} (hn : 0 < n) (v : Fin n → EReal) : ksca (quo v) = scale v := (scale_eq _ (quo_nonneg hn v)).1.1
theorem kinv_quo {n : ℕ} (hn : 0 < n) (v : Fin n → EReal) : kinv (quo v) = inv (quo v) := (scale_eq _ (quo_nonneg hn v)).1.2

/-- A scale is positive. -/
theorem scale_pos {n : ℕ} (hn : 0 < n) (v : Fin n → EReal) : 0 < scale v := (scale_eq _ (quo_nonneg hn v)).2

end Cert.Spec

end
-- ==== Proof.KernelPay.lean ====
/- The kernel's payloads read one entry at a time, over the extended reals, at any operands. -/
module

public import proofs.«01_k».proof.Proof.KernelValue
public import proofs.«01_k».proof.Proof.Scale

@[expose] public section

set_option maxRecDepth 16384

noncomputable section

namespace Cert.KernelIdeal.Gen

open Idealize.ShloMosaic Idealize.ShloMosaic.TcCoe
open Cert

/-- A listed row, −1 where it is not live. -/
theorem pay2_at (n : BitVec 32) (ids : Vec Ideal S1x120 .i32) (r : Fin 128) :
    k0_pay2 (F := Ideal) n ids (ix2 0 r) = Scalar.select (IntOp.cmpi .slt (BitVec.ofNat 32 ↑r) n)
      (if h : (r : ℕ) < 120 then ids (ix2 0 ⟨r, h⟩) else 0#32) 4294967295#32 := by
  pointwise [k0_pay2]

/-- The same as a column. -/
theorem pay3_at (n : BitVec 32) (ids : Vec Ideal S1x120 .i32) (r : Fin 128) :
    k0_pay3 (F := Ideal) n ids (ix2 r 0) = k0_pay2 (F := Ideal) n ids (ix2 0 r) := by
  pointwise [k0_pay3]

/-- A listed row is live where its number is not negative. -/
theorem pay4_at (n : BitVec 32) (ids : Vec Ideal S1x120 .i32) (r : Fin 128) :
    k0_pay4 (F := Ideal) n ids (ix2 r 0) = IntOp.cmpi .sge (k0_pay2 (F := Ideal) n ids (ix2 0 r)) 0#32 := by
  rw [← pay3_at]; pointwise [k0_pay4]

/-- The picked rows, normalised. -/
theorem pay6_at (n : BitVec 32) (ids : Vec Ideal S1x120 .i32) (x : Vec Ideal S1x576x1024 .bf16) (r : Fin 128) (k : Fin 1024) :
    k0_pay6 (F := Ideal) n ids x (ix2 r k) = Spec.norm (fun k => ∑ s : Fin 576,
      Scalar.select (IntOp.cmpi .eq (BitVec.ofNat 32 ↑s) (k0_pay2 (F := Ideal) n ids (ix2 0 r))) (x (ix3 0 s k)) 0) k := by
  rw [← pay3_at]; pointwise [k0_pay6, k0_pay5]; rfl

theorem pay7_at (v16 : IVec S128x1 1) (v42 : FVec Ideal S128x1024 .f32) (v44 v50 : Vec Ideal S1x1024 .f32) (r : Fin 128) (k : Fin 1024) :
    k0_pay7 v16 v42 v44 v50 (ix2 r k)
      = Scalar.select (v16 (ix2 r 0)) (v42 (ix2 r k) * (1 + v44 (ix2 0 k)) + v50 (ix2 0 k)) 0 := by
  pointwise [k0_pay7]

theorem pay8_at (v16 : IVec S128x1 1) (v42 : FVec Ideal S128x1024 .f32) (v44 v50 : Vec Ideal S1x1024 .f32) (r : Fin 128) :
    k0_pay8 v16 v42 v44 v50 (ix2 r 0) = Spec.field (Spec.quo fun k => k0_pay7 v16 v42 v44 v50 (ix2 r k)) := by
  pointwise [k0_pay8]; rfl

theorem pay9_at (v16 : IVec S128x1 1) (v42 : FVec Ideal S128x1024 .f32) (v44 v50 : Vec Ideal S1x1024 .f32) (r : Fin 128) :
    k0_pay9 v16 v42 v44 v50 (ix2 r 0) = Spec.special (k0_pay8 v16 v42 v44 v50 (ix2 r 0)) := by
  pointwise [k0_pay9]; rfl

theorem pay10_at (v16 : IVec S128x1 1) (v42 : FVec Ideal S128x1024 .f32) (v44 v50 : Vec Ideal S1x1024 .f32) (r : Fin 128) :
    k0_pay10 v16 v42 v44 v50 (ix2 r 0)
      = Ideal.ofBits .f32 (IntOp.shli ArithUnit.vector (IntOp.addi (k0_pay8 v16 v42 v44 v50 (ix2 r 0)) 1#32) 23#32) := by
  pointwise [k0_pay10]

theorem pay11_at (v16 : IVec S128x1 1) (v42 : FVec Ideal S128x1024 .f32) (v44 v50 : Vec Ideal S1x1024 .f32) (r : Fin 128) :
    k0_pay11 v16 v42 v44 v50 (ix2 r 0)
      = IntOp.shli ArithUnit.vector (IntOp.subi 253#32 (k0_pay8 v16 v42 v44 v50 (ix2 r 0))) 23#32 := by
  pointwise [k0_pay11]

theorem pay12_at (v78 : IVec S128x1 1) (v83 : FVec Ideal S128x1 .f32) (r : Fin 128) :
    k0_pay12 v78 v83 (ix2 r 0) = Scalar.select (v78 (ix2 r 0)) 1 (v83 (ix2 r 0)) := by
  pointwise [k0_pay12]

theorem pay13_at (v56 : FVec Ideal S128x1024 .f32) (v78 : IVec S128x1 1) (v87 : IVec S128x1 32) (r : Fin 128) (k : Fin 1024) :
    k0_pay13 v56 v78 v87 (ix2 r k)
      = Spec.clip (v56 (ix2 r k) * Scalar.select (v78 (ix2 r 0)) 1 (Ideal.ofBits .f32 (v87 (ix2 r 0)))) := by
  pointwise [k0_pay13]; rfl

theorem pay14_at (v56 : FVec Ideal S128x1024 .f32) (v78 : IVec S128x1 1) (v87 : IVec S128x1 32) (q : Fin 120) (k : Fin 1024) :
    k0_pay14 v56 v78 v87 (ix3 0 q k) = k0_pay13 v56 v78 v87 (ix2 ⟨q, by omega⟩ k) := by
  pointwise [k0_pay14]

theorem pay15_at (v78 : IVec S128x1 1) (v83 : FVec Ideal S128x1 .f32) (q : Fin 120) :
    k0_pay15 v78 v83 (ix2 0 q) = k0_pay12 v78 v83 (ix2 ⟨q, by omega⟩ 0) := by
  rw [pay12_at]; pointwise [k0_pay15, k0_pay12]

theorem pay16_at (r l : Fin 128) : k0_pay16 (F := Ideal) (ix2 r l) = 0 := by
  pointwise [k0_pay16]

/-! ## The eight groups of hidden columns -/

/-- One hidden entry of a group of columns. -/
def grp (v16 : IVec S128x1 1) (v90 : FVec Ideal S128x1 .f32) (v99 : FVec Ideal S128x1024 .fp8e4m3)
    (w : Vec Ideal S1024x512 .fp8e4m3) (s a : Vec Ideal S1x512 .f32) (r : Fin 128) (j : Fin 512) : EReal :=
  Scalar.select (v16 (ix2 r 0))
    (Spec.gelu ((∑ k, v99 (ix2 r k) * w (ix2 k j)) * v90 (ix2 r 0) * s (ix2 0 j) + a (ix2 0 j))) 0

section Groups

variable (v16 : IVec S128x1 1) (v90 : FVec Ideal S128x1 .f32) (v99 : FVec Ideal S128x1024 .fp8e4m3)
    (w : Vec Ideal S1024x512 .fp8e4m3) (s a : Vec Ideal S1x512 .f32) (r : Fin 128) (j : Fin 512)

theorem grp0_at (v56 : FVec Ideal S128x1024 .f32) (v78 : IVec S128x1 1) (v83 : FVec Ideal S128x1 .f32) (v87 : IVec S128x1 32) :
    k0_pay20 v16 (k0_pay17 v56 v78 v83 v87 w s a) (k0_pay18 v56 v78 v83 v87 w s a) (ix2 r j)
      = grp v16 (k0_pay12 v78 v83) (k0_pay13 v56 v78 v87) w s a r j := by
  pointwise [k0_pay20, k0_pay19, k0_pay17, k0_pay18]; rfl

theorem grp1_at : k0_pay25 v16 (k0_pay22 v90 v99 w s a) (k0_pay23 v90 v99 w s a) (ix2 r j) = grp v16 v90 v99 w s a r j := by
  pointwise [k0_pay25, k0_pay24, k0_pay22, k0_pay23]; rfl

theorem grp2_at : k0_pay30 v16 (k0_pay27 v90 v99 w s a) (k0_pay28 v90 v99 w s a) (FloatOps.ofBits FTy.f32 1056964608#32) (ix2 r j)
    = grp v16 v90 v99 w s a r j := by
  pointwise [k0_pay30, k0_pay29, k0_pay27, k0_pay28]; rfl

theorem grp3_at : k0_pay34 v16 (k0_pay32 v90 v99 w s a) (FloatOps.ofBits FTy.f32 0#32) (ix2 r j) = grp v16 v90 v99 w s a r j := by
  pointwise [k0_pay34, k0_pay33, k0_pay32]; rfl

theorem grp4_at : k0_pay36 v16 v90 v99 w s a (ix2 r j) = grp v16 v90 v99 w s a r j := by
  pointwise [k0_pay36]; rfl

theorem grp5_at : k0_pay39 v16 v90 v99 w s a (ix2 r j) = grp v16 v90 v99 w s a r j := by
  pointwise [k0_pay39]; rfl

theorem grp6_at : k0_pay43 v16 v90 v99 w s a (ix2 r j) = grp v16 v90 v99 w s a r j := by
  pointwise [k0_pay43, k0_pay42]; rfl

theorem grp7_at : k0_pay47 v16 v90 v99 w s a (ix2 r j) = grp v16 v90 v99 w s a r j := by
  pointwise [k0_pay47, k0_pay46]; rfl

theorem pay37_at (v : FVec Ideal S128x512 .f32) : k0_pay37 v (ix2 r j) = v (ix2 r j) := by pointwise [k0_pay37]
theorem pay40_at (v : FVec Ideal S128x512 .f32) : k0_pay40 v (ix2 r j) = v (ix2 r j) := by pointwise [k0_pay40]

theorem pay44_at : k0_pay44 v16 v90 v99 w s a (ix2 r j)
    = FloatOps.absf (F := Ideal) (φ := .f32) (grp v16 v90 v99 w s a r j) := by
  pointwise [k0_pay44, k0_pay42]; rfl

theorem pay45_at (l : Fin 128) : k0_pay45 v16 v90 v99 w s a (ix2 r l)
    = FloatOps.absf (F := Ideal) (φ := .f32) (grp v16 v90 v99 w s a r ⟨l, by omega⟩) := by
  pointwise [k0_pay45, k0_pay44, k0_pay42]; rfl

theorem pay48_at : k0_pay48 v16 v90 v99 w s a (ix2 r j)
    = FloatOps.absf (F := Ideal) (φ := .f32) (grp v16 v90 v99 w s a r j) := by
  pointwise [k0_pay48, k0_pay46]; rfl

end Groups

/-! ## The largest magnitudes, lane by lane -/

/-- A value against four entries of a row, 128 apart. -/
def mx4 (z : EReal) (a : ℕ → EReal) (o : ℕ) : EReal := max (max (max (max z (a o)) (a (128 + o))) (a (256 + o))) (a (384 + o))

theorem mx4_le (z : EReal) (a : ℕ → EReal) (o : ℕ) (c : EReal) :
    mx4 z a o ≤ c ↔ z ≤ c ∧ ∀ q < 4, a (128 * q + o) ≤ c := by
  simp only [mx4, max_le_iff]
  constructor
  · rintro ⟨⟨⟨⟨h, h0⟩, h1⟩, h2⟩, h3⟩
    refine ⟨h, fun q hq => ?_⟩
    interval_cases q
    · simpa using h0
    · simpa using h1
    · simpa using h2
    · simpa using h3
  · rintro ⟨h, H⟩
    have h0 := H 0 (by omega); have h1 := H 1 (by omega); have h2 := H 2 (by omega); have h3 := H 3 (by omega)
    exact ⟨⟨⟨⟨h, by simpa using h0⟩, by simpa using h1⟩, by simpa using h2⟩, by simpa using h3⟩

/-- The magnitudes of a group's row, 0 beyond it. -/
def mag (p : Fin 512 → EReal) (f : ℕ) : EReal :=
  if h : f < 512 then FloatOps.absf (F := Ideal) (φ := .f32) (p ⟨f, h⟩) else 0

theorem mag_at (p : Fin 512 → EReal) (f : ℕ) (h : f < 512) : mag p f = FloatOps.absf (F := Ideal) (φ := .f32) (p ⟨f, h⟩) := dif_pos h

theorem mx4_mag (z : EReal) (p : Fin 512 → EReal) (l : Fin 128) :
    max (max (max (max z (FloatOps.absf (F := Ideal) (φ := .f32) (p ⟨l, by omega⟩)))
      (FloatOps.absf (F := Ideal) (φ := .f32) (p ⟨128 + l, by omega⟩)))
      (FloatOps.absf (F := Ideal) (φ := .f32) (p ⟨256 + l, by omega⟩)))
      (FloatOps.absf (F := Ideal) (φ := .f32) (p ⟨384 + l, by omega⟩)) = mx4 z (mag p) l := by
  unfold mx4
  rw [mag_at p l (by omega), mag_at p (128 + l) (by omega), mag_at p (256 + l) (by omega), mag_at p (384 + l) (by omega)]

section Lanes

variable (v16 : IVec S128x1 1) (z : FVec Ideal S128x128 .f32) (p q : FVec Ideal S128x512 .f32) (c : Ideal .f32) (r l : Fin 128)

theorem pay21_at : k0_pay21 v16 z p q (ix2 r l) = mx4 (z (ix2 r l)) (mag fun j => k0_pay20 v16 p q (ix2 r j)) l := by
  have h : ∀ j, k0_pay20 v16 p q (ix2 r j) = k0_pay19 v16 p q (ix2 r j) := fun j => by pointwise [k0_pay20]
  rw [← mx4_mag]; simp only [h]
  pointwise [k0_pay21]

theorem pay26_at : k0_pay26 v16 z p q (ix2 r l) = mx4 (z (ix2 r l)) (mag fun j => k0_pay25 v16 p q (ix2 r j)) l := by
  have h : ∀ j, k0_pay25 v16 p q (ix2 r j) = k0_pay24 v16 p q (ix2 r j) := fun j => by pointwise [k0_pay25]
  rw [← mx4_mag]; simp only [h]
  pointwise [k0_pay26]

theorem pay31_at : k0_pay31 v16 z p q c (ix2 r l) = mx4 (z (ix2 r l)) (mag fun j => k0_pay30 v16 p q c (ix2 r j)) l := by
  have h : ∀ j, k0_pay30 v16 p q c (ix2 r j) = k0_pay29 v16 p q c (ix2 r j) := fun j => by pointwise [k0_pay30]
  rw [← mx4_mag]; simp only [h]
  pointwise [k0_pay31]

theorem pay35_at : k0_pay35 v16 z p c (ix2 r l) = mx4 (z (ix2 r l)) (mag fun j => k0_pay34 v16 p c (ix2 r j)) l := by
  have h : ∀ j, k0_pay34 v16 p c (ix2 r j) = k0_pay33 v16 p c (ix2 r j) := fun j => by pointwise [k0_pay34]
  rw [← mx4_mag]; simp only [h]
  pointwise [k0_pay35]

theorem pay38_at : k0_pay38 z p (ix2 r l) = mx4 (z (ix2 r l)) (mag fun j => p (ix2 r j)) l := by
  rw [← mx4_mag]; pointwise [k0_pay38]

theorem pay41_at : k0_pay41 z p (ix2 r l) = mx4 (z (ix2 r l)) (mag fun j => p (ix2 r j)) l := by
  rw [← mx4_mag]; pointwise [k0_pay41]

end Lanes

section Tail

variable (v16 : IVec S128x1 1) (v90 : FVec Ideal S128x1 .f32) (v99 : FVec Ideal S128x1024 .fp8e4m3)
    (w : Vec Ideal S1024x512 .fp8e4m3) (s a : Vec Ideal S1x512 .f32)
    (z : FVec Ideal S128x128 .f32) (p : FVec Ideal S128x512 .f32) (y : FVec Ideal S128x128 .f32) (r l : Fin 128)

theorem pay49_at : k0_pay49 v16 v90 v99 z p y w s a (ix2 r l)
    = max (max (max (max (max (max (z (ix2 r l)) (y (ix2 r l))) (p (ix2 r ⟨128 + l, by omega⟩))) (p (ix2 r ⟨256 + l, by omega⟩)))
      (p (ix2 r ⟨384 + l, by omega⟩))) (k0_pay48 v16 v90 v99 w s a (ix2 r ⟨l, by omega⟩)))
      (k0_pay48 v16 v90 v99 w s a (ix2 r ⟨128 + l, by omega⟩)) := by
  pointwise [k0_pay49]

theorem pay50_at : k0_pay50 v16 v90 v99 w s a (ix2 r l) = k0_pay48 v16 v90 v99 w s a (ix2 r ⟨256 + l, by omega⟩) := by
  pointwise [k0_pay50]

theorem pay51_at : k0_pay51 p z y (ix2 r 0) = Spec.field (Finset.fold max (Ideal.ofBits .f32 4286578688#32)
      (fun l : Fin 128 => max (max (z (ix2 r l)) (y (ix2 r l))) (p (ix2 r ⟨384 + l, by omega⟩))) Finset.univ
      * Ideal.ofBits .f32 991054117#32) := by
  pointwise [k0_pay51]; rfl

theorem pay53_at : k0_pay53 p z y (ix2 r 0) = Scalar.select (Spec.special (k0_pay51 p z y (ix2 r 0))) 1
    (Ideal.ofBits .f32 (IntOp.shli ArithUnit.vector (IntOp.addi (k0_pay51 p z y (ix2 r 0)) 1#32) 23#32)) := by
  pointwise [k0_pay53, k0_pay52]; rfl

theorem pay54_at (h : Vec Ideal S128x4096 .f32) (f : Fin 4096) : k0_pay54 p z y h (ix2 r f) = h (ix2 r f)
    * Scalar.select (Spec.special (k0_pay51 p z y (ix2 r 0))) 1
      (Ideal.ofBits .f32 (IntOp.shli ArithUnit.vector (IntOp.subi 253#32 (k0_pay51 p z y (ix2 r 0))) 23#32)) := by
  pointwise [k0_pay54, k0_pay52]; rfl

end Tail

theorem pay55_at (r : Fin 128) (f : Fin 4096) : k0_pay55 (F := Ideal) (ix2 r f) = Ideal.ofBits .f32 3286237184#32 := by
  pointwise [k0_pay55]

section Out

variable (h : FVec Ideal S128x4096 .f32) (v16 : IVec S128x1 1) (e : FVec Ideal S128x1 .f32)
  (w : Vec Ideal S4096x1024 .fp8e4m3) (s a : Vec Ideal S1x1024 .f32)

theorem pay57_at (q : Fin 120) (f : Fin 4096) :
    k0_pay57 h (FloatOps.ofBits FTy.f32 1138753536#32) (k0_pay55 (F := Ideal)) (ix3 0 q f) = Spec.clip (h (ix2 ⟨q, by omega⟩ f)) := by
  pointwise [k0_pay57, k0_pay56, k0_pay55]; rfl

theorem pay58_at (q : Fin 120) : k0_pay58 e (ix2 0 q) = e (ix2 ⟨q, by omega⟩ 0) := by
  pointwise [k0_pay58]

theorem pay59_at (r : Fin 128) (k : Fin 1024) :
    k0_pay59 v16 e h (FloatOps.ofBits FTy.f32 1138753536#32) (k0_pay55 (F := Ideal)) w s a (ix2 r k)
      = Scalar.select (v16 (ix2 r 0))
        ((∑ f, Spec.clip (h (ix2 r f)) * w (ix2 f k)) * e (ix2 r 0) * s (ix2 0 k) + a (ix2 0 k)) 0 := by
  pointwise [k0_pay59, k0_pay56, k0_pay55]; rfl

theorem pay60_at (r : Fin 128) :
    k0_pay60 v16 e h (FloatOps.ofBits FTy.f32 1138753536#32) (k0_pay55 (F := Ideal)) w s a (ix2 r 0)
      = Spec.quo fun k => k0_pay59 v16 e h (FloatOps.ofBits FTy.f32 1138753536#32) (k0_pay55 (F := Ideal)) w s a (ix2 r k) := by
  pointwise [k0_pay60]; rfl

/-- The field of a quotient, once more. -/
theorem pay62_at (v514 : FVec Ideal S128x1 .f32) (r : Fin 128) :
    k0_pay62 v514 (iota Kind.tc S128x256 32 [1] iota_S128x256_d1_w32) (k0_pay61 (F := Ideal)) (ix2 r 0)
      = Spec.field (v514 (ix2 r 0)) := by
  pointwise [k0_pay62, k0_pay61]; rfl

theorem pay63_at (v514 : FVec Ideal S128x1 .f32) (i : IVec S128x256 32) (p : FVec Ideal S128x256 .f32) (r : Fin 128) :
    k0_pay63 v514 i p (ix2 r 0) = Spec.special (k0_pay62 v514 i p (ix2 r 0)) := by
  pointwise [k0_pay63]; rfl

/-- Does a listed row go to token `s`? -/
theorem pay64_at (v10 : IVec S1x128 32) (s : Fin 576) (r : Fin 128) :
    k0_pay64 v10 (ix2 s r) = IntOp.cmpi .eq (BitVec.ofNat 32 ↑s) (v10 (ix2 0 r)) := by
  pointwise [k0_pay64]

theorem pay65_at (v10 : IVec S1x128 32) (y : FVec Ideal S128x1024 .f32) (v514 : FVec Ideal S128x1 .f32) (i : IVec S128x256 32)
    (p : FVec Ideal S128x256 .f32) (s : Fin 576) (k : Fin 1024) :
    k0_pay65 v10 y v514 i p (ix2 s k) = ∑ r, Scalar.select (k0_pay64 v10 (ix2 s r)) (Spec.clip (y (ix2 r k)
      * Scalar.select (Spec.special (k0_pay62 v514 i p (ix2 r 0))) 1
        (Ideal.ofBits .f32 (IntOp.shli ArithUnit.vector (IntOp.subi 253#32 (k0_pay62 v514 i p (ix2 r 0))) 23#32)))) 0 := by
  simp only [← pay63_at]
  pointwise [k0_pay65]; rfl

theorem pay66_at (v514 : FVec Ideal S128x1 .f32) (i : IVec S128x256 32) (p : FVec Ideal S128x256 .f32) (r : Fin 128) :
    k0_pay66 v514 i p (ix2 0 r) = Scalar.select (Spec.special (k0_pay62 v514 i p (ix2 r 0))) 1
      (Ideal.ofBits .f32 (IntOp.shli ArithUnit.vector (IntOp.addi (k0_pay62 v514 i p (ix2 r 0)) 1#32) 23#32)) := by
  simp only [← pay63_at]
  pointwise [k0_pay66]

end Out

section Cache

variable (v555 : IVec S576x128 1) (v560 : FVec Ideal S576x1024 .f32) (v564 : FVec Ideal S1x128 .f32) (c : Vec Ideal S1x576 .f32)
  (d : Vec Ideal S1x576x1024 .fp8e4m3) (s : Fin 576) (k : Fin 1024)

/-- The scale brought to token `s`. -/
def newScale (v555 : IVec S576x128 1) (v564 : FVec Ideal S1x128 .f32) (s : Fin 576) : EReal :=
  ∑ r, Scalar.select (v555 (ix2 s r)) (v564 (ix2 0 r)) 0

theorem pay69_at : k0_pay69 v555 v564 (FloatOps.ofBits FTy.f32 0#32) c (ix2 s 0)
    = Scalar.select (BitVec.ofBool (decide (0 < newScale v555 v564 s))) (newScale v555 v564 s) (c (ix2 0 s)) := by
  pointwise [k0_pay69, k0_pay68, k0_pay67]; rfl

theorem pay70_at : k0_pay70 v555 v564 (FloatOps.ofBits FTy.f32 0#32) c (ix2 0 s)
    = k0_pay69 v555 v564 (FloatOps.ofBits FTy.f32 0#32) c (ix2 s 0) := by
  pointwise [k0_pay70]

theorem pay71_at : k0_pay71 v555 v560 v564 (FloatOps.ofBits FTy.f32 0#32) d (ix2 s k)
    = Scalar.select (BitVec.ofBool (decide (0 < newScale v555 v564 s))) (v560 (ix2 s k)) (d (ix3 0 s k)) := by
  pointwise [k0_pay71, k0_pay68, k0_pay67]; rfl

theorem pay72_at : k0_pay72 v555 v560 v564 (FloatOps.ofBits FTy.f32 0#32) d (ix3 0 s k)
    = k0_pay71 v555 v560 v564 (FloatOps.ofBits FTy.f32 0#32) d (ix2 s k) := by
  pointwise [k0_pay72]

theorem pay73_at (x : Vec Ideal S1x576x1024 .bf16) (g : Vec Ideal S1x1024 .f32) :
    k0_pay1 (k0_pay73 (k0_pay5 x) v555 v560 v564 (FloatOps.ofBits FTy.f32 0#32) c d g) (ix3 0 s k)
      = x (ix3 0 s k) + g (ix2 0 k) * (k0_pay71 v555 v560 v564 (FloatOps.ofBits FTy.f32 0#32) d (ix2 s k)
        * k0_pay69 v555 v564 (FloatOps.ofBits FTy.f32 0#32) c (ix2 s 0)) := by
  pointwise [k0_pay1, k0_pay73, k0_pay5]

end Cache

end Cert.KernelIdeal.Gen

end
-- ==== Proof.KernelBlock.lean ====
/- What a grid point of the kernel computes, row by row: the codes, scales and values of Spec.lean, at any block. -/
module

public import proofs.«01_k».proof.Proof.KernelPay

@[expose] public section

set_option maxRecDepth 16384

noncomputable section

namespace Cert.KernelIdeal.Gen

open Idealize.ShloMosaic Idealize.ShloMosaic.TcCoe
open Cert

/-- A load of 512 columns of a matrix of 1024 rows. -/
theorem ld_cols (X : Vec Ideal S1024x4096 .fp8e4m3) (o : ℕ) (inb : ∀ a, (![0, o] : Fin 2 → ℕ) a + S1024x512.size a ≤ S1024x4096.size a)
    (k : Fin 1024) (j : Fin 512) (h : o + ↑j < 4096) :
    View.ld X (Rect.unit (s := S1024x4096) ![0, o] S1024x512.size inb) (ix2 k j) = X (ix2 k ⟨o + ↑j, h⟩) := by
  refine congrArg X (funext fun a => Fin.ext ?_)
  fin_cases a
  · show 0 + 1 * (k : ℕ) = k; omega
  · show o + 1 * (j : ℕ) = o + j; omega

/-- A load of 512 columns of a row. -/
theorem ld_row (X : Vec Ideal S1x4096 .f32) (o : ℕ) (inb : ∀ a, (![0, o] : Fin 2 → ℕ) a + S1x512.size a ≤ S1x4096.size a)
    (j : Fin 512) (h : o + ↑j < 4096) :
    View.ld X (Rect.unit (s := S1x4096) ![0, o] S1x512.size inb) (ix2 0 j) = X (ix2 0 ⟨o + ↑j, h⟩) := by
  refine congrArg X (funext fun a => Fin.ext ?_)
  fin_cases a
  · rfl
  · show o + 1 * (j : ℕ) = o + j; omega

namespace Blk

variable (b : Blk Ideal)

/-- Where a listed row is taken from, −1 where it is not live. -/
def tok (r : Fin 128) : BitVec 32 := v1 b (ix2 0 r)

/-- Whether a listed row is live. -/
def lv (r : Fin 128) : BitVec 1 := IntOp.cmpi .sge (b.tok r) 0#32

/-- The listed row of the block. -/
def xr (r : Fin 128) (k : Fin 1024) : EReal :=
  ∑ s : Fin 576, Scalar.select (IntOp.cmpi .eq (BitVec.ofNat 32 ↑s) (b.tok r)) (b.x0 (ix3 0 s k)) 0

/-- The row normalised, scaled and shifted. -/
def H (r : Fin 128) (k : Fin 1024) : EReal :=
  Spec.hrow (b.lv r) (b.xr r) (fun k => b.sc (ix2 0 k)) (fun k => b.sh (ix2 0 k)) k

/-- Its hidden row. -/
def G (r : Fin 128) (f : Fin 4096) : EReal :=
  Spec.grow (b.lv r) (b.H r) (fun k f => b.x7 (ix2 k f)) (fun f => b.x8 (ix2 0 f)) (fun f => b.x9 (ix2 0 f)) f

/-- Its output row. -/
def Y (r : Fin 128) (k : Fin 1024) : EReal :=
  Spec.yrow (b.lv r) (b.G r) (fun f k => b.x10 (ix2 f k)) (fun k => b.x11 (ix2 0 k)) (fun k => b.x12 (ix2 0 k)) k

theorem tok_eq (r : Fin 128) : b.tok r = Scalar.select (IntOp.cmpi .slt (BitVec.ofNat 32 ↑r) b.n)
    (if h : (r : ℕ) < 120 then b.ids (ix2 0 ⟨r, h⟩) else 0#32) 4294967295#32 := pay2_at b.n b.ids r

theorem v2_at (r : Fin 128) : v2 b (ix2 r 0) = b.lv r := pay4_at b.n b.ids r

theorem v4_at (r : Fin 128) (k : Fin 1024) : v4 b (ix2 r k) = Spec.norm (b.xr r) k := by
  unfold v4
  rw [pay6_at, View.ld_unit_zero (by funext a; fin_cases a <;> rfl)]
  rfl

theorem v5_at (r : Fin 128) (k : Fin 1024) : v5 b (ix2 r k) = b.H r k := by
  unfold v5
  rw [pay7_at, v2_at, v4_at]
  rfl

theorem v8_aux (r : Fin 128) : k0_pay8 (v2 b) (v4 b) b.sc b.sh (ix2 r 0) = Spec.field (Spec.quo (b.H r)) := by
  rw [pay8_at, show (fun k => k0_pay7 (v2 b) (v4 b) b.sc b.sh (ix2 r k)) = b.H r from funext (v5_at b r)]

theorem v6_at (r : Fin 128) : v6 b (ix2 r 0) = Spec.special (Spec.field (Spec.quo (b.H r))) := by
  unfold v6; rw [pay9_at, v8_aux]

theorem v8_at (r : Fin 128) : v8 b (ix2 r 0)
    = IntOp.shli ArithUnit.vector (IntOp.subi 253#32 (Spec.field (Spec.quo (b.H r)))) 23#32 := by
  unfold v8; rw [pay11_at, v8_aux]

/-- The scale of a row. -/
theorem v9_at (r : Fin 128) : v9 b (ix2 r 0) = Spec.scale (b.H r) := by
  unfold v9 v7
  rw [pay12_at, v6_at, pay10_at, v8_aux]
  exact Spec.ksca_quo (by norm_num) (b.H r)

/-- The codes of a row. -/
theorem v10_at (r : Fin 128) (k : Fin 1024) : v10 b (ix2 r k) = Spec.codes (b.H r) k := by
  unfold v10
  rw [pay13_at, v5_at, v6_at, v8_at]
  exact congrArg (fun t => Spec.clip (b.H r k * t)) (Spec.kinv_quo (by norm_num) (b.H r))

/-- One group of hidden columns is that stretch of the hidden row. -/
theorem grp_at (o : ℕ) (inb : ∀ a, (![0, o] : Fin 2 → ℕ) a + S1024x512.size a ≤ S1024x4096.size a)
    (inb' : ∀ a, (![0, o] : Fin 2 → ℕ) a + S1x512.size a ≤ S1x4096.size a) (r : Fin 128) (j : Fin 512) (h : o + ↑j < 4096) :
    grp (v2 b) (v9 b) (v10 b) (View.ld b.x7 (Rect.unit (s := S1024x4096) ![0, o] S1024x512.size inb))
      (View.ld b.x8 (Rect.unit (s := S1x4096) ![0, o] S1x512.size inb'))
      (View.ld b.x9 (Rect.unit (s := S1x4096) ![0, o] S1x512.size inb')) r j = b.G r ⟨o + ↑j, h⟩ := by
  have hs : (∑ k, v10 b (ix2 r k) * View.ld b.x7 (Rect.unit (s := S1024x4096) ![0, o] S1024x512.size inb) (ix2 k j))
      = ∑ k, Spec.codes (b.H r) k * b.x7 (ix2 k ⟨o + ↑j, h⟩) :=
    Finset.sum_congr rfl fun k _ => by rw [v10_at, ld_cols _ _ _ _ _ h]
  unfold grp
  rw [v2_at, v9_at, ld_row _ _ _ _ h, ld_row _ _ _ _ h, hs]
  rfl

/-! ## The hidden rows -/

theorem g0 (r : Fin 128) (j : Fin 512) (h : 0 + (j : ℕ) < 4096) : k0_pay20 (v2 b) (v11 b) (v12 b) (ix2 r j) = b.G r ⟨0 + (j : ℕ), h⟩ :=
  (grp0_at _ _ _ _ _ _ _ _ _ _).trans (grp_at b 0 _ _ r j h)
theorem g1 (r : Fin 128) (j : Fin 512) (h : 512 + (j : ℕ) < 4096) : k0_pay25 (v2 b) (v14 b) (v15 b) (ix2 r j) = b.G r ⟨512 + (j : ℕ), h⟩ :=
  (grp1_at _ _ _ _ _ _ _ _).trans (grp_at b 512 _ _ r j h)
theorem g2 (r : Fin 128) (j : Fin 512) (h : 1024 + (j : ℕ) < 4096) :
    k0_pay30 (v2 b) (v17 b) (v18 b) (FloatOps.ofBits FTy.f32 1056964608#32) (ix2 r j) = b.G r ⟨1024 + (j : ℕ), h⟩ :=
  (grp2_at _ _ _ _ _ _ _ _).trans (grp_at b 1024 _ _ r j h)
theorem g3 (r : Fin 128) (j : Fin 512) (h : 1536 + (j : ℕ) < 4096) :
    k0_pay34 (v2 b) (v20 b) (FloatOps.ofBits FTy.f32 0#32) (ix2 r j) = b.G r ⟨1536 + (j : ℕ), h⟩ :=
  (grp3_at _ _ _ _ _ _ _ _).trans (grp_at b 1536 _ _ r j h)
theorem g4 (r : Fin 128) (j : Fin 512) (h : 2048 + (j : ℕ) < 4096) : v22 b (ix2 r j) = b.G r ⟨2048 + (j : ℕ), h⟩ :=
  (grp4_at _ _ _ _ _ _ _ _).trans (grp_at b 2048 _ _ r j h)
theorem g5 (r : Fin 128) (j : Fin 512) (h : 2560 + (j : ℕ) < 4096) : v24 b (ix2 r j) = b.G r ⟨2560 + (j : ℕ), h⟩ :=
  (grp5_at _ _ _ _ _ _ _ _).trans (grp_at b 2560 _ _ r j h)
theorem g6 (r : Fin 128) (j : Fin 512) (h : 3072 + (j : ℕ) < 4096) : v26 b (ix2 r j)
    = FloatOps.absf (F := Ideal) (φ := .f32) (b.G r ⟨3072 + (j : ℕ), h⟩) :=
  (pay44_at _ _ _ _ _ _ _ _).trans (congrArg _ (grp_at b 3072 _ _ r j h))
theorem g6' (r l : Fin 128) (h : 3072 + (l : ℕ) < 4096) : v27 b (ix2 r l)
    = FloatOps.absf (F := Ideal) (φ := .f32) (b.G r ⟨3072 + (l : ℕ), h⟩) :=
  (pay45_at _ _ _ _ _ _ _ _).trans (congrArg _ (grp_at b 3072 _ _ r ⟨l, by omega⟩ h))
theorem g7 (r : Fin 128) (j : Fin 512) (h : 3584 + (j : ℕ) < 4096) : v28 b (ix2 r j)
    = FloatOps.absf (F := Ideal) (φ := .f32) (b.G r ⟨3584 + (j : ℕ), h⟩) :=
  (pay48_at _ _ _ _ _ _ _ _).trans (congrArg _ (grp_at b 3584 _ _ r j h))

theorem g4' (r : Fin 128) (j : Fin 512) (h : 2048 + (j : ℕ) < 4096) : k0_pay37 (v22 b) (ix2 r j) = b.G r ⟨2048 + (j : ℕ), h⟩ := by
  rw [pay37_at, g4 b r j h]
theorem g5' (r : Fin 128) (j : Fin 512) (h : 2560 + (j : ℕ) < 4096) : k0_pay40 (v24 b) (ix2 r j) = b.G r ⟨2560 + (j : ℕ), h⟩ := by
  rw [pay40_at, g5 b r j h]

/-- A column of the hidden rows by its index in a group of columns. -/
theorem piece_at (o : ℕ) (ho : o + 512 ≤ 4096) (inb : ∀ a, (![0, o] : Fin 2 → ℕ) a + S128x512.size a ≤ S128x4096.size a)
    (x : S128x512.Idx) (p : S128x512.Idx → EReal) (hp : ∀ (r : Fin 128) (j : Fin 512) (h : o + ↑j < 4096), p (ix2 r j) = b.G r ⟨o + ↑j, h⟩) :
    p x = b.G ((Rect.unit (s := S128x4096) ![0, o] S128x512.size inb).emb x 0)
      ((Rect.unit (s := S128x4096) ![0, o] S128x512.size inb).emb x 1) := by
  rw [eq_ix2 x]
  refine (hp (x 0) (x 1) (by have := (x 1).isLt; have h5 : S128x512.size 1 = 512 := rfl; omega)).trans ?_
  congr 1
  · refine Fin.ext ?_; show ((x 0 : Fin 128) : ℕ) = 0 + 1 * (x 0 : ℕ); omega
  · refine Fin.ext ?_; show o + ((x 1 : Fin 512) : ℕ) = o + 1 * (x 1 : ℕ); omega

-- (eight pieces, each unified with its rectangle)
set_option maxHeartbeats 1600000 in
/-- The hidden rows as they are read back. -/
theorem hid_at (r : Fin 128) (f : Fin 4096) : hid b (ix2 r f) = b.G r f := by
  have hidx : (Rect.unit (s := S128x4096) ![0, 0] S128x4096.size inb_S128x4096_S128x4096_0_0).toLoadRect.idx (ix2 r f) = ix2 r f := by
    funext a; refine Fin.ext ?_
    fin_cases a
    · show 0 + 1 * (r : ℕ) = r; omega
    · show 0 + 1 * (f : ℕ) = f; omega
  unfold hid
  rw [hidx]
  refine View.canon_apply_of_pieces (fun y : S128x4096.Idx => b.G (y 0) (y 1)) (hidPieces b) ?_ (ix2 r f) ?_
  · unfold hidPieces
    refine List.forall_mem_cons.2 ⟨fun x => piece_at b 3584 (by omega) inb_S128x4096_S128x512_0_3584 x _ fun r j h => (grp7_at _ _ _ _ _ _ _ _).trans (grp_at b 3584 _ _ r j h), ?_⟩
    refine List.forall_mem_cons.2 ⟨fun x => piece_at b 3072 (by omega) inb_S128x4096_S128x512_0_3072 x _ fun r j h => (grp6_at _ _ _ _ _ _ _ _).trans (grp_at b 3072 _ _ r j h), ?_⟩
    refine List.forall_mem_cons.2 ⟨fun x => piece_at b 2560 (by omega) inb_S128x4096_S128x512_0_2560 x (k0_pay40 (v24 b)) (g5' b), ?_⟩
    refine List.forall_mem_cons.2 ⟨fun x => piece_at b 2048 (by omega) inb_S128x4096_S128x512_0_2048 x (k0_pay37 (v22 b)) (g4' b), ?_⟩
    refine List.forall_mem_cons.2 ⟨fun x => piece_at b 1536 (by omega) inb_S128x4096_S128x512_0_1536 x _ (g3 b), ?_⟩
    refine List.forall_mem_cons.2 ⟨fun x => piece_at b 1024 (by omega) inb_S128x4096_S128x512_0_1024 x _ (g2 b), ?_⟩
    refine List.forall_mem_cons.2 ⟨fun x => piece_at b 512 (by omega) inb_S128x4096_S128x512_0_512 x _ (g1 b), ?_⟩
    refine List.forall_mem_cons.2 ⟨fun x => piece_at b 0 (by omega) inb_S128x4096_S128x512_0_0 x _ (g0 b), ?_⟩
    exact fun p hp => absurd hp (List.not_mem_nil)
  · exact View.cover_of_tiled (hidPieces b) S128x512.size (by rfl) (ix2 r f)

/-! ## The scales of the hidden rows -/

/-- The magnitudes of a hidden row, 0 beyond it. -/
def ab (r : Fin 128) (f : ℕ) : EReal := if h : f < 4096 then FloatOps.absf (F := Ideal) (φ := .f32) (b.G r ⟨f, h⟩) else 0

theorem ab_at (r : Fin 128) (f : ℕ) (h : f < 4096) : b.ab r f = FloatOps.absf (F := Ideal) (φ := .f32) (b.G r ⟨f, h⟩) := dif_pos h

theorem mx4_ab (z : EReal) (r l : Fin 128) (o : ℕ) (ho : o + 512 ≤ 4096) (p : Fin 512 → EReal)
    (hp : ∀ (j : Fin 512) (h : o + ↑j < 4096), p j = b.G r ⟨o + (j : ℕ), h⟩) : mx4 z (mag p) l = mx4 z (b.ab r) (o + l) := by
  have h : ∀ q : ℕ, q + ↑l < 512 → mag p (q + ↑l) = b.ab r (q + (o + ↑l)) := fun q hq => by
    rw [mag_at p _ hq, hp _ (by show o + (q + ↑l) < 4096; omega), b.ab_at r _ (by omega)]
    refine congrArg (fun t => FloatOps.absf (F := Ideal) (φ := .f32) (b.G r t)) (Fin.ext ?_)
    show o + (q + ↑l) = q + (o + ↑l); omega
  have h0 := h 0 (by omega)
  rw [Nat.zero_add, Nat.zero_add] at h0
  unfold mx4
  rw [h0, h 128 (by omega), h 256 (by omega), h 384 (by omega)]

/-- The lanes' maxima over the groups, in order. -/
def lane (r l : Fin 128) : EReal :=
  let a := b.ab r
  mx4 (mx4 (mx4 (mx4 (mx4 (mx4 (mx4 (mx4 0 a (0 + l)) a (512 + l)) a (1024 + l)) a (1536 + l)) a (2048 + l)) a (2560 + l)) a (3072 + l)) a (3584 + l)

theorem v25_at (r l : Fin 128) : v25 b (ix2 r l) = let a := b.ab r
    mx4 (mx4 (mx4 (mx4 (mx4 (mx4 0 a (0 + l)) a (512 + l)) a (1024 + l)) a (1536 + l)) a (2048 + l)) a (2560 + l) := by
  have h13 : v13 b (ix2 r l) = mx4 0 (b.ab r) (0 + l) := by
    refine (pay21_at _ _ _ _ r l).trans ?_
    rw [pay16_at]; exact mx4_ab b 0 r l 0 (by omega) _ fun j h => g0 b r j h
  have h16 : v16 b (ix2 r l) = mx4 (v13 b (ix2 r l)) (b.ab r) (512 + l) :=
    (pay26_at _ _ _ _ r l).trans (mx4_ab b _ r l 512 (by omega) _ fun j h => g1 b r j h)
  have h19 : v19 b (ix2 r l) = mx4 (v16 b (ix2 r l)) (b.ab r) (1024 + l) :=
    (pay31_at _ _ _ _ _ r l).trans (mx4_ab b _ r l 1024 (by omega) _ fun j h => g2 b r j h)
  have h21 : v21 b (ix2 r l) = mx4 (v19 b (ix2 r l)) (b.ab r) (1536 + l) :=
    (pay35_at _ _ _ _ r l).trans (mx4_ab b _ r l 1536 (by omega) _ fun j h => g3 b r j h)
  have h23 : v23 b (ix2 r l) = mx4 (v21 b (ix2 r l)) (b.ab r) (2048 + l) :=
    (pay38_at _ _ r l).trans (mx4_ab b _ r l 2048 (by omega) _ fun j h => g4 b r j h)
  have h25 : v25 b (ix2 r l) = mx4 (v23 b (ix2 r l)) (b.ab r) (2560 + l) :=
    (pay41_at _ _ r l).trans (mx4_ab b _ r l 2560 (by omega) _ fun j h => g5 b r j h)
  rw [h25, h23, h21, h19, h16, h13]

theorem lane_at (r l : Fin 128) :
    max (max (v29 b (ix2 r l)) (v30 b (ix2 r l))) (v28 b (ix2 r ⟨384 + l, by omega⟩)) = b.lane r l := by
  unfold v29 v30
  rw [pay49_at, pay50_at, v25_at]
  show max (max (max (max (max (max (max (max _ (v27 b _)) (v26 b _)) (v26 b _)) (v26 b _)) (v28 b _)) (v28 b _)) (v28 b _)) (v28 b _) = _
  have e : ∀ (o q : ℕ) (h : o + (q + ↑l) < 4096), FloatOps.absf (F := Ideal) (φ := .f32) (b.G r ⟨o + (q + ↑l), h⟩)
      = b.ab r (q + (o + ↑l)) := fun o q h => by
    rw [b.ab_at r _ (by omega)]
    exact congrArg (fun t => FloatOps.absf (F := Ideal) (φ := .f32) (b.G r t)) (Fin.ext (by show o + (q + ↑l) = q + (o + ↑l); omega))
  rw [g6' b r l (by omega), g6 b r _ (by show 3072 + (128 + (l : ℕ)) < 4096; omega), g6 b r _ (by show 3072 + (256 + (l : ℕ)) < 4096; omega),
    g6 b r _ (by show 3072 + (384 + (l : ℕ)) < 4096; omega), g7 b r _ (by show 3584 + (l : ℕ) < 4096; omega),
    g7 b r _ (by show 3584 + (128 + (l : ℕ)) < 4096; omega), g7 b r _ (by show 3584 + (256 + (l : ℕ)) < 4096; omega),
    g7 b r _ (by show 3584 + (384 + (l : ℕ)) < 4096; omega)]
  rw [e 3072 128, e 3072 256, e 3072 384, e 3584 128, e 3584 256, e 3584 384, ← b.ab_at r (3072 + ↑l), ← b.ab_at r (3584 + ↑l)]
  rfl

theorem lane_le (r l : Fin 128) (c : EReal) : b.lane r l ≤ c ↔ 0 ≤ c ∧ ∀ q < 32, b.ab r (128 * q + l) ≤ c := by
  unfold lane
  simp only [mx4_le]
  constructor
  · rintro ⟨⟨⟨⟨⟨⟨⟨⟨h, h0⟩, h1⟩, h2⟩, h3⟩, h4⟩, h5⟩, h6⟩, h7⟩
    refine ⟨h, fun q hq => ?_⟩
    obtain ⟨i, hi⟩ : ∃ i, i = q / 4 := ⟨_, rfl⟩
    have hq4 : q % 4 < 4 := Nat.mod_lt _ (by omega)
    have e : 128 * q + ↑l = 128 * (q % 4) + (512 * i + ↑l) := by omega
    have hi8 : i < 8 := by omega
    rw [e]
    interval_cases i
    · exact h0 _ hq4
    · exact h1 _ hq4
    · exact h2 _ hq4
    · exact h3 _ hq4
    · exact h4 _ hq4
    · exact h5 _ hq4
    · exact h6 _ hq4
    · exact h7 _ hq4
  · rintro ⟨h, H⟩
    have e : ∀ i < 8, ∀ q < 4, b.ab r (128 * q + (512 * i + ↑l)) ≤ c := fun i hi q hq => by
      have := H (4 * i + q) (by omega)
      rwa [show 128 * (4 * i + q) + ↑l = 128 * q + (512 * i + ↑l) by omega] at this
    exact ⟨⟨⟨⟨⟨⟨⟨⟨h, e 0 (by omega)⟩, e 1 (by omega)⟩, e 2 (by omega)⟩, e 3 (by omega)⟩, e 4 (by omega)⟩, e 5 (by omega)⟩, e 6 (by omega)⟩, e 7 (by omega)⟩

/-- The largest magnitude of a hidden row, taken over the lanes' maxima. -/
theorem amax_at (r : Fin 128) : Finset.fold max (Ideal.ofBits .f32 4286578688#32) (fun l : Fin 128 => b.lane r l) Finset.univ
    = Finset.fold max (Ideal.ofBits .f32 4286578688#32) (fun f => FloatOps.absf (F := Ideal) (φ := .f32) (b.G r f)) Finset.univ := by
  rw [Spec.negInf_eq]
  refine le_antisymm ((Finset.fold_max_le _).2 ⟨bot_le, fun l _ => (b.lane_le r l _).2 ⟨?_, fun q hq => ?_⟩⟩)
    ((Finset.fold_max_le _).2 ⟨bot_le, fun f _ => ?_⟩)
  · exact (Finset.le_fold_max _).2 (Or.inr ⟨0, Finset.mem_univ _, Spec.absf_nonneg _⟩)
  · rw [b.ab_at r _ (by omega)]
    exact (Finset.le_fold_max _).2 (Or.inr ⟨_, Finset.mem_univ _, le_rfl⟩)
  · have hl : (f : ℕ) % 128 < 128 := Nat.mod_lt _ (by omega)
    refine (Finset.le_fold_max _).2 (Or.inr ⟨⟨(f : ℕ) % 128, hl⟩, Finset.mem_univ _, ?_⟩)
    have := ((b.lane_le r ⟨(f : ℕ) % 128, hl⟩ _).1 le_rfl).2 ((f : ℕ) / 128) (by omega)
    rw [b.ab_at r _ (by show 128 * ((f : ℕ) / 128) + (f : ℕ) % 128 < 4096; omega)] at this
    rwa [show (⟨128 * ((f : ℕ) / 128) + (f : ℕ) % 128, by omega⟩ : Fin 4096) = f from Fin.ext (by show 128 * ((f : ℕ) / 128) + (f : ℕ) % 128 = f; omega)] at this

theorem v31_aux (r : Fin 128) : k0_pay51 (v28 b) (v29 b) (v30 b) (ix2 r 0) = Spec.field (Spec.quo (b.G r)) := by
  rw [pay51_at]
  simp only [lane_at]
  rw [amax_at]
  rfl

/-- The scale of a hidden row. -/
theorem v31_at (r : Fin 128) : v31 b (ix2 r 0) = Spec.scale (b.G r) := by
  unfold v31
  rw [pay53_at, v31_aux]
  exact Spec.ksca_quo (by norm_num) (b.G r)

/-- The hidden row over its scale. -/
theorem v32_at (r : Fin 128) (f : Fin 4096) : v32 b (ix2 r f) = b.G r f * Spec.inv (Spec.quo (b.G r)) := by
  unfold v32
  rw [pay54_at, v31_aux, hid_at]
  exact congrArg (b.G r f * ·) (Spec.kinv_quo (by norm_num) (b.G r))

/-! ## The output rows -/

theorem v33_at (r : Fin 128) (k : Fin 1024) : v33 b (ix2 r k) = b.Y r k := by
  unfold v33
  rw [pay59_at, v2_at, v31_at, View.ld_unit_zero (by funext a; fin_cases a <;> rfl), View.ld_unit_zero (by funext a; fin_cases a <;> rfl),
    View.ld_unit_zero (by funext a; fin_cases a <;> rfl)]
  simp only [v32_at]
  rfl

theorem v34_at (r : Fin 128) : v34 b (ix2 r 0) = Spec.quo (b.Y r) :=
  (pay60_at _ _ _ _ _ _ r).trans (congrArg Spec.quo (funext (v33_at b r)))

/-- Whether a listed row goes to a token. -/
def hit (s : Fin 576) (r : Fin 128) : BitVec 1 := IntOp.cmpi .eq (BitVec.ofNat 32 ↑s) (b.tok r)

theorem v35_at (s : Fin 576) (r : Fin 128) : v35 b (ix2 s r) = b.hit s r := pay64_at _ s r

/-- The codes brought to a token. -/
theorem v36_at (s : Fin 576) (k : Fin 1024) : v36 b (ix2 s k)
    = ∑ r, Scalar.select (b.hit s r) (Spec.codes (b.Y r) k) 0 := by
  unfold v36
  rw [pay65_at]
  refine Finset.sum_congr rfl fun r _ => ?_
  rw [pay62_at, v33_at, v34_at]
  show Scalar.select (v35 b (ix2 s r)) _ _ = _
  rw [v35_at]
  exact congrArg (fun t => Scalar.select (b.hit s r) (Spec.clip (b.Y r k * t)) 0) (Spec.kinv_quo (by norm_num) (b.Y r))

theorem v37_at (r : Fin 128) : v37 b (ix2 0 r) = Spec.scale (b.Y r) := by
  unfold v37
  rw [pay66_at, pay62_at, v34_at]
  exact Spec.ksca_quo (by norm_num) (b.Y r)

/-- The scale brought to a token. -/
def ns (s : Fin 576) : EReal := ∑ r, Scalar.select (b.hit s r) (Spec.scale (b.Y r)) 0

theorem newScale_at (s : Fin 576) : newScale (v35 b) (v37 b) s = b.ns s := by
  unfold newScale ns
  exact Finset.sum_congr rfl fun r _ => by rw [v35_at, v37_at]

/-- The cached code of a token afterwards. -/
def code (s : Fin 576) (k : Fin 1024) : EReal := Scalar.select (BitVec.ofBool (decide (0 < b.ns s)))
  (∑ r, Scalar.select (b.hit s r) (Spec.codes (b.Y r) k) 0) (b.x5 (ix3 0 s k))

/-- The cached scale of a token afterwards. -/
def scl (s : Fin 576) : EReal := Scalar.select (BitVec.ofBool (decide (0 < b.ns s))) (b.ns s) (b.cs (ix2 0 s))

theorem pay69_blk (s : Fin 576) : k0_pay69 (v35 b) (v37 b) (FloatOps.ofBits FTy.f32 0#32) b.cs (ix2 s 0) = b.scl s := by
  rw [pay69_at, newScale_at]; rfl

theorem pay71_blk (s : Fin 576) (k : Fin 1024) : k0_pay71 (v35 b) (v36 b) (v37 b) (FloatOps.ofBits FTy.f32 0#32) b.x5 (ix2 s k) = b.code s k := by
  rw [pay71_at, newScale_at, v36_at]; rfl

theorem o13_at (s : Fin 576) (k : Fin 1024) :
    o13 b (ix3 0 s k) = b.x0 (ix3 0 s k) + b.gt (ix2 0 k) * (b.code s k * b.scl s) := by
  unfold o13 v38 v3
  rw [View.ld_unit_zero (by funext a; fin_cases a <;> rfl), View.ld_unit_zero (by funext a; fin_cases a <;> rfl), pay73_at, pay69_blk, pay71_blk]

theorem o14_at (q : Fin 120) (k : Fin 1024) : o14 b (ix3 0 q k) = Spec.codes (b.H ⟨q, by omega⟩) k :=
  (pay14_at _ _ _ q k).trans (v10_at b ⟨q, by omega⟩ k)

theorem o15_at (q : Fin 120) : o15 b (ix2 0 q) = Spec.scale (b.H ⟨q, by omega⟩) :=
  (pay15_at _ _ q).trans (v9_at b ⟨q, by omega⟩)

theorem o16_at (q : Fin 120) (f : Fin 4096) : o16 b (ix3 0 q f) = Spec.codes (b.G ⟨q, by omega⟩) f :=
  (pay57_at _ q f).trans (congrArg Spec.clip (v32_at b ⟨q, by omega⟩ f))

theorem o17_at (q : Fin 120) : o17 b (ix2 0 q) = Spec.scale (b.G ⟨q, by omega⟩) :=
  (pay58_at _ q).trans (v31_at b ⟨q, by omega⟩)

theorem o18_at (s : Fin 576) (k : Fin 1024) : o18 b (ix3 0 s k) = b.code s k := by
  unfold o18
  rw [View.ld_unit_zero (by funext a; fin_cases a <;> rfl), pay72_at, pay71_blk]

theorem o19_at (s : Fin 576) : o19 b (ix2 0 s) = b.scl s :=
  (pay70_at _ _ _ s).trans (pay69_blk b s)

end Blk

end Cert.KernelIdeal.Gen

end
-- ==== Proof.Layer.lean ====
/- The whole layer over the extended reals, as functions of its arguments: the rows of Spec.lean at each listed token. -/
module

public import proofs.«01_k».proof.Proof.Scale

@[expose] public section

noncomputable section

namespace Cert.Spec

open Idealize.ShloMosaic

/-- The arguments of the layer. -/
structure Args where
  x : (⟨3, ![12, 576, 1024]⟩ : Shape).Idx → EReal
  sh : (⟨2, ![12, 1024]⟩ : Shape).Idx → EReal
  sc : (⟨2, ![12, 1024]⟩ : Shape).Idx → EReal
  gt : (⟨2, ![12, 1024]⟩ : Shape).Idx → EReal
  ids : (⟨2, ![12, 120]⟩ : Shape).Idx → BitVec 32
  n : (⟨1, ![12]⟩ : Shape).Idx → BitVec 32
  cc : (⟨3, ![12, 576, 1024]⟩ : Shape).Idx → EReal
  cs : (⟨2, ![12, 576]⟩ : Shape).Idx → EReal
  w1 : (⟨2, ![1024, 4096]⟩ : Shape).Idx → EReal
  s1 : (⟨1, ![4096]⟩ : Shape).Idx → EReal
  b1 : (⟨1, ![4096]⟩ : Shape).Idx → EReal
  w2 : (⟨2, ![4096, 1024]⟩ : Shape).Idx → EReal
  s2 : (⟨1, ![1024]⟩ : Shape).Idx → EReal
  b2 : (⟨1, ![1024]⟩ : Shape).Idx → EReal

namespace Args

variable (A : Args)

/-- Whether a listed entry is counted. -/
def live (b : Fin 12) (q : Fin 120) : BitVec 1 := IntOp.cmpi .slt (BitVec.ofNat 32 ↑q) (A.n (ix1 b))

/-- The token that it names. -/
def tk (b : Fin 12) (q : Fin 120) : Fin 576 := Fin.ofNat 576 (A.ids (ix2 b q)).toNat

/-- Its row normalised, scaled and shifted, -/
def h (b : Fin 12) (q : Fin 120) : Fin 1024 → EReal :=
  hrow (A.live b q) (fun k => A.x (ix3 b (A.tk b q) k)) (fun k => A.sc (ix2 b k)) (fun k => A.sh (ix2 b k))

/-- the hidden row, -/
def g (b : Fin 12) (q : Fin 120) : Fin 4096 → EReal :=
  grow (A.live b q) (A.h b q) (fun k f => A.w1 (ix2 k f)) (fun f => A.s1 (ix1 f)) (fun f => A.b1 (ix1 f))

/-- and the output row. -/
def y (b : Fin 12) (q : Fin 120) : Fin 1024 → EReal :=
  yrow (A.live b q) (A.g b q) (fun f k => A.w2 (ix2 f k)) (fun k => A.s2 (ix1 k)) (fun k => A.b2 (ix1 k))

/-- What is asked of the list: its counted entries are entries of it, each is a token's number, and no two are equal. -/
structure Listed : Prop where
  count : ∀ b, (A.n (ix1 b)).toInt ≤ 120
  token : ∀ b q, A.live b q = 1#1 → 0 ≤ (A.ids (ix2 b q)).toInt ∧ (A.ids (ix2 b q)).toInt < 576
  once : ∀ b q q', A.live b q = 1#1 → A.live b q' = 1#1 → A.ids (ix2 b q) = A.ids (ix2 b q') → q = q'

theorem tk_val {b q} (hL : A.Listed) (hl : A.live b q = 1#1) : A.ids (ix2 b q) = BitVec.ofNat 32 (A.tk b q : ℕ) := by
  obtain ⟨h0, h1⟩ := hL.token b q hl
  have e : (A.ids (ix2 b q)).toNat < 576 := by
    have := BitVec.toInt_eq_toNat_cond (A.ids (ix2 b q))
    have := (A.ids (ix2 b q)).isLt
    split at * <;> omega
  apply BitVec.eq_of_toNat_eq
  show _ = (BitVec.ofNat 32 ((A.ids (ix2 b q)).toNat % 576)).toNat
  rw [BitVec.toNat_ofNat, Nat.mod_eq_of_lt e, Nat.mod_eq_of_lt (by omega)]

theorem hrow_dead (x sc sh) : hrow 0#1 x sc sh = fun _ => 0 := by
  funext k; unfold hrow; simp [Scalar.select]

end Args

end Cert.Spec

end
-- ==== Proof.KernelRows.lean ====
/- What a grid point computes when it is given a sequence of the layer of Layer.lean: the listed rows that are counted are the
   layer's, and a token's cached row is the listed row that names it, or the row cached before. -/
module

public import proofs.«01_k».proof.Proof.KernelBlock
public import proofs.«01_k».proof.Proof.Layer

@[expose] public section

noncomputable section

namespace Cert.KernelIdeal.Gen

open Idealize.ShloMosaic
open Cert

namespace Blk

/-- What the block holds is sequence `i` of the layer. -/
structure Reads (b : Blk Ideal) (A : Spec.Args) (i : Fin 12) : Prop where
  n : b.n = A.n (ix1 i)
  ids : ∀ q : Fin 120, b.ids (ix2 0 q) = A.ids (ix2 i q)
  sh : ∀ k : Fin 1024, b.sh (ix2 0 k) = A.sh (ix2 i k)
  sc : ∀ k : Fin 1024, b.sc (ix2 0 k) = A.sc (ix2 i k)
  gt : ∀ k : Fin 1024, b.gt (ix2 0 k) = A.gt (ix2 i k)
  cs : ∀ s : Fin 576, b.cs (ix2 0 s) = A.cs (ix2 i s)
  x : ∀ (s : Fin 576) (k : Fin 1024), b.x0 (ix3 0 s k) = A.x (ix3 i s k)
  cc : ∀ (s : Fin 576) (k : Fin 1024), b.x5 (ix3 0 s k) = A.cc (ix3 i s k)
  w1 : ∀ (k : Fin 1024) (f : Fin 4096), b.x7 (ix2 k f) = A.w1 (ix2 k f)
  s1 : ∀ f : Fin 4096, b.x8 (ix2 0 f) = A.s1 (ix1 f)
  b1 : ∀ f : Fin 4096, b.x9 (ix2 0 f) = A.b1 (ix1 f)
  w2 : ∀ (f : Fin 4096) (k : Fin 1024), b.x10 (ix2 f k) = A.w2 (ix2 f k)
  s2 : ∀ k : Fin 1024, b.x11 (ix2 0 k) = A.s2 (ix1 k)
  b2 : ∀ k : Fin 1024, b.x12 (ix2 0 k) = A.b2 (ix1 k)

variable {b : Blk Ideal} {A : Spec.Args} {i : Fin 12}

/-- A listed row among the 128 of the block. -/
abbrev up (q : Fin 120) : Fin 128 := ⟨q, by omega⟩

theorem slt_iff (x y : BitVec 32) : IntOp.cmpi .slt x y = 1#1 ↔ x.toInt < y.toInt := by
  show BitVec.ofBool (x.slt y) = 1#1 ↔ _
  rw [BitVec.slt]
  by_cases h : x.toInt < y.toInt <;> simp [h]

theorem eq_iff (x y : BitVec 32) : IntOp.cmpi .eq x y = 1#1 ↔ x = y := by
  show BitVec.ofBool (x == y) = 1#1 ↔ _
  by_cases h : x = y
  · subst h; simp
  · rw [show (x == y) = false from beq_eq_false_iff_ne.2 h]; simp [h]

theorem toInt_small (n : ℕ) (h : n < 2147483648) : (BitVec.ofNat 32 n).toInt = n := by
  rw [BitVec.toInt_eq_toNat_cond, BitVec.toNat_ofNat, Nat.mod_eq_of_lt (by omega)]
  split <;> omega

theorem tok_live (hR : b.Reads A i) (hL : A.Listed) (q : Fin 120) (hl : A.live i q = 1#1) :
    b.tok (up q) = BitVec.ofNat 32 (A.tk i q : ℕ) := by
  rw [tok_eq, hR.n, dif_pos q.isLt, ← A.tk_val hL hl, ← hR.ids q]
  unfold Spec.Args.live at hl
  rw [hl]; rfl

theorem tok_dead (hR : b.Reads A i) (hL : A.Listed) (r : Fin 128) (h : ∀ hr : (r : ℕ) < 120, A.live i ⟨r, hr⟩ ≠ 1#1) :
    b.tok r = 4294967295#32 := by
  have e : IntOp.cmpi .slt (BitVec.ofNat 32 ↑r) b.n = 0#1 := by
    refine ValueIdx.eq_zero_of_ne_one fun e => ?_
    by_cases hr : (r : ℕ) < 120
    · exact h hr (by unfold Spec.Args.live; rw [← hR.n]; exact e)
    · rw [hR.n, slt_iff, toInt_small _ (by omega)] at e
      have := hL.count i
      omega
  rw [tok_eq, e]; rfl

theorem lv_eq (hR : b.Reads A i) (hL : A.Listed) (q : Fin 120) : b.lv (up q) = A.live i q := by
  unfold lv
  by_cases hl : A.live i q = 1#1
  · rw [tok_live hR hL q hl, hl]
    show BitVec.ofBool ((0#32).sle (BitVec.ofNat 32 (A.tk i q : ℕ))) = 1#1
    have h1 := toInt_small (A.tk i q) (by omega)
    have h2 : (0#32 : BitVec 32).toInt = 0 := by decide
    have h0 : (0#32).sle (BitVec.ofNat 32 (A.tk i q : ℕ)) = true := decide_eq_true (by rw [h1, h2]; omega)
    rw [h0]; rfl
  · rw [tok_dead hR hL (up q) fun _ => hl, ValueIdx.eq_zero_of_ne_one hl]; rfl

theorem hit_iff (hR : b.Reads A i) (hL : A.Listed) (s : Fin 576) (r : Fin 128) :
    b.hit s r = 1#1 ↔ ∃ hr : (r : ℕ) < 120, A.live i ⟨r, hr⟩ = 1#1 ∧ A.tk i ⟨r, hr⟩ = s := by
  unfold hit
  rw [eq_iff]
  by_cases h : ∃ hr : (r : ℕ) < 120, A.live i ⟨r, hr⟩ = 1#1
  · obtain ⟨hr, hl⟩ := h
    rw [show b.tok r = _ from tok_live hR hL ⟨r, hr⟩ hl]
    constructor
    · intro e
      refine ⟨hr, hl, Fin.ext ?_⟩
      have := congrArg BitVec.toNat e
      rw [BitVec.toNat_ofNat, BitVec.toNat_ofNat, Nat.mod_eq_of_lt (by omega), Nat.mod_eq_of_lt (by omega)] at this
      exact this.symm
    · rintro ⟨_, _, e⟩; rw [e]
  · rw [tok_dead hR hL r fun hr hl => h ⟨hr, hl⟩]
    constructor
    · intro e
      have := congrArg BitVec.toNat e
      rw [BitVec.toNat_ofNat, Nat.mod_eq_of_lt (by omega)] at this
      have h2 : (4294967295#32 : BitVec 32).toNat = 4294967295 := by decide
      omega
    · rintro ⟨hr, hl, _⟩; exact (h ⟨hr, hl⟩).elim

/-- A sum that picks one of its terms, -/
theorem sum_pick {n : ℕ} (p : Fin n → BitVec 1) (f : Fin n → EReal) (a : Fin n) (ha : p a = 1#1) (h : ∀ r, p r = 1#1 → r = a) :
    ∑ r, Scalar.select (p r) (f r) 0 = f a := by
  rw [Finset.sum_eq_single a]
  · rw [ha]; rfl
  · intro r _ hr
    have e : p r = 0#1 := ValueIdx.eq_zero_of_ne_one fun e => hr (h r e)
    rw [e]; rfl
  · intro h; exact (h (Finset.mem_univ _)).elim

/-- or none. -/
theorem sum_none {n : ℕ} (p : Fin n → BitVec 1) (f : Fin n → EReal) (h : ∀ r, p r ≠ 1#1) : ∑ r, Scalar.select (p r) (f r) 0 = 0 :=
  Finset.sum_eq_zero fun r _ => by rw [ValueIdx.eq_zero_of_ne_one (h r)]; rfl

theorem sum_hit (hR : b.Reads A i) (hL : A.Listed) (q : Fin 120) (hl : A.live i q = 1#1) (f : Fin 128 → EReal) :
    ∑ r, Scalar.select (b.hit (A.tk i q) r) (f r) 0 = f (up q) := by
  refine sum_pick _ f (up q) ((hit_iff hR hL _ _).2 ⟨q.isLt, hl, rfl⟩) fun r e => ?_
  obtain ⟨h, h1, h2⟩ := (hit_iff hR hL _ _).1 e
  have := hL.once i ⟨r, h⟩ q h1 hl (by rw [A.tk_val hL h1, A.tk_val hL hl, h2])
  exact Fin.ext (congrArg (fun x : Fin 120 => (x : ℕ)) this)

theorem sum_miss (hR : b.Reads A i) (hL : A.Listed) (s : Fin 576) (hs : ∀ q, A.live i q = 1#1 → A.tk i q ≠ s) (f : Fin 128 → EReal) :
    ∑ r, Scalar.select (b.hit s r) (f r) 0 = 0 := by
  refine sum_none _ f fun r e => ?_
  obtain ⟨h, h1, h2⟩ := (hit_iff hR hL _ _).1 e
  exact hs _ h1 h2

theorem xr_eq (hR : b.Reads A i) (hL : A.Listed) (q : Fin 120) (hl : A.live i q = 1#1) (k : Fin 1024) :
    b.xr (up q) k = A.x (ix3 i (A.tk i q) k) := by
  unfold xr
  rw [tok_live hR hL q hl]
  refine (sum_pick (fun s : Fin 576 => IntOp.cmpi .eq (BitVec.ofNat 32 ↑s) (BitVec.ofNat 32 (A.tk i q : ℕ))) _ (A.tk i q)
    ((eq_iff _ _).2 rfl) fun s e => ?_).trans (hR.x _ _)
  have := congrArg BitVec.toNat ((eq_iff _ _).1 e)
  rw [BitVec.toNat_ofNat, BitVec.toNat_ofNat, Nat.mod_eq_of_lt (by omega), Nat.mod_eq_of_lt (by omega)] at this
  exact Fin.ext this

theorem H_eq (hR : b.Reads A i) (hL : A.Listed) (q : Fin 120) : b.H (up q) = A.h i q := by
  have e : b.H (up q) = Spec.hrow (b.lv (up q)) (b.xr (up q)) (fun k => b.sc (ix2 0 k)) (fun k => b.sh (ix2 0 k)) := rfl
  rw [e]
  unfold Spec.Args.h
  rw [lv_eq hR hL, funext hR.sc, funext hR.sh]
  by_cases hl : A.live i q = 1#1
  · rw [funext (xr_eq hR hL q hl)]
  · rw [ValueIdx.eq_zero_of_ne_one hl, Spec.Args.hrow_dead, Spec.Args.hrow_dead]

theorem G_eq (hR : b.Reads A i) (hL : A.Listed) (q : Fin 120) : b.G (up q) = A.g i q := by
  have e : b.G (up q) = Spec.grow (b.lv (up q)) (b.H (up q)) (fun k f => b.x7 (ix2 k f)) (fun f => b.x8 (ix2 0 f)) (fun f => b.x9 (ix2 0 f)) := rfl
  rw [e]
  unfold Spec.Args.g
  rw [lv_eq hR hL, H_eq hR hL, funext hR.s1, funext hR.b1, funext fun k => funext (hR.w1 k)]

theorem Y_eq (hR : b.Reads A i) (hL : A.Listed) (q : Fin 120) : b.Y (up q) = A.y i q := by
  have e : b.Y (up q) = Spec.yrow (b.lv (up q)) (b.G (up q)) (fun f k => b.x10 (ix2 f k)) (fun k => b.x11 (ix2 0 k)) (fun k => b.x12 (ix2 0 k)) := rfl
  rw [e]
  unfold Spec.Args.y
  rw [lv_eq hR hL, G_eq hR hL, funext hR.s2, funext hR.b2, funext fun k => funext (hR.w2 k)]

theorem ns_hit (hR : b.Reads A i) (hL : A.Listed) (q : Fin 120) (hl : A.live i q = 1#1) : b.ns (A.tk i q) = Spec.scale (A.y i q) := by
  unfold ns
  rw [sum_hit hR hL q hl, Y_eq hR hL]

theorem ns_miss (hR : b.Reads A i) (hL : A.Listed) (s : Fin 576) (hs : ∀ q, A.live i q = 1#1 → A.tk i q ≠ s) : b.ns s = 0 :=
  sum_miss hR hL s hs _

theorem code_hit (hR : b.Reads A i) (hL : A.Listed) (q : Fin 120) (hl : A.live i q = 1#1) (k : Fin 1024) :
    b.code (A.tk i q) k = Spec.codes (A.y i q) k := by
  unfold code
  rw [ns_hit hR hL q hl, sum_hit hR hL q hl, Y_eq hR hL, decide_eq_true (Spec.scale_pos (by decide) (A.y i q))]; rfl

theorem scl_hit (hR : b.Reads A i) (hL : A.Listed) (q : Fin 120) (hl : A.live i q = 1#1) : b.scl (A.tk i q) = Spec.scale (A.y i q) := by
  unfold scl
  rw [ns_hit hR hL q hl, decide_eq_true (Spec.scale_pos (by decide) (A.y i q))]; rfl

theorem code_miss (hR : b.Reads A i) (hL : A.Listed) (s : Fin 576) (hs : ∀ q, A.live i q = 1#1 → A.tk i q ≠ s) (k : Fin 1024) :
    b.code s k = A.cc (ix3 i s k) := by
  unfold code
  rw [ns_miss hR hL s hs, decide_eq_false (lt_irrefl _), ← hR.cc]; rfl

theorem scl_miss (hR : b.Reads A i) (hL : A.Listed) (s : Fin 576) (hs : ∀ q, A.live i q = 1#1 → A.tk i q ≠ s) : b.scl s = A.cs (ix2 i s) := by
  unfold scl
  rw [ns_miss hR hL s hs, decide_eq_false (lt_irrefl _), ← hR.cs]; rfl

end Blk

end Cert.KernelIdeal.Gen

end
-- ==== Proof.KernelReads.lean ====
/- What the grid points are given, read off the kernel's arguments. -/
module

public import proofs.«01_k».proof.Proof.KernelFrame
public import proofs.«01_k».proof.Proof.KernelRows
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem
open Cert

variable (m : (ℓ : Loc nD τ sig) → Buf (Elt Ideal) ℓ)

theorem V_main_v0 (c : Dev nD) : V m c main_v0 = shapeCast S1x4096 (m ((c.tc : Thread nD τ).loc main_arg9)) shapeCasts_S4096_S1x4096 := by
  show StableHlo.after hostOps0 (fun b => m (c, b)) (Proc.devRef .tc main_v0) = _
  simp only [hostOps0, List.flatten_cons, List.flatten_nil, List.append_nil, List.cons_append, List.nil_append]
  after_results_simp <;> rfl

theorem V_main_v1 (c : Dev nD) : V m c main_v1 = shapeCast S1x4096 (m ((c.tc : Thread nD τ).loc main_arg10)) shapeCasts_S4096_S1x4096 := by
  show StableHlo.after hostOps0 (fun b => m (c, b)) (Proc.devRef .tc main_v1) = _
  simp only [hostOps0, List.flatten_cons, List.flatten_nil, List.append_nil, List.cons_append, List.nil_append]
  after_results_simp <;> rfl

theorem V_main_v2 (c : Dev nD) : V m c main_v2 = shapeCast S1x1024 (m ((c.tc : Thread nD τ).loc main_arg12)) shapeCasts_S1024_S1x1024 := by
  show StableHlo.after hostOps0 (fun b => m (c, b)) (Proc.devRef .tc main_v2) = _
  simp only [hostOps0, List.flatten_cons, List.flatten_nil, List.append_nil, List.cons_append, List.nil_append]
  after_results_simp <;> rfl

theorem V_main_v3 (c : Dev nD) : V m c main_v3 = shapeCast S1x1024 (m ((c.tc : Thread nD τ).loc main_arg13)) shapeCasts_S1024_S1x1024 := by
  show StableHlo.after hostOps0 (fun b => m (c, b)) (Proc.devRef .tc main_v3) = _
  simp only [hostOps0, List.flatten_cons, List.flatten_nil, List.append_nil, List.cons_append, List.nil_append]
  after_results_simp <;> rfl

theorem zero_block {x n y : ℕ} (h : x = 0) : x * n + y = y := by rw [h]; omega

theorem ix0_0 (a : (pcfg0 (F := Ideal)).Adm) (t : Fin grid0.N) : (pcfg0.win a 0).index t = ![t.val, 0, 0] :=
  (by decide +kernel : ∀ t : Fin grid0.N, cc0_transform_0 (grid0.coords t) = ![t.val, 0, 0]) t
theorem iblk0 (hO : Ok m) (c : Dev nD) (t : Fin grid0.N) (s : Fin 576) (k : Fin 1024) : iblk m hO c 0 t (ix3 0 s k) = V m c main_arg0 (ix3 t s k) := by
  show V m c main_arg0 ((((cfgM m hO).win 0).blk t).view.emb (ix3 0 s k)) = _
  refine congrArg _ ?_
  funext a
  refine Fin.ext ?_
  blk_simp
  rw [show ((cfgM m hO).win 0).index t = ![t.val, 0, 0] from ix0_0 _ t]
  fin_cases a
  · show (t : ℕ) * 1 + 0 = t; omega
  · show 0 * 576 + (s : ℕ) = s; omega
  · show 0 * 1024 + (k : ℕ) = k; omega
theorem ix0_1 (a : (pcfg0 (F := Ideal)).Adm) (t : Fin grid0.N) : (pcfg0.win a 1).index t = ![0, 0] :=
  (by decide +kernel : ∀ t : Fin grid0.N, cc0_transform_1 (grid0.coords t) = ![0, 0]) t
theorem iblk1 (hO : Ok m) (c : Dev nD) (t : Fin grid0.N) : iblk m hO c 1 t = V m c main_arg1 := by
  blk_ext! [iblk]
  all_goals first
    | exact zero_block (congrFun (ix0_1 (adm m hO) t) 0)
    | exact zero_block (congrFun (ix0_1 (adm m hO) t) 1)
    | exact congrFun (ix0_1 (adm m hO) t) 0
theorem ix0_2 (a : (pcfg0 (F := Ideal)).Adm) (t : Fin grid0.N) : (pcfg0.win a 2).index t = ![0, 0] :=
  (by decide +kernel : ∀ t : Fin grid0.N, cc0_transform_2 (grid0.coords t) = ![0, 0]) t
theorem iblk2 (hO : Ok m) (c : Dev nD) (t : Fin grid0.N) : iblk m hO c 2 t = V m c main_arg2 := by
  blk_ext! [iblk]
  all_goals first
    | exact zero_block (congrFun (ix0_2 (adm m hO) t) 0)
    | exact zero_block (congrFun (ix0_2 (adm m hO) t) 1)
    | exact congrFun (ix0_2 (adm m hO) t) 0
theorem ix0_3 (a : (pcfg0 (F := Ideal)).Adm) (t : Fin grid0.N) : (pcfg0.win a 3).index t = ![0, 0] :=
  (by decide +kernel : ∀ t : Fin grid0.N, cc0_transform_3 (grid0.coords t) = ![0, 0]) t
theorem iblk3 (hO : Ok m) (c : Dev nD) (t : Fin grid0.N) : iblk m hO c 3 t = V m c main_arg3 := by
  blk_ext! [iblk]
  all_goals first
    | exact zero_block (congrFun (ix0_3 (adm m hO) t) 0)
    | exact zero_block (congrFun (ix0_3 (adm m hO) t) 1)
    | exact congrFun (ix0_3 (adm m hO) t) 0
theorem ix0_4 (a : (pcfg0 (F := Ideal)).Adm) (t : Fin grid0.N) : (pcfg0.win a 4).index t = ![0, 0] :=
  (by decide +kernel : ∀ t : Fin grid0.N, cc0_transform_4 (grid0.coords t) = ![0, 0]) t
theorem iblk4 (hO : Ok m) (c : Dev nD) (t : Fin grid0.N) : iblk m hO c 4 t = V m c main_arg4 := by
  blk_ext! [iblk]
  all_goals first
    | exact zero_block (congrFun (ix0_4 (adm m hO) t) 0)
    | exact zero_block (congrFun (ix0_4 (adm m hO) t) 1)
    | exact congrFun (ix0_4 (adm m hO) t) 0
theorem ix0_5 (a : (pcfg0 (F := Ideal)).Adm) (t : Fin grid0.N) : (pcfg0.win a 5).index t = ![t.val, 0, 0] :=
  (by decide +kernel : ∀ t : Fin grid0.N, cc0_transform_5 (grid0.coords t) = ![t.val, 0, 0]) t
theorem iblk5 (hO : Ok m) (c : Dev nD) (t : Fin grid0.N) (s : Fin 576) (k : Fin 1024) : iblk m hO c 5 t (ix3 0 s k) = V m c main_arg6 (ix3 t s k) := by
  show V m c main_arg6 ((((cfgM m hO).win 5).blk t).view.emb (ix3 0 s k)) = _
  refine congrArg _ ?_
  funext a
  refine Fin.ext ?_
  blk_simp
  rw [show ((cfgM m hO).win 5).index t = ![t.val, 0, 0] from ix0_5 _ t]
  fin_cases a
  · show (t : ℕ) * 1 + 0 = t; omega
  · show 0 * 576 + (s : ℕ) = s; omega
  · show 0 * 1024 + (k : ℕ) = k; omega
theorem ix0_6 (a : (pcfg0 (F := Ideal)).Adm) (t : Fin grid0.N) : (pcfg0.win a 6).index t = ![0, 0] :=
  (by decide +kernel : ∀ t : Fin grid0.N, cc0_transform_6 (grid0.coords t) = ![0, 0]) t
theorem iblk6 (hO : Ok m) (c : Dev nD) (t : Fin grid0.N) : iblk m hO c 6 t = V m c main_arg7 := by
  blk_ext! [iblk]
  all_goals first
    | exact zero_block (congrFun (ix0_6 (adm m hO) t) 0)
    | exact zero_block (congrFun (ix0_6 (adm m hO) t) 1)
    | exact congrFun (ix0_6 (adm m hO) t) 0
theorem ix0_7 (a : (pcfg0 (F := Ideal)).Adm) (t : Fin grid0.N) : (pcfg0.win a 7).index t = ![0, 0] :=
  (by decide +kernel : ∀ t : Fin grid0.N, cc0_transform_7 (grid0.coords t) = ![0, 0]) t
theorem iblk7 (hO : Ok m) (c : Dev nD) (t : Fin grid0.N) : iblk m hO c 7 t = V m c main_arg8 := by
  blk_ext! [iblk]
  all_goals first
    | exact zero_block (congrFun (ix0_7 (adm m hO) t) 0)
    | exact zero_block (congrFun (ix0_7 (adm m hO) t) 1)
    | exact congrFun (ix0_7 (adm m hO) t) 0
theorem ix0_8 (a : (pcfg0 (F := Ideal)).Adm) (t : Fin grid0.N) : (pcfg0.win a 8).index t = ![0, 0] :=
  (by decide +kernel : ∀ t : Fin grid0.N, cc0_transform_8 (grid0.coords t) = ![0, 0]) t
theorem iblk8 (hO : Ok m) (c : Dev nD) (t : Fin grid0.N) : iblk m hO c 8 t = V m c main_v0 := by
  blk_ext! [iblk]
  all_goals first
    | exact zero_block (congrFun (ix0_8 (adm m hO) t) 0)
    | exact zero_block (congrFun (ix0_8 (adm m hO) t) 1)
    | exact congrFun (ix0_8 (adm m hO) t) 0
theorem ix0_9 (a : (pcfg0 (F := Ideal)).Adm) (t : Fin grid0.N) : (pcfg0.win a 9).index t = ![0, 0] :=
  (by decide +kernel : ∀ t : Fin grid0.N, cc0_transform_9 (grid0.coords t) = ![0, 0]) t
theorem iblk9 (hO : Ok m) (c : Dev nD) (t : Fin grid0.N) : iblk m hO c 9 t = V m c main_v1 := by
  blk_ext! [iblk]
  all_goals first
    | exact zero_block (congrFun (ix0_9 (adm m hO) t) 0)
    | exact zero_block (congrFun (ix0_9 (adm m hO) t) 1)
    | exact congrFun (ix0_9 (adm m hO) t) 0
theorem ix0_10 (a : (pcfg0 (F := Ideal)).Adm) (t : Fin grid0.N) : (pcfg0.win a 10).index t = ![0, 0] :=
  (by decide +kernel : ∀ t : Fin grid0.N, cc0_transform_10 (grid0.coords t) = ![0, 0]) t
theorem iblk10 (hO : Ok m) (c : Dev nD) (t : Fin grid0.N) : iblk m hO c 10 t = V m c main_arg11 := by
  blk_ext! [iblk]
  all_goals first
    | exact zero_block (congrFun (ix0_10 (adm m hO) t) 0)
    | exact zero_block (congrFun (ix0_10 (adm m hO) t) 1)
    | exact congrFun (ix0_10 (adm m hO) t) 0
theorem ix0_11 (a : (pcfg0 (F := Ideal)).Adm) (t : Fin grid0.N) : (pcfg0.win a 11).index t = ![0, 0] :=
  (by decide +kernel : ∀ t : Fin grid0.N, cc0_transform_11 (grid0.coords t) = ![0, 0]) t
theorem iblk11 (hO : Ok m) (c : Dev nD) (t : Fin grid0.N) : iblk m hO c 11 t = V m c main_v2 := by
  blk_ext! [iblk]
  all_goals first
    | exact zero_block (congrFun (ix0_11 (adm m hO) t) 0)
    | exact zero_block (congrFun (ix0_11 (adm m hO) t) 1)
    | exact congrFun (ix0_11 (adm m hO) t) 0
theorem ix0_12 (a : (pcfg0 (F := Ideal)).Adm) (t : Fin grid0.N) : (pcfg0.win a 12).index t = ![0, 0] :=
  (by decide +kernel : ∀ t : Fin grid0.N, cc0_transform_12 (grid0.coords t) = ![0, 0]) t
theorem iblk12 (hO : Ok m) (c : Dev nD) (t : Fin grid0.N) : iblk m hO c 12 t = V m c main_v3 := by
  blk_ext! [iblk]
  all_goals first
    | exact zero_block (congrFun (ix0_12 (adm m hO) t) 0)
    | exact zero_block (congrFun (ix0_12 (adm m hO) t) 1)
    | exact congrFun (ix0_12 (adm m hO) t) 0

/-- The arguments of a core. -/
def args (c : Dev nD) : Spec.Args where
  x := m ((c.tc : Thread nD τ).loc main_arg0)
  sh := m ((c.tc : Thread nD τ).loc main_arg1)
  sc := m ((c.tc : Thread nD τ).loc main_arg2)
  gt := m ((c.tc : Thread nD τ).loc main_arg3)
  ids := m ((c.tc : Thread nD τ).loc main_arg4)
  n := m ((c.tc : Thread nD τ).loc main_arg5)
  cc := m ((c.tc : Thread nD τ).loc main_arg6)
  cs := m ((c.tc : Thread nD τ).loc main_arg7)
  w1 := m ((c.tc : Thread nD τ).loc main_arg8)
  s1 := m ((c.tc : Thread nD τ).loc main_arg9)
  b1 := m ((c.tc : Thread nD τ).loc main_arg10)
  w2 := m ((c.tc : Thread nD τ).loc main_arg11)
  s2 := m ((c.tc : Thread nD τ).loc main_arg12)
  b2 := m ((c.tc : Thread nD τ).loc main_arg13)

theorem cast1024_at (v : S1024.Idx → EReal) (k : Fin 1024) : shapeCast S1x1024 v shapeCasts_S1024_S1x1024 (ix2 0 k) = v (ix1 k) := by pointwise
theorem cast4096_at (v : S4096.Idx → EReal) (k : Fin 4096) : shapeCast S1x4096 v shapeCasts_S4096_S1x4096 (ix2 0 k) = v (ix1 k) := by pointwise

theorem off1_val (t : Fin grid0.N) : k0_off1 (grid0.coords t) 0 = t.val :=
  (by decide +kernel : ∀ t : Fin grid0.N, k0_off1 (grid0.coords t) 0 = t.val) t

theorem emb1024 (t : Fin grid0.N) (q : Fin 1024) :
    (Rect.unit (s := S12x1024) (k0_off3 (grid0.coords t)) S1x1024.size (k0_off3_inb (grid0.coords t))).emb (ix2 0 q) = ix2 t q := by
  funext a
  refine Fin.ext ?_
  show k0_off3 (grid0.coords t) a + 1 * (ix2 (0 : Fin 1) q a : ℕ) = _
  rw [k0_off3_eq]
  fin_cases a
  · show ((grid0.coords t) 0 : ℕ) + 1 * 0 = t; rw [coords_val]; omega
  · show 0 + 1 * (q : ℕ) = q; omega

theorem ldr1024 (X : Vec Ideal S12x1024 .f32) (t : Fin grid0.N) (q : Fin 1024) :
    View.ld X (Rect.unit (s := S12x1024) (k0_off3 (grid0.coords t)) S1x1024.size (k0_off3_inb (grid0.coords t))) (ix2 0 q) = X (ix2 t q) :=
  congrArg X (emb1024 t q)

theorem emb120 (t : Fin grid0.N) (q : Fin 120) :
    (Rect.unit (s := S12x120) (k0_off2 (grid0.coords t)) S1x120.size (k0_off2_inb (grid0.coords t))).emb (ix2 0 q) = ix2 t q := by
  funext a
  refine Fin.ext ?_
  show k0_off2 (grid0.coords t) a + 1 * (ix2 (0 : Fin 1) q a : ℕ) = _
  rw [k0_off2_eq]
  fin_cases a
  · show ((grid0.coords t) 0 : ℕ) + 1 * 0 = t; rw [coords_val]; omega
  · show 0 + 1 * (q : ℕ) = q; omega

theorem ldr120 (X : Vec Ideal S12x120 .i32) (t : Fin grid0.N) (q : Fin 120) :
    View.ld X (Rect.unit (s := S12x120) (k0_off2 (grid0.coords t)) S1x120.size (k0_off2_inb (grid0.coords t))) (ix2 0 q) = X (ix2 t q) :=
  congrArg X (emb120 t q)

theorem emb576 (t : Fin grid0.N) (q : Fin 576) :
    (Rect.unit (s := S12x576) (k0_off4 (grid0.coords t)) S1x576.size (k0_off4_inb (grid0.coords t))).emb (ix2 0 q) = ix2 t q := by
  funext a
  refine Fin.ext ?_
  show k0_off4 (grid0.coords t) a + 1 * (ix2 (0 : Fin 1) q a : ℕ) = _
  rw [k0_off4_eq]
  fin_cases a
  · show ((grid0.coords t) 0 : ℕ) + 1 * 0 = t; rw [coords_val]; omega
  · show 0 + 1 * (q : ℕ) = q; omega

theorem ldr576 (X : Vec Ideal S12x576 .f32) (t : Fin grid0.N) (q : Fin 576) :
    View.ld X (Rect.unit (s := S12x576) (k0_off4 (grid0.coords t)) S1x576.size (k0_off4_inb (grid0.coords t))) (ix2 0 q) = X (ix2 t q) :=
  congrArg X (emb576 t q)

theorem n_at (c : Dev nD) (X : S12.Idx → BitVec 32) (t : Fin grid0.N) :
    View.readAt (Elt Ideal) tbM0_0.view (Rect.unit (s := S12) (k0_off1 (grid0.coords t)) S1.size (k0_off1_inb (grid0.coords t))).toLoadRect X
      (Shape.Idx.first (Nat.lt_of_lt_of_eq Nat.zero_lt_one numel1_S1.symm)) = X (ix1 t) := by
  refine congrArg X (funext fun a => Fin.ext ?_)
  fin_cases a
  show k0_off1 (grid0.coords t) 0 + 1 * 0 = t
  rw [off1_val]; omega

set_option maxHeartbeats 4000000 in
/-- A grid point is given the sequence of its number. -/
theorem reads (hO : Ok m) (c : Dev nD) (t : Fin grid0.N) : (blkOf m hO c t).Reads (args m c) t where
  n := by
    obtain rfl : c = 0 := Subsingleton.elim _ _
    refine (n_at 0 (tbl m 0) t).trans ?_
    exact congrFun (V_main_arg5 m 0) (ix1 t)
  ids q := (ldr120 (iblk m hO c 4 t) t q).trans (by rw [iblk4, V_main_arg4]; rfl)
  sh k := (ldr1024 (iblk m hO c 1 t) t k).trans (by rw [iblk1, V_main_arg1]; rfl)
  sc k := (ldr1024 (iblk m hO c 2 t) t k).trans (by rw [iblk2, V_main_arg2]; rfl)
  gt k := (ldr1024 (iblk m hO c 3 t) t k).trans (by rw [iblk3, V_main_arg3]; rfl)
  cs s := (ldr576 (iblk m hO c 6 t) t s).trans (by rw [iblk6, V_main_arg7]; rfl)
  x s k := (iblk0 m hO c t s k).trans (by rw [V_main_arg0]; rfl)
  cc s k := (iblk5 m hO c t s k).trans (by rw [V_main_arg6]; rfl)
  w1 k f := (congrFun (iblk7 m hO c t) (ix2 k f)).trans (by rw [V_main_arg8]; rfl)
  s1 f := (congrFun (iblk8 m hO c t) (ix2 0 f)).trans (by rw [V_main_v0]; exact cast4096_at _ f)
  b1 f := (congrFun (iblk9 m hO c t) (ix2 0 f)).trans (by rw [V_main_v1]; exact cast4096_at _ f)
  w2 f k := (congrFun (iblk10 m hO c t) (ix2 f k)).trans (by rw [V_main_arg11]; rfl)
  s2 k := (congrFun (iblk11 m hO c t) (ix2 0 k)).trans (by rw [V_main_v2]; exact cast1024_at _ k)
  b2 k := (congrFun (iblk12 m hO c t) (ix2 0 k)).trans (by rw [V_main_v3]; exact cast1024_at _ k)

end Cert.KernelIdeal.Gen

end
-- ==== Proof.Outs.lean ====
/- The layer's seven results, as functions of its arguments. -/
module

public import proofs.«01_k».proof.Proof.Layer

@[expose] public section

noncomputable section

namespace Cert.Spec.Args

open Idealize.ShloMosaic

variable (A : Args)

open Classical in
/-- The new cached codes: those of the counted entry that names the token, or those cached before. -/
def cod (b : Fin 12) (s : Fin 576) (k : Fin 1024) : EReal :=
  if h : ∃ q, A.live b q = 1#1 ∧ A.tk b q = s then codes (A.y b h.choose) k else A.cc (ix3 b s k)

open Classical in
/-- The new cached scales. -/
def scl (b : Fin 12) (s : Fin 576) : EReal :=
  if h : ∃ q, A.live b q = 1#1 ∧ A.tk b q = s then scale (A.y b h.choose) else A.cs (ix2 b s)

theorem cod_eq (b : Fin 12) (v : Fin 576 → Fin 1024 → EReal)
    (hit : ∀ q, A.live b q = 1#1 → ∀ k, v (A.tk b q) k = codes (A.y b q) k)
    (miss : ∀ s, (∀ q, A.live b q = 1#1 → A.tk b q ≠ s) → ∀ k, v s k = A.cc (ix3 b s k)) (s : Fin 576) (k : Fin 1024) : v s k = A.cod b s k := by
  unfold cod
  split
  · rename_i h
    have e := hit _ h.choose_spec.1 k
    rw [h.choose_spec.2] at e
    exact e
  · rename_i h
    exact miss s (fun q hl e => h ⟨q, hl, e⟩) k

theorem scl_eq (b : Fin 12) (v : Fin 576 → EReal)
    (hit : ∀ q, A.live b q = 1#1 → v (A.tk b q) = scale (A.y b q))
    (miss : ∀ s, (∀ q, A.live b q = 1#1 → A.tk b q ≠ s) → v s = A.cs (ix2 b s)) (s : Fin 576) : v s = A.scl b s := by
  unfold scl
  split
  · rename_i h
    have e := hit _ h.choose_spec.1
    rw [h.choose_spec.2] at e
    exact e
  · rename_i h
    exact miss s fun q hl e => h ⟨q, hl, e⟩

/-- The output, -/
def r0 (j : (⟨3, ![12, 576, 1024]⟩ : Shape).Idx) : EReal :=
  A.x (ix3 (j 0) (j 1) (j 2)) + A.gt (ix2 (j 0) (j 2)) * (A.cod (j 0) (j 1) (j 2) * A.scl (j 0) (j 1))
/-- the codes and the scales of the rows, -/
def r1 (j : (⟨3, ![12, 120, 1024]⟩ : Shape).Idx) : EReal := codes (A.h (j 0) (j 1)) (j 2)
def r2 (j : (⟨2, ![12, 120]⟩ : Shape).Idx) : EReal := scale (A.h (j 0) (j 1))
/-- of the hidden rows, -/
def r3 (j : (⟨3, ![12, 120, 4096]⟩ : Shape).Idx) : EReal := codes (A.g (j 0) (j 1)) (j 2)
def r4 (j : (⟨2, ![12, 120]⟩ : Shape).Idx) : EReal := scale (A.g (j 0) (j 1))
/-- and of the cached rows. -/
def r5 (j : (⟨3, ![12, 576, 1024]⟩ : Shape).Idx) : EReal := A.cod (j 0) (j 1) (j 2)
def r6 (j : (⟨2, ![12, 576]⟩ : Shape).Idx) : EReal := A.scl (j 0) (j 1)

end Cert.Spec.Args

end
-- ==== Proof.KernelArr.lean ====
/- The kernel's results: what the grid points leave in the arrays is the layer's. -/
module

public import proofs.«01_k».proof.Proof.KernelReads
public import proofs.«01_k».proof.Proof.Outs
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Cert

variable (m : (ℓ : Loc nD τ sig) → Buf (Elt Ideal) ℓ)

def a0 : (pcfg0 (F := Ideal)).Adm := ⟨fun _ => Classical.arbitrary _, trivial⟩
theorem cov13 (a : (pcfg0 (F := Ideal)).Adm) : ((cfg0 a).win 13).Covers := (by decide +kernel : ((cfg0 a0).win 13).Covers)
theorem cov14 (a : (pcfg0 (F := Ideal)).Adm) : ((cfg0 a).win 14).Covers := (by decide +kernel : ((cfg0 a0).win 14).Covers)
theorem cov16 (a : (pcfg0 (F := Ideal)).Adm) : ((cfg0 a).win 16).Covers := (by decide +kernel : ((cfg0 a0).win 16).Covers)
theorem cov18 (a : (pcfg0 (F := Ideal)).Adm) : ((cfg0 a).win 18).Covers := (by decide +kernel : ((cfg0 a0).win 18).Covers)
/-- The last grid point. -/
def t11 : Fin grid0.N := ⟨11, by decide⟩
theorem whole15 (a : (pcfg0 (F := Ideal)).Adm) : ((cfg0 a).win 15).WholeAt t11 := (by decide +kernel : ((cfg0 a0).win 15).WholeAt t11)
theorem whole17 (a : (pcfg0 (F := Ideal)).Adm) : ((cfg0 a).win 17).WholeAt t11 := (by decide +kernel : ((cfg0 a0).win 17).WholeAt t11)
theorem whole19 (a : (pcfg0 (F := Ideal)).Adm) : ((cfg0 a).win 19).WholeAt t11 := (by decide +kernel : ((cfg0 a0).win 19).WholeAt t11)

variable (hO : Ok m)

theorem leaves_exact (c : Dev nD) (w : Fin (cfgM m hO).W) (hw : marked w = false) (t : Fin (cfgM m hO).N)
    (X : ((cfgM m hO).win w).block.Idx → Elt Ideal ((cfgM m hO).win w).elt) (h : (rdats m hO c).Leaves w t X) : X = (dats m hO 0 c).after w t := by
  obtain ⟨_, _, hX⟩ := h
  rw [(dats m hO 0 c).toRRel_after_of_eq_false hw] at hX
  exact hX

theorem ix0_13 (a : (pcfg0 (F := Ideal)).Adm) (t : Fin grid0.N) : (pcfg0.win a 13).index t = ![t.val, 0, 0] :=
  (by decide +kernel : ∀ t : Fin grid0.N, cc0_transform_13 (grid0.coords t) = ![t.val, 0, 0]) t
theorem emb_13 (a : (pcfg0 (F := Ideal)).Adm) (t : Fin grid0.N) (s : Fin 576) (k : Fin 1024) : (((cfg0 a).win 13).blk t).view.emb (ix3 0 s k) = ix3 t s k := by
  funext b
  refine Fin.ext ?_
  blk_simp
  rw [show ((cfg0 a).win 13).index t = ![t.val, 0, 0] from ix0_13 _ t]
  fin_cases b
  · show (t : ℕ) * 1 + 0 = t; omega
  · show 0 * 576 + (s : ℕ) = s; omega
  · show 0 * 1024 + (k : ℕ) = k; omega

theorem ix0_14 (a : (pcfg0 (F := Ideal)).Adm) (t : Fin grid0.N) : (pcfg0.win a 14).index t = ![t.val, 0, 0] :=
  (by decide +kernel : ∀ t : Fin grid0.N, cc0_transform_14 (grid0.coords t) = ![t.val, 0, 0]) t
theorem emb_14 (a : (pcfg0 (F := Ideal)).Adm) (t : Fin grid0.N) (s : Fin 120) (k : Fin 1024) : (((cfg0 a).win 14).blk t).view.emb (ix3 0 s k) = ix3 t s k := by
  funext b
  refine Fin.ext ?_
  blk_simp
  rw [show ((cfg0 a).win 14).index t = ![t.val, 0, 0] from ix0_14 _ t]
  fin_cases b
  · show (t : ℕ) * 1 + 0 = t; omega
  · show 0 * 120 + (s : ℕ) = s; omega
  · show 0 * 1024 + (k : ℕ) = k; omega

theorem ix0_16 (a : (pcfg0 (F := Ideal)).Adm) (t : Fin grid0.N) : (pcfg0.win a 16).index t = ![t.val, 0, 0] :=
  (by decide +kernel : ∀ t : Fin grid0.N, cc0_transform_16 (grid0.coords t) = ![t.val, 0, 0]) t
theorem emb_16 (a : (pcfg0 (F := Ideal)).Adm) (t : Fin grid0.N) (s : Fin 120) (k : Fin 4096) : (((cfg0 a).win 16).blk t).view.emb (ix3 0 s k) = ix3 t s k := by
  funext b
  refine Fin.ext ?_
  blk_simp
  rw [show ((cfg0 a).win 16).index t = ![t.val, 0, 0] from ix0_16 _ t]
  fin_cases b
  · show (t : ℕ) * 1 + 0 = t; omega
  · show 0 * 120 + (s : ℕ) = s; omega
  · show 0 * 4096 + (k : ℕ) = k; omega

theorem ix0_18 (a : (pcfg0 (F := Ideal)).Adm) (t : Fin grid0.N) : (pcfg0.win a 18).index t = ![t.val, 0, 0] :=
  (by decide +kernel : ∀ t : Fin grid0.N, cc0_transform_18 (grid0.coords t) = ![t.val, 0, 0]) t
theorem emb_18 (a : (pcfg0 (F := Ideal)).Adm) (t : Fin grid0.N) (s : Fin 576) (k : Fin 1024) : (((cfg0 a).win 18).blk t).view.emb (ix3 0 s k) = ix3 t s k := by
  funext b
  refine Fin.ext ?_
  blk_simp
  rw [show ((cfg0 a).win 18).index t = ![t.val, 0, 0] from ix0_18 _ t]
  fin_cases b
  · show (t : ℕ) * 1 + 0 = t; omega
  · show 0 * 576 + (s : ℕ) = s; omega
  · show 0 * 1024 + (k : ℕ) = k; omega

theorem code_eq (c : Dev nD) (hL : (args m c).Listed) (t : Fin grid0.N) (s : Fin 576) (k : Fin 1024) :
    (blkOf m hO c t).code s k = (args m c).cod t s k :=
  (args m c).cod_eq t (blkOf m hO c t).code (fun q hl k => Blk.code_hit (reads m hO c t) hL q hl k)
    (fun s hs k => Blk.code_miss (reads m hO c t) hL s hs k) s k

theorem scl_eq (c : Dev nD) (hL : (args m c).Listed) (t : Fin grid0.N) (s : Fin 576) :
    (blkOf m hO c t).scl s = (args m c).scl t s :=
  (args m c).scl_eq t (blkOf m hO c t).scl (fun q hl => Blk.scl_hit (reads m hO c t) hL q hl)
    (fun s hs => Blk.scl_miss (reads m hO c t) hL s hs) s

theorem o13_eq (c : Dev nD) (hL : (args m c).Listed) (t : Fin grid0.N) (s : Fin 576) (k : Fin 1024) :
    (blkOf m hO c t).o13 (ix3 0 s k) = (args m c).r0 (ix3 t s k) := by
  rw [Blk.o13_at, code_eq m hO c hL, scl_eq m hO c hL, (reads m hO c t).x, (reads m hO c t).gt]; rfl
theorem o14_eq (c : Dev nD) (hL : (args m c).Listed) (t : Fin grid0.N) (q : Fin 120) (k : Fin 1024) :
    (blkOf m hO c t).o14 (ix3 0 q k) = (args m c).r1 (ix3 t q k) := by
  rw [Blk.o14_at, show (blkOf m hO c t).H ⟨q, by omega⟩ = _ from Blk.H_eq (reads m hO c t) hL q]; rfl
theorem o15_eq (c : Dev nD) (hL : (args m c).Listed) (t : Fin grid0.N) (q : Fin 120) :
    (blkOf m hO c t).o15 (ix2 0 q) = (args m c).r2 (ix2 t q) := by
  rw [Blk.o15_at, show (blkOf m hO c t).H ⟨q, by omega⟩ = _ from Blk.H_eq (reads m hO c t) hL q]; rfl
theorem o16_eq (c : Dev nD) (hL : (args m c).Listed) (t : Fin grid0.N) (q : Fin 120) (k : Fin 4096) :
    (blkOf m hO c t).o16 (ix3 0 q k) = (args m c).r3 (ix3 t q k) := by
  rw [Blk.o16_at, show (blkOf m hO c t).G ⟨q, by omega⟩ = _ from Blk.G_eq (reads m hO c t) hL q]; rfl
theorem o17_eq (c : Dev nD) (hL : (args m c).Listed) (t : Fin grid0.N) (q : Fin 120) :
    (blkOf m hO c t).o17 (ix2 0 q) = (args m c).r4 (ix2 t q) := by
  rw [Blk.o17_at, show (blkOf m hO c t).G ⟨q, by omega⟩ = _ from Blk.G_eq (reads m hO c t) hL q]; rfl
theorem o18_eq (c : Dev nD) (hL : (args m c).Listed) (t : Fin grid0.N) (s : Fin 576) (k : Fin 1024) :
    (blkOf m hO c t).o18 (ix3 0 s k) = (args m c).r5 (ix3 t s k) := by
  rw [Blk.o18_at, code_eq m hO c hL]; rfl
theorem o19_eq (c : Dev nD) (hL : (args m c).Listed) (t : Fin grid0.N) (s : Fin 576) :
    (blkOf m hO c t).o19 (ix2 0 s) = (args m c).r6 (ix2 t s) := by
  rw [Blk.o19_at, scl_eq m hO c hL]; rfl

/-- What holds of what the grid points leave. -/
abbrev Left (c : Dev nD) (after : (w' : Fin (cfgM m hO).W) → Fin (cfgM m hO).N → ((cfgM m hO).win w').block.Idx → Elt Ideal ((cfgM m hO).win w').elt) : Prop :=
  ∀ (w : Fin (cfgM m hO).W) (u : Fin (cfgM m hO).N), ((cfgM m hO).win w).flush u = true → (rdats m hO c).Leaves w u (after w u)

theorem split3 {a b c : ℕ} (y : (⟨3, ![a, b, c]⟩ : Shape).Idx) : y = ix3 (y 0) (y 1) (y 2) := by
  funext i; fin_cases i <;> rfl
theorem split1 {b c : ℕ} (y : (⟨3, ![1, b, c]⟩ : Shape).Idx) : y = ix3 0 (y 1) (y 2) := by
  funext i
  fin_cases i
  · exact Subsingleton.elim (α := Fin 1) _ _
  · rfl
  · rfl
theorem split2 {a b : ℕ} (y : (⟨2, ![a, b]⟩ : Shape).Idx) : y = ix2 (y 0) (y 1) := by
  funext i; fin_cases i <;> rfl

theorem arr13 (c : Dev nD) (hL : (args m c).Listed) (after) (hA : Left m hO c after) :
    ((rdats m hO c).withAfter after).arrAt 13 (cfgM m hO).N = (args m c).r0 := by
  refine ((rdats m hO c).withAfter after).arrAt_eq_of_covers 13 _ (cov13 _) fun t hf y => ?_
  have e := leaves_exact m hO c 13 rfl t _ (hA 13 t hf)
  rw [after0_13] at e
  have key : ∀ z : S1x576x1024.Idx, (blkOf m hO c t).o13 z = (args m c).r0 ((((cfgM m hO).win 13).blk t).view.emb z) := by
    intro z
    obtain ⟨s, k, rfl⟩ : ∃ s k, z = ix3 0 s k := ⟨z 1, z 2, split1 z⟩
    rw [emb_13]
    exact o13_eq m hO c hL t s k
  exact (congrFun e _).trans (key y)

theorem arr14 (c : Dev nD) (hL : (args m c).Listed) (after) (hA : Left m hO c after) :
    ((rdats m hO c).withAfter after).arrAt 14 (cfgM m hO).N = (args m c).r1 := by
  refine ((rdats m hO c).withAfter after).arrAt_eq_of_covers 14 _ (cov14 _) fun t hf y => ?_
  have e := leaves_exact m hO c 14 rfl t _ (hA 14 t hf)
  rw [after0_14] at e
  have key : ∀ z : S1x120x1024.Idx, (blkOf m hO c t).o14 z = (args m c).r1 ((((cfgM m hO).win 14).blk t).view.emb z) := by
    intro z
    obtain ⟨s, k, rfl⟩ : ∃ s k, z = ix3 0 s k := ⟨z 1, z 2, split1 z⟩
    rw [emb_14]
    exact o14_eq m hO c hL t s k
  exact (congrFun e _).trans (key y)

theorem arr16 (c : Dev nD) (hL : (args m c).Listed) (after) (hA : Left m hO c after) :
    ((rdats m hO c).withAfter after).arrAt 16 (cfgM m hO).N = (args m c).r3 := by
  refine ((rdats m hO c).withAfter after).arrAt_eq_of_covers 16 _ (cov16 _) fun t hf y => ?_
  have e := leaves_exact m hO c 16 rfl t _ (hA 16 t hf)
  rw [after0_16] at e
  have key : ∀ z : S1x120x4096.Idx, (blkOf m hO c t).o16 z = (args m c).r3 ((((cfgM m hO).win 16).blk t).view.emb z) := by
    intro z
    obtain ⟨s, k, rfl⟩ : ∃ s k, z = ix3 0 s k := ⟨z 1, z 2, split1 z⟩
    rw [emb_16]
    exact o16_eq m hO c hL t s k
  exact (congrFun e _).trans (key y)

theorem arr18 (c : Dev nD) (hL : (args m c).Listed) (after) (hA : Left m hO c after) :
    ((rdats m hO c).withAfter after).arrAt 18 (cfgM m hO).N = (args m c).r5 := by
  refine ((rdats m hO c).withAfter after).arrAt_eq_of_covers 18 _ (cov18 _) fun t hf y => ?_
  have e := leaves_exact m hO c 18 rfl t _ (hA 18 t hf)
  rw [after0_18] at e
  have key : ∀ z : S1x576x1024.Idx, (blkOf m hO c t).o18 z = (args m c).r5 ((((cfgM m hO).win 18).blk t).view.emb z) := by
    intro z
    obtain ⟨s, k, rfl⟩ : ∃ s k, z = ix3 0 s k := ⟨z 1, z 2, split1 z⟩
    rw [emb_18]
    exact o18_eq m hO c hL t s k
  exact (congrFun e _).trans (key y)

theorem arr15 (c : Dev nD) (hL : (args m c).Listed) (after) (hA : Left m hO c after) :
    ((rdats m hO c).withAfter after).arrAt 15 (cfgM m hO).N = (args m c).r2 := by
  refine ((rdats m hO c).withAfter after).arrAt_eq_of_after_last 15 t11 (whole15 _) _ fun j => ?_
  have e : Rows120 m hO c Blk.o15 t11 (after 15 t11) := (dats m hO 0 c).toRRel_leaves (w := 15) rfl (hA 15 t11 (whole15 _).1)
  have key : ∀ z : S12x120.Idx, after 15 t11 z = (args m c).r2 z := by
    intro z
    obtain ⟨b, q, rfl⟩ : ∃ (b : Fin 12) (q : Fin 120), z = ix2 b q := ⟨z 0, z 1, split2 z⟩
    have h := e b (Nat.le_of_lt_succ b.isLt) (ix2 0 q)
    rw [emb120 b q] at h
    exact h.trans (o15_eq m hO c hL b q)
  exact key j

theorem arr17 (c : Dev nD) (hL : (args m c).Listed) (after) (hA : Left m hO c after) :
    ((rdats m hO c).withAfter after).arrAt 17 (cfgM m hO).N = (args m c).r4 := by
  refine ((rdats m hO c).withAfter after).arrAt_eq_of_after_last 17 t11 (whole17 _) _ fun j => ?_
  have e : Rows120 m hO c Blk.o17 t11 (after 17 t11) := (dats m hO 0 c).toRRel_leaves (w := 17) rfl (hA 17 t11 (whole17 _).1)
  have key : ∀ z : S12x120.Idx, after 17 t11 z = (args m c).r4 z := by
    intro z
    obtain ⟨b, q, rfl⟩ : ∃ (b : Fin 12) (q : Fin 120), z = ix2 b q := ⟨z 0, z 1, split2 z⟩
    have h := e b (Nat.le_of_lt_succ b.isLt) (ix2 0 q)
    rw [emb120 b q] at h
    exact h.trans (o17_eq m hO c hL b q)
  exact key j

theorem arr19 (c : Dev nD) (hL : (args m c).Listed) (after) (hA : Left m hO c after) :
    ((rdats m hO c).withAfter after).arrAt 19 (cfgM m hO).N = (args m c).r6 := by
  refine ((rdats m hO c).withAfter after).arrAt_eq_of_after_last 19 t11 (whole19 _) _ fun j => ?_
  have e : Rows576 m hO c Blk.o19 t11 (after 19 t11) := (dats m hO 0 c).toRRel_leaves (w := 19) rfl (hA 19 t11 (whole19 _).1)
  have key : ∀ z : S12x576.Idx, after 19 t11 z = (args m c).r6 z := by
    intro z
    obtain ⟨b, q, rfl⟩ : ∃ (b : Fin 12) (q : Fin 576), z = ix2 b q := ⟨z 0, z 1, split2 z⟩
    have h := e b (Nat.le_of_lt_succ b.isLt) (ix2 0 q)
    rw [emb576 b q] at h
    exact h.trans (o19_eq m hO c hL b q)
  exact key j

end Cert.KernelIdeal.Gen

end
-- ==== Proof.KernelOut.lean ====
/- The kernel's run: its results are the layer's, and its arguments are unchanged. -/
module

public import proofs.«01_k».proof.Proof.KernelArr
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Cert

variable (m : (ℓ : Loc nD τ sig) → Buf (Elt Ideal) ℓ)

theorem values (ρ : Dev nD → PrngReg) (hO : Ok m) (hL : ∀ c : Dev nD, (args m c).Listed) :
    θ_run defs (onTc (τ := τ) (main (F := Ideal))) ⟨m, fun _ => 0, ρ⟩ fun r => ∀ c : Dev nD,
      r.2.mem ((c.tc : Thread nD τ).loc main_v4_0) = (args m c).r0
      ∧ r.2.mem ((c.tc : Thread nD τ).loc main_v4_1) = (args m c).r1
      ∧ r.2.mem ((c.tc : Thread nD τ).loc main_v4_2) = (args m c).r2
      ∧ r.2.mem ((c.tc : Thread nD τ).loc main_v4_3) = (args m c).r3
      ∧ r.2.mem ((c.tc : Thread nD τ).loc main_v4_4) = (args m c).r4
      ∧ r.2.mem ((c.tc : Thread nD τ).loc main_v4_5) = (args m c).r5
      ∧ r.2.mem ((c.tc : Thread nD τ).loc main_v4_6) = (args m c).r6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
    obtain ⟨after, hA, e⟩ := Pipeline.RDat.FramePost.exists_exact h c
    exact ⟨(e 13).trans (arr13 m hO c (hL c) after hA),
      (e 14).trans (arr14 m hO c (hL c) after hA),
      (e 15).trans (arr15 m hO c (hL c) after hA),
      (e 16).trans (arr16 m hO c (hL c) after hA),
      (e 17).trans (arr17 m hO c (hL c) after hA),
      (e 18).trans (arr18 m hO c (hL c) after hA),
      (e 19).trans (arr19 m hO c (hL c) after hA),
      (Pipeline.RDat.FramePost.arr_in h c 0 rfl).trans ((A_eq m hO c 0).trans (V_main_arg0 m c)),
      (Pipeline.RDat.FramePost.arr_in h c 1 rfl).trans ((A_eq m hO c 1).trans (V_main_arg1 m c)),
      (Pipeline.RDat.FramePost.arr_in h c 2 rfl).trans ((A_eq m hO c 2).trans (V_main_arg2 m c)),
      (Pipeline.RDat.FramePost.arr_in h c 3 rfl).trans ((A_eq m hO c 3).trans (V_main_arg3 m c)),
      (Pipeline.RDat.FramePost.arr_in h c 4 rfl).trans ((A_eq m hO c 4).trans (V_main_arg4 m c)),
      ((h c).2 main_arg5 (by decide : main_arg5 ∈ Pipeline.restRefs sig spec0)).trans (V_main_arg5 m c),
      (Pipeline.RDat.FramePost.arr_in h c 5 rfl).trans ((A_eq m hO c 5).trans (V_main_arg6 m c)),
      (Pipeline.RDat.FramePost.arr_in h c 6 rfl).trans ((A_eq m hO c 6).trans (V_main_arg7 m c)),
      (Pipeline.RDat.FramePost.arr_in h c 7 rfl).trans ((A_eq m hO c 7).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      (Pipeline.RDat.FramePost.arr_in h c 10 rfl).trans ((A_eq m hO c 10).trans (V_main_arg11 m c)),
      ((h c).2 main_arg12 (by decide : main_arg12 ∈ Pipeline.restRefs sig spec0)).trans (V_main_arg12 m c),
      ((h c).2 main_arg13 (by decide : main_arg13 ∈ Pipeline.restRefs sig spec0)).trans (V_main_arg13 m c)⟩) (run_main m ρ hO)

end Cert.KernelIdeal.Gen

end
-- ==== Proof.RefPay.lean ====
/- The reference's payloads read one entry at a time, over the extended reals, at any operands. -/
module

public import proofs.«01_k».proof.Proof.Gen.ReferenceIdeal.Frame
public import proofs.«01_k».proof.Proof.Scale

@[expose] public section

set_option maxRecDepth 16384

noncomputable section

namespace Cert.ReferenceIdeal.Gen

open Idealize.ShloMosaic Idealize.ShloMosaic.TcCoe
open Cert

theorem pay4_at (v3 : Vec Ideal S1440x1 .i32) (r : Fin 1440) :
    k0_pay4 (F := Ideal) v3 (ix2 r 0) = IntOp.cmpi .ne (v3 (ix2 r 0)) 0#32 := by
  pointwise [k0_pay4]

/-- The row normalised, scaled and shifted. -/
theorem pay5_at (v0 : Vec Ideal S1440x1024 .bf16) (v3 : Vec Ideal S1440x1 .i32) (v23 v28 : Vec Ideal S1440x1024 .f32)
    (r : Fin 1440) (k : Fin 1024) :
    k0_pay5 (F := Ideal) v0 v3 v23 v28 (ix2 r k) = Spec.hrow (IntOp.cmpi .ne (v3 (ix2 r 0)) 0#32) (fun k => v0 (ix2 r k))
      (fun k => v23 (ix2 r k)) (fun k => v28 (ix2 r k)) k := by
  pointwise [k0_pay5, k0_pay4]; rfl

theorem pay6_at (v0 : Vec Ideal S1440x1024 .bf16) (v3 : Vec Ideal S1440x1 .i32) (v23 v28 : Vec Ideal S1440x1024 .f32) (r : Fin 1440) :
    k0_pay6 (F := Ideal) v0 v3 v23 v28 (ix2 r 0) = Spec.quo fun k => k0_pay5 (F := Ideal) v0 v3 v23 v28 (ix2 r k) := by
  pointwise [k0_pay6]; rfl

/-- The exponent of a scale. -/
theorem pay8_at (v39 : FVec Ideal S1440x1 .f32) (r : Fin 1440) :
    k0_pay8 (F := Ideal) v39 k0_pay7 (ix2 r 0) = Spec.ex (v39 (ix2 r 0)) := by
  pointwise [k0_pay8, k0_pay7]; rfl

/-- The codes of the first quantised row. -/
theorem pay9_at (v34 : FVec Ideal S1440x1024 .f32) (v39 : FVec Ideal S1440x1 .f32) (r : Fin 1440) (k : Fin 1024) :
    k0_pay9 (F := Ideal) v34 v39 k0_pay7 (ix2 r k) = Spec.clip (v34 (ix2 r k) * Spec.inv (v39 (ix2 r 0))) := by
  unfold Spec.inv; rw [← pay8_at]
  pointwise [k0_pay9]; rfl

theorem pay10_at (v39 : FVec Ideal S1440x1 .f32) (r : Fin 1440) :
    k0_pay10 (F := Ideal) v39 k0_pay7 (ix2 r 0) = Spec.sca (v39 (ix2 r 0)) := by
  unfold Spec.sca; rw [← pay8_at]
  pointwise [k0_pay10]

theorem pay11_at (v34 : FVec Ideal S1440x1024 .f32) (v39 : FVec Ideal S1440x1 .f32) (w : Vec Ideal S1024x4096 .fp8e4m3) (s b : Vec Ideal S1x4096 .f32)
    (r : Fin 1440) (f : Fin 4096) :
    k0_pay11 (F := Ideal) v34 v39 k0_pay7 w s b (ix2 r f)
      = (∑ k : Fin 1024, Spec.clip (v34 (ix2 r k) * Spec.inv (v39 (ix2 r 0))) * w (ix2 k f)) * Spec.sca (v39 (ix2 r 0)) * s (ix2 0 f) + b (ix2 0 f) := by
  simp only [← pay9_at, ← pay10_at]
  pointwise [k0_pay11]

/-- The gelu with its cube the other way about. -/
theorem gelu_eq (u : EReal) : Spec.gelu u = u * (Ideal.ofBits .f32 1056964608#32
    * (1 + Ideal.tanh (Ideal.ofBits .f32 1061962282#32 * (u + Ideal.ofBits .f32 1027024659#32 * (u * (u * u)))))) := by
  unfold Spec.gelu; rw [mul_assoc u u u]

end Cert.ReferenceIdeal.Gen

end
-- ==== Proof.RefPay2.lean ====
/- The reference's payloads past the first product, read one entry at a time. -/
module

public import proofs.«01_k».proof.Proof.RefPay

@[expose] public section

set_option maxRecDepth 16384

noncomputable section

namespace Cert.ReferenceIdeal.Gen

open Idealize.ShloMosaic Idealize.ShloMosaic.TcCoe
open Cert

theorem col_at (v : FVec Ideal S1440 .f32) (r : Fin 1440) : shapeCast S1440x1 v shapeCasts_S1440_S1440x1 (ix2 r 0) = v (ix1 r) := by
  pointwise

/-- The quotients of the rows of a matrix of any width. -/
theorem quo_at {n : ℕ} (X : FVec Ideal ⟨2, ![1440, n]⟩ .f32) (h : Shape.Reduces ⟨2, ![1440, n]⟩ [1] S1440) (hφ : FKind.Formats .f32)
    (hacc : 0xFF800000#32 = FKind.maximumf.neutral .f32 hφ) (r : Fin 1440) :
    mulf (shapeCast S1440x1 (multiReduction .maximumf [1] S1440 (absf X) 0xFF800000#32 h hφ hacc) shapeCasts_S1440_S1440x1)
      (broadcast S1440x1 (Scalar.ofBits .f32 0x3B124925#32)) (ix2 r 0) = Spec.quo fun f => X (ix2 r f) := by
  show shapeCast S1440x1 _ shapeCasts_S1440_S1440x1 (ix2 r 0) * Ideal.ofBits .f32 0x3B124925#32 = _
  rw [col_at, Ideal.multiReduction_maximumf_single]
  unfold Spec.quo
  refine congrArg (fun g => Finset.fold max (Ideal.ofBits .f32 4286578688#32) g Finset.univ * Ideal.ofBits .f32 991054117#32) (funext fun f => ?_)
  refine congrArg (fun i => FloatOps.absf (F := Ideal) (φ := .f32) (X i)) (funext fun a => ?_)
  fin_cases a <;> rfl

/-- The hidden row. -/
theorem pay14_at (v6 : IVec S1440x1 1) (v34 : FVec Ideal S1440x1024 .f32) (v39 : FVec Ideal S1440x1 .f32) (w : Vec Ideal S1024x4096 .fp8e4m3) (s b : Vec Ideal S1x4096 .f32)
    (r : Fin 1440) (f : Fin 4096) :
    k0_pay14 (F := Ideal) v6 (k0_pay11 v34 v39 k0_pay7 w s b) (k0_pay12 v34 v39 k0_pay7 w s b) k0_pay13 (ix2 r f)
      = Scalar.select (v6 (ix2 r 0)) (Spec.gelu (k0_pay11 (F := Ideal) v34 v39 k0_pay7 w s b (ix2 r f))) 0 := by
  rw [gelu_eq]
  pointwise [k0_pay14, k0_pay12, k0_pay13]

theorem pay15_at (v6 : IVec S1440x1 1) (v77 v82 v83 : FVec Ideal S1440x4096 .f32) (r : Fin 1440) :
    k0_pay15 (F := Ideal) v6 v77 v82 v83 (ix2 r 0) = Spec.ex (Spec.quo fun f => k0_pay14 (F := Ideal) v6 v77 v82 v83 (ix2 r f)) := by
  have h : k0_pay15 (F := Ideal) v6 v77 v82 v83 = k0_pay8 (mulf (shapeCast S1440x1 (multiReduction .maximumf [1] S1440 (absf (k0_pay14 (F := Ideal) v6 v77 v82 v83))
      0xFF800000#32 reduces_S1440x4096_S1440 (.inl rfl) rfl) shapeCasts_S1440_S1440x1) (broadcast S1440x1 (Scalar.ofBits .f32 0x3B124925#32))) k0_pay7 := by
    unfold k0_pay15 k0_pay8 k0_pay7; rfl
  rw [h, pay8_at]
  exact congrArg Spec.ex (quo_at _ _ _ _ r)

/-- A matrix times the power of two of minus a column, held within ±448. -/
theorem clip4096_at (p : FVec Ideal S1440x1 .f32) (q : FVec Ideal S1440x4096 .f32) (r : Fin 1440) (f : Fin 4096) :
    truncf .fp8e4m3 (minimumf (broadcast S1440x4096 (FloatOps.ofBits (F := Ideal) .f32 0x43E00000#32)) (maximumf (broadcast S1440x4096 (FloatOps.ofBits (F := Ideal) .f32 0xC3E00000#32))
      (mulf q (broadcastTo S1440x4096 (exp2 (subf (broadcast S1440x1 (FloatOps.ofBits .f32 0#32)) p)) broadcasts_S1440x1_S1440x4096)))) bitsLt_fp8e4m3_f32 (ix2 r f)
      = Spec.clip (q (ix2 r f) * FloatOps.exp2 (F := Ideal) (φ := .f32) (0 - p (ix2 r 0))) := by
  unfold Spec.clip
  pointwise

theorem clip1024_at (p : FVec Ideal S1440x1 .f32) (q : FVec Ideal S1440x1024 .f32) (r : Fin 1440) (f : Fin 1024) :
    k0_pay2 (F := Ideal) (minimumf (broadcast S1440x1024 (FloatOps.ofBits (F := Ideal) .f32 0x43E00000#32)) (maximumf (broadcast S1440x1024 (FloatOps.ofBits (F := Ideal) .f32 0xC3E00000#32))
      (mulf q (broadcastTo S1440x1024 (exp2 (subf (broadcast S1440x1 (FloatOps.ofBits .f32 0#32)) p)) broadcasts_S1440x1_S1440x1024)))) (ix2 r f)
      = Spec.clip (q (ix2 r f) * FloatOps.exp2 (F := Ideal) (φ := .f32) (0 - p (ix2 r 0))) := by
  unfold Spec.clip
  pointwise [k0_pay2]

theorem exp2_at (p : FVec Ideal S1440x1 .f32) (r : Fin 1440) : exp2 p (ix2 r 0) = FloatOps.exp2 (F := Ideal) (φ := .f32) (p (ix2 r 0)) := rfl

theorem pay16_at (v6 : IVec S1440x1 1) (v77 v82 v83 : FVec Ideal S1440x4096 .f32) (r : Fin 1440) (f : Fin 4096) :
    k0_pay16 (F := Ideal) v6 v77 v82 v83 (ix2 r f)
      = Spec.clip (k0_pay14 (F := Ideal) v6 v77 v82 v83 (ix2 r f) * FloatOps.exp2 (F := Ideal) (φ := .f32) (0 - k0_pay15 (F := Ideal) v6 v77 v82 v83 (ix2 r 0))) := by
  unfold k0_pay16
  exact clip4096_at _ _ r f

theorem pay17_at (v6 : IVec S1440x1 1) (v77 v82 v83 : FVec Ideal S1440x4096 .f32) (r : Fin 1440) :
    k0_pay17 (F := Ideal) v6 v77 v82 v83 (ix2 r 0) = FloatOps.exp2 (F := Ideal) (φ := .f32) (k0_pay15 (F := Ideal) v6 v77 v82 v83 (ix2 r 0)) := by
  unfold k0_pay17
  exact exp2_at _ r

/-- The output row. -/
theorem pay18_at (v6 : IVec S1440x1 1) (v124 : FVec Ideal S1440x4096 .fp8e4m3) (v125 : FVec Ideal S1440x1 .f32) (w : Vec Ideal S4096x1024 .fp8e4m3) (s b : Vec Ideal S1x1024 .f32)
    (r : Fin 1440) (k : Fin 1024) :
    k0_pay18 (F := Ideal) v6 v124 v125 w (constant S1440x1024 .f32 0x00000000#32) s b (ix2 r k)
      = Scalar.select (v6 (ix2 r 0)) ((∑ f : Fin 4096, v124 (ix2 r f) * w (ix2 f k)) * v125 (ix2 r 0) * s (ix2 0 k) + b (ix2 0 k)) 0 := by
  pointwise [k0_pay18]

theorem pay19_at (v6 : IVec S1440x1 1) (v124 : FVec Ideal S1440x4096 .fp8e4m3) (v125 : FVec Ideal S1440x1 .f32) (w : Vec Ideal S4096x1024 .fp8e4m3) (z : FVec Ideal S1440x1024 .f32)
    (s b : Vec Ideal S1x1024 .f32) (r : Fin 1440) :
    k0_pay19 (F := Ideal) v6 v124 v125 w z s b (ix2 r 0) = Spec.ex (Spec.quo fun k => k0_pay18 (F := Ideal) v6 v124 v125 w z s b (ix2 r k)) := by
  have h : k0_pay19 (F := Ideal) v6 v124 v125 w z s b = k0_pay8 (mulf (shapeCast S1440x1 (multiReduction .maximumf [1] S1440 (absf (k0_pay18 (F := Ideal) v6 v124 v125 w z s b))
      0xFF800000#32 reduces_S1440x1024_S1440 (.inl rfl) rfl) shapeCasts_S1440_S1440x1) (broadcast S1440x1 (Scalar.ofBits .f32 0x3B124925#32))) k0_pay7 := by
    unfold k0_pay19 k0_pay8 k0_pay7; rfl
  rw [h, pay8_at]
  exact congrArg Spec.ex (quo_at _ _ _ _ r)

theorem pay2_at (v6 : IVec S1440x1 1) (v124 : FVec Ideal S1440x4096 .fp8e4m3) (v125 : FVec Ideal S1440x1 .f32) (w : Vec Ideal S4096x1024 .fp8e4m3) (z : FVec Ideal S1440x1024 .f32)
    (s b : Vec Ideal S1x1024 .f32) (r : Fin 1440) (k : Fin 1024) :
    k0_pay2 (F := Ideal) (k0_pay20 (F := Ideal) v6 v124 v125 w z s b) (ix2 r k)
      = Spec.clip (k0_pay18 (F := Ideal) v6 v124 v125 w z s b (ix2 r k) * FloatOps.exp2 (F := Ideal) (φ := .f32) (0 - k0_pay19 (F := Ideal) v6 v124 v125 w z s b (ix2 r 0))) := by
  unfold k0_pay20
  exact clip1024_at _ _ r k

theorem pay1_at (v : FVec Ideal S1440x1 .f32) (r : Fin 1440) :
    k0_pay1 (F := Ideal) v (ix2 r 0) = FloatOps.exp2 (F := Ideal) (φ := .f32) (v (ix2 r 0)) := by
  pointwise [k0_pay1]

theorem pay3_at (v : Vec Ideal S6912x1024 .fp8e4m3) (r : Fin 6912) (k : Fin 1024) : k0_pay3 (F := Ideal) v (ix2 r k) = v (ix2 r k) := by
  pointwise [k0_pay3]

end Cert.ReferenceIdeal.Gen

end
-- ==== Proof.RefRun.lean ====
/- What the reference ends with: its results as terms of its arguments and of what its one region leaves. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Ran

open Cert.ReferenceIdeal Cert.ReferenceIdeal.Gen Idealize.ShloMosaic Idealize.ShloMosaic.TcCoe Idealize.SL.Sem Idealize.ShloMosaic.StableHlo

variable {F : FTy → Type} [FloatOps F] [Named F]

/-- Where each listed row goes: its batch entry, and its token, a negative one counted from the end; a row that is not
    live goes to 576, which is no token. -/
def dst (v1 : IVec S12x1 32) (v7 : IVec S12x120 1) (a4 : IVec S12x120 32) : IVec S12x120x2 32 :=
  (concatenate S12x120x2 2 [⟨S12x120x1, (broadcastInDim S12x120x1 ![0, 1] bcast_S12x120_S12x120x1_0_1 (broadcastInDim S12x120 ![0, 1] bcast_S12x1_S12x120_0_1 (select (cmpi .slt v1 (broadcastInDim S12x1 ![] bcast_S_S12x1 (constantI S_ 32 0#32))) (addi v1 (broadcastInDim S12x1 ![] bcast_S_S12x1 (constantI S_ 32 12#32))) v1)))⟩, ⟨S12x120x1, (broadcastInDim S12x120x1 ![0, 1] bcast_S12x120_S12x120x1_0_1 (select (cmpi .slt (select v7 a4 (broadcastInDim S12x120 ![] bcast_S_S12x120 (id (constantI S_ 32 576#32)))) (broadcastInDim S12x120 ![] bcast_S_S12x120 (constantI S_ 32 0#32))) (addi (select v7 a4 (broadcastInDim S12x120 ![] bcast_S_S12x120 (id (constantI S_ 32 576#32)))) (broadcastInDim S12x120 ![] bcast_S_S12x120 (constantI S_ 32 576#32))) (select v7 a4 (broadcastInDim S12x120 ![] bcast_S_S12x120 (id (constantI S_ 32 576#32))))))⟩] concatenates_S12x120x1_S12x120x1_S12x120x2_d2)

/-- The cached codes, the listed rows' written over them, -/
def newCodes (old : FVec F S6912x1024 .f32) (d : IVec S12x120x2 32) (y : FVec F S1440x1024 .f32) : FVec F S12x576x1024 .f32 :=
  Host.scatter scatter_S12x576x1024_S12x120x2_S12x120x1024_2_01_01_2 (fun _ b => b) (shapeCast _ old shapeCasts_S6912x1024_S12x576x1024) d (shapeCast _ y shapeCasts_S1440x1024_S12x120x1024)

/-- the cached scales likewise, -/
def newScales (old : FVec F S12x576 .f32) (d : IVec S12x120x2 32) (y : FVec F S1440x1 .f32) : FVec F S12x576 .f32 :=
  Host.scatter scatter_S12x576_S12x120x2_S12x120_n_01_01_2 (fun _ b => b) old d (shapeCast _ y shapeCasts_S1440x1_S12x120)

/-- and the first result. -/
def out (x : FVec F S12x576x1024 .bf16) (g : FVec F S12x1024 .f32) (cd : FVec F S12x576x1024 .f32) (sc : FVec F S12x576 .f32) : FVec F S12x576x1024 .bf16 :=
  truncf .bf16 (addf (extf .f32 x bitsLt_bf16_f32) (mulf (broadcastInDim S12x576x1024 ![0, 1, 2] bcast_S12x1x1024_S12x576x1024_0_1_2 (broadcastInDim S12x1x1024 ![0, 2] bcast_S12x1024_S12x1x1024_0_2 g)) (mulf (cd) (broadcastInDim S12x576x1024 ![0, 1, 2] bcast_S12x576x1_S12x576x1024_0_1_2 (broadcastInDim S12x576x1 ![0, 1] bcast_S12x576_S12x576x1_0_1 (sc)))))) bitsLt_bf16_f32

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v37_0` (window 11's): not opened here. -/
def reg_main_v37_0 (c : Dev nD) : Buf (Elt F) ((c.tc : Thread nD τ).loc main_v37_0) := (Gen.dats m 0 c).arrAt 11 cfg0.N
/-- What the kernel region leaves in its result array `main_v37_1` (window 12's): not opened here. -/
def reg_main_v37_1 (c : Dev nD) : Buf (Elt F) ((c.tc : Thread nD τ).loc main_v37_1) := (Gen.dats m 0 c).arrAt 12 cfg0.N
/-- What the kernel region leaves in its result array `main_v37_2` (window 13's): not opened here. -/
def reg_main_v37_2 (c : Dev nD) : Buf (Elt F) ((c.tc : Thread nD τ).loc main_v37_2) := (Gen.dats m 0 c).arrAt 13 cfg0.N
/-- What the kernel region leaves in its result array `main_v37_3` (window 14's): not opened here. -/
def reg_main_v37_3 (c : Dev nD) : Buf (Elt F) ((c.tc : Thread nD τ).loc main_v37_3) := (Gen.dats m 0 c).arrAt 14 cfg0.N
/-- What the kernel region leaves in its result array `main_v37_4` (window 15's): not opened here. -/
def reg_main_v37_4 (c : Dev nD) : Buf (Elt F) ((c.tc : Thread nD τ).loc main_v37_4) := (Gen.dats m 0 c).arrAt 15 cfg0.N
/-- What the kernel region leaves in its result array `main_v37_5` (window 16's): not opened here. -/
def reg_main_v37_5 (c : Dev nD) : Buf (Elt F) ((c.tc : Thread nD τ).loc main_v37_5) := (Gen.dats m 0 c).arrAt 16 cfg0.N
/-- What the kernel region leaves in its result array `main_v37_6` (window 17's): not opened here. -/
def reg_main_v37_6 (c : Dev nD) : Buf (Elt F) ((c.tc : Thread nD τ).loc main_v37_6) := (Gen.dats m 0 c).arrAt 17 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg7`: as launched. -/
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
set_option maxRecDepth 8192 in
set_option maxHeartbeats 2000000 in
/-- The exit contents at `main_v7`, computed before the region: its composed term of the arguments' launch contents. -/
theorem exit_main_v7 (c : Dev nD) : exitV m c (Proc.devRef .tc main_v7) = cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5)))) :=
  (Pipeline.withArrays_of_ne _ c (Gen.V0 m c) _ main_v7 (by exact (by decide : ∀ w, Pipeline.arrRef spec0 w ≠ main_v7))).trans (by
    show Gen.V0 m c (Proc.devRef .tc main_v7) = _
    simp only [Gen.V0, Gen.hostOps0, List.flatten_cons, List.flatten_nil, List.append_nil, List.cons_append, List.nil_append]
    after_results_simp <;> rfl)
/-- The exit contents at the region's result array `main_v37_6`. -/
theorem exit_main_v37_6 (c : Dev nD) : exitV m c (Proc.devRef .tc main_v37_6) = reg_main_v37_6 m c :=
  Pipeline.withArrays_arr spec0 Gen.launch0.win.arr_inj c (Gen.V0 m c) _ 17
/-- The exit contents at the region's result array `main_v37_4`. -/
theorem exit_main_v37_4 (c : Dev nD) : exitV m c (Proc.devRef .tc main_v37_4) = reg_main_v37_4 m c :=
  Pipeline.withArrays_arr spec0 Gen.launch0.win.arr_inj c (Gen.V0 m c) _ 15
set_option maxRecDepth 8192 in
set_option maxHeartbeats 2000000 in
/-- The exit contents at `main_v1`, computed before the region: its composed term of the arguments' launch contents. -/
theorem exit_main_v1 (c : Dev nD) : exitV m c (Proc.devRef .tc main_v1) = broadcastInDim S12x1 ![0] bcast_S12_S12x1_0 (iotaInDim S12 32 0) :=
  (Pipeline.withArrays_of_ne _ c (Gen.V0 m c) _ main_v1 (by exact (by decide : ∀ w, Pipeline.arrRef spec0 w ≠ main_v1))).trans (by
    show Gen.V0 m c (Proc.devRef .tc main_v1) = _
    simp only [Gen.V0, Gen.hostOps0, List.flatten_cons, List.flatten_nil, List.append_nil, List.cons_append, List.nil_append]
    after_results_simp <;> rfl)
/-- The exit contents at the region's result array `main_v37_5`. -/
theorem exit_main_v37_5 (c : Dev nD) : exitV m c (Proc.devRef .tc main_v37_5) = reg_main_v37_5 m c :=
  Pipeline.withArrays_arr spec0 Gen.launch0.win.arr_inj c (Gen.V0 m c) _ 16
/-- The exit contents at the region's result array `main_v37_0`. -/
theorem exit_main_v37_0 (c : Dev nD) : exitV m c (Proc.devRef .tc main_v37_0) = reg_main_v37_0 m c :=
  Pipeline.withArrays_arr spec0 Gen.launch0.win.arr_inj c (Gen.V0 m c) _ 11
/-- The exit contents at the region's result array `main_v37_1`. -/
theorem exit_main_v37_1 (c : Dev nD) : exitV m c (Proc.devRef .tc main_v37_1) = reg_main_v37_1 m c :=
  Pipeline.withArrays_arr spec0 Gen.launch0.win.arr_inj c (Gen.V0 m c) _ 12
/-- The exit contents at the region's result array `main_v37_2`. -/
theorem exit_main_v37_2 (c : Dev nD) : exitV m c (Proc.devRef .tc main_v37_2) = reg_main_v37_2 m c :=
  Pipeline.withArrays_arr spec0 Gen.launch0.win.arr_inj c (Gen.V0 m c) _ 13
/-- The exit contents at the region's result array `main_v37_3`. -/
theorem exit_main_v37_3 (c : Dev nD) : exitV m c (Proc.devRef .tc main_v37_3) = reg_main_v37_3 m c :=
  Pipeline.withArrays_arr spec0 Gen.launch0.win.arr_inj c (Gen.V0 m c) _ 14

set_option maxRecDepth 8192 in
/-- `main_v80`'s composed term of the arguments and the region's results (named: it is long). -/
def res_main_v80 (c : Dev nD) : Buf (Elt F) ((c.tc : Thread nD τ).loc main_v80) :=
  out (m ((c.tc : Thread nD τ).loc main_arg0)) (m ((c.tc : Thread nD τ).loc main_arg3)) (newCodes (reg_main_v37_6 m c) (dst (broadcastInDim S12x1 ![0] bcast_S12_S12x1_0 (iotaInDim S12 32 0)) (cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5))))) (m ((c.tc : Thread nD τ).loc main_arg4))) (reg_main_v37_4 m c)) (newScales (m ((c.tc : Thread nD τ).loc main_arg7)) (dst (broadcastInDim S12x1 ![0] bcast_S12_S12x1_0 (iotaInDim S12 32 0)) (cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5))))) (m ((c.tc : Thread nD τ).loc main_arg4))) (reg_main_v37_5 m c))

/-- `res_main_v80` by its position among the values @main returns, 0 counting from 0: the name for hand proofs to cite, since
    a re-print renumbers `main_v80`. An abbreviation: it unfolds to the `res_main_v80` that `run` states. -/
abbrev res_out0 (c : Dev nD) : Buf (Elt F) ((c.tc : Thread nD τ).loc main_v80) := res_main_v80 m c

set_option maxRecDepth 8192 in
set_option maxHeartbeats 2000000 in
/-- The later operations from any contents `V0`, read at result `main_v80`. -/
theorem tail_main_v80 (V0 : Valuation τ sig (Elt F)) :
    after (List.flatten [Gen.hostOps1, Gen.hostOps1_1, Gen.hostOps1_2]) V0 (Proc.devRef .tc main_v80) = out (V0 (Proc.devRef .tc main_arg0)) (V0 (Proc.devRef .tc main_arg3)) (newCodes (V0 (Proc.devRef .tc main_v37_6)) (dst (V0 (Proc.devRef .tc main_v1)) (V0 (Proc.devRef .tc main_v7)) (V0 (Proc.devRef .tc main_arg4))) (V0 (Proc.devRef .tc main_v37_4))) (newScales (V0 (Proc.devRef .tc main_arg7)) (dst (V0 (Proc.devRef .tc main_v1)) (V0 (Proc.devRef .tc main_v7)) (V0 (Proc.devRef .tc main_arg4))) (V0 (Proc.devRef .tc main_v37_5))) := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v80` after the later operations from the region's exit contents. -/
theorem fin_main_v80 (c : Dev nD) :
    Pipeline.afterTail₀ cfgs (Gen.dats m) 0 (Gen.V0 m) [Gen.hostOps1, Gen.hostOps1_1, Gen.hostOps1_2] c main_v80 = res_main_v80 m c :=
  by unfold res_main_v80; exact (tail_main_v80 (exitV m c)).trans (by rw [exit_main_arg0, exit_main_arg3, exit_main_arg4, exit_main_arg7, exit_main_v7, exit_main_v37_6, exit_main_v37_4, exit_main_v1, exit_main_v37_5])

set_option maxRecDepth 8192 in
set_option maxHeartbeats 2000000 in
/-- The later operations from any contents `V0`, read at result `main_v81`. -/
theorem tail_main_v81 (V0 : Valuation τ sig (Elt F)) :
    after (List.flatten [Gen.hostOps1, Gen.hostOps1_1, Gen.hostOps1_2]) V0 (Proc.devRef .tc main_v81) = shapeCast _ (V0 (Proc.devRef .tc main_v37_0)) shapeCasts_S1440x1024_S12x120x1024 := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v81` after the later operations from the region's exit contents. -/
theorem fin_main_v81 (c : Dev nD) :
    Pipeline.afterTail₀ cfgs (Gen.dats m) 0 (Gen.V0 m) [Gen.hostOps1, Gen.hostOps1_1, Gen.hostOps1_2] c main_v81 = shapeCast _ (reg_main_v37_0 m c) shapeCasts_S1440x1024_S12x120x1024 :=
  (tail_main_v81 (exitV m c)).trans (by rw [exit_main_v37_0])

set_option maxRecDepth 8192 in
set_option maxHeartbeats 2000000 in
/-- The later operations from any contents `V0`, read at result `main_v82`. -/
theorem tail_main_v82 (V0 : Valuation τ sig (Elt F)) :
    after (List.flatten [Gen.hostOps1, Gen.hostOps1_1, Gen.hostOps1_2]) V0 (Proc.devRef .tc main_v82) = shapeCast _ (V0 (Proc.devRef .tc main_v37_1)) shapeCasts_S1440x1_S12x120 := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v82` after the later operations from the region's exit contents. -/
theorem fin_main_v82 (c : Dev nD) :
    Pipeline.afterTail₀ cfgs (Gen.dats m) 0 (Gen.V0 m) [Gen.hostOps1, Gen.hostOps1_1, Gen.hostOps1_2] c main_v82 = shapeCast _ (reg_main_v37_1 m c) shapeCasts_S1440x1_S12x120 :=
  (tail_main_v82 (exitV m c)).trans (by rw [exit_main_v37_1])

set_option maxRecDepth 8192 in
set_option maxHeartbeats 2000000 in
/-- The later operations from any contents `V0`, read at result `main_v83`. -/
theorem tail_main_v83 (V0 : Valuation τ sig (Elt F)) :
    after (List.flatten [Gen.hostOps1, Gen.hostOps1_1, Gen.hostOps1_2]) V0 (Proc.devRef .tc main_v83) = shapeCast _ (V0 (Proc.devRef .tc main_v37_2)) shapeCasts_S1440x4096_S12x120x4096 := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v83` after the later operations from the region's exit contents. -/
theorem fin_main_v83 (c : Dev nD) :
    Pipeline.afterTail₀ cfgs (Gen.dats m) 0 (Gen.V0 m) [Gen.hostOps1, Gen.hostOps1_1, Gen.hostOps1_2] c main_v83 = shapeCast _ (reg_main_v37_2 m c) shapeCasts_S1440x4096_S12x120x4096 :=
  (tail_main_v83 (exitV m c)).trans (by rw [exit_main_v37_2])

set_option maxRecDepth 8192 in
set_option maxHeartbeats 2000000 in
/-- The later operations from any contents `V0`, read at result `main_v84`. -/
theorem tail_main_v84 (V0 : Valuation τ sig (Elt F)) :
    after (List.flatten [Gen.hostOps1, Gen.hostOps1_1, Gen.hostOps1_2]) V0 (Proc.devRef .tc main_v84) = shapeCast _ (V0 (Proc.devRef .tc main_v37_3)) shapeCasts_S1440x1_S12x120 := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v84` after the later operations from the region's exit contents. -/
theorem fin_main_v84 (c : Dev nD) :
    Pipeline.afterTail₀ cfgs (Gen.dats m) 0 (Gen.V0 m) [Gen.hostOps1, Gen.hostOps1_1, Gen.hostOps1_2] c main_v84 = shapeCast _ (reg_main_v37_3 m c) shapeCasts_S1440x1_S12x120 :=
  (tail_main_v84 (exitV m c)).trans (by rw [exit_main_v37_3])

set_option maxRecDepth 8192 in
set_option maxHeartbeats 2000000 in
/-- The later operations from any contents `V0`, read at result `main_v85`. -/
theorem tail_main_v85 (V0 : Valuation τ sig (Elt F)) :
    after (List.flatten [Gen.hostOps1, Gen.hostOps1_1, Gen.hostOps1_2]) V0 (Proc.devRef .tc main_v85) = Host.convertf .fp8e4m3 (newCodes (V0 (Proc.devRef .tc main_v37_6)) (dst (V0 (Proc.devRef .tc main_v1)) (V0 (Proc.devRef .tc main_v7)) (V0 (Proc.devRef .tc main_arg4))) (V0 (Proc.devRef .tc main_v37_4))) := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v85` after the later operations from the region's exit contents. -/
theorem fin_main_v85 (c : Dev nD) :
    Pipeline.afterTail₀ cfgs (Gen.dats m) 0 (Gen.V0 m) [Gen.hostOps1, Gen.hostOps1_1, Gen.hostOps1_2] c main_v85 = Host.convertf .fp8e4m3 (newCodes (reg_main_v37_6 m c) (dst (broadcastInDim S12x1 ![0] bcast_S12_S12x1_0 (iotaInDim S12 32 0)) (cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5))))) (m ((c.tc : Thread nD τ).loc main_arg4))) (reg_main_v37_4 m c)) :=
  (tail_main_v85 (exitV m c)).trans (by rw [exit_main_arg4, exit_main_v7, exit_main_v37_6, exit_main_v37_4, exit_main_v1])

set_option maxRecDepth 8192 in
set_option maxHeartbeats 2000000 in
/-- The later operations from any contents `V0`, read at result `main_v71`. -/
theorem tail_main_v71 (V0 : Valuation τ sig (Elt F)) :
    after (List.flatten [Gen.hostOps1, Gen.hostOps1_1, Gen.hostOps1_2]) V0 (Proc.devRef .tc main_v71) = newScales (V0 (Proc.devRef .tc main_arg7)) (dst (V0 (Proc.devRef .tc main_v1)) (V0 (Proc.devRef .tc main_v7)) (V0 (Proc.devRef .tc main_arg4))) (V0 (Proc.devRef .tc main_v37_5)) := by
  simp only [out, newCodes, newScales, dst, Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v71` after the later operations from the region's exit contents. -/
theorem fin_main_v71 (c : Dev nD) :
    Pipeline.afterTail₀ cfgs (Gen.dats m) 0 (Gen.V0 m) [Gen.hostOps1, Gen.hostOps1_1, Gen.hostOps1_2] c main_v71 = newScales (m ((c.tc : Thread nD τ).loc main_arg7)) (dst (broadcastInDim S12x1 ![0] bcast_S12_S12x1_0 (iotaInDim S12 32 0)) (cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5))))) (m ((c.tc : Thread nD τ).loc main_arg4))) (reg_main_v37_5 m c) :=
  (tail_main_v71 (exitV m c)).trans (by rw [exit_main_arg4, exit_main_arg7, exit_main_v7, exit_main_v1, exit_main_v37_5])

set_option maxHeartbeats 1260000 in
/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v80) = res_main_v80 m c
      ∧ r.2.mem ((c.tc : Thread nD τ).loc main_v81) = shapeCast _ (reg_main_v37_0 m c) shapeCasts_S1440x1024_S12x120x1024
      ∧ r.2.mem ((c.tc : Thread nD τ).loc main_v82) = shapeCast _ (reg_main_v37_1 m c) shapeCasts_S1440x1_S12x120
      ∧ r.2.mem ((c.tc : Thread nD τ).loc main_v83) = shapeCast _ (reg_main_v37_2 m c) shapeCasts_S1440x4096_S12x120x4096
      ∧ r.2.mem ((c.tc : Thread nD τ).loc main_v84) = shapeCast _ (reg_main_v37_3 m c) shapeCasts_S1440x1_S12x120
      ∧ r.2.mem ((c.tc : Thread nD τ).loc main_v85) = Host.convertf .fp8e4m3 (newCodes (reg_main_v37_6 m c) (dst (broadcastInDim S12x1 ![0] bcast_S12_S12x1_0 (iotaInDim S12 32 0)) (cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5))))) (m ((c.tc : Thread nD τ).loc main_arg4))) (reg_main_v37_4 m c))
      ∧ r.2.mem ((c.tc : Thread nD τ).loc main_v71) = newScales (m ((c.tc : Thread nD τ).loc main_arg7)) (dst (broadcastInDim S12x1 ![0] bcast_S12_S12x1_0 (iotaInDim S12 32 0)) (cmpi .slt (broadcastInDim S12x120 ![0, 1] bcast_S1x120_S12x120_0_1 (broadcastInDim S1x120 ![1] bcast_S120_S1x120_1 (iotaInDim S120 32 0))) (broadcastInDim S12x120 ![0, 1] bcast_S12x1_S12x120_0_1 (broadcastInDim S12x1 ![0] bcast_S12_S12x1_0 (m ((c.tc : Thread nD τ).loc main_arg5))))) (m ((c.tc : Thread nD τ).loc main_arg4))) (reg_main_v37_5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v80 (Pipeline.mem_restRefs_of main_v80 (by decide) (by decide))).trans (fin_main_v80 m c),
      ((h c).2 main_v81 (Pipeline.mem_restRefs_of main_v81 (by decide) (by decide))).trans (fin_main_v81 m c),
      ((h c).2 main_v82 (Pipeline.mem_restRefs_of main_v82 (by decide) (by decide))).trans (fin_main_v82 m c),
      ((h c).2 main_v83 (Pipeline.mem_restRefs_of main_v83 (by decide) (by decide))).trans (fin_main_v83 m c),
      ((h c).2 main_v84 (Pipeline.mem_restRefs_of main_v84 (by decide) (by decide))).trans (fin_main_v84 m c),
      ((h c).2 main_v85 (Pipeline.mem_restRefs_of main_v85 (by decide) (by decide))).trans (fin_main_v85 m c),
      ((h c).2 main_v71 (Pipeline.mem_restRefs_of main_v71 (by decide) (by decide))).trans (fin_main_v71 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).1 4).trans (((Gen.dats m 0 c).arrAt_in 4 rfl _).trans ((Gen.A_eq m c 4).trans (Gen.V_main_arg8 m c))),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c),
      ((h c).1 7).trans (((Gen.dats m 0 c).arrAt_in 7 rfl _).trans ((Gen.A_eq m c 7).trans (Gen.V_main_arg11 m c))),
      ((h c).2 main_arg12 (Pipeline.mem_restRefs_of main_arg12 (by decide) (by decide))).trans (Gen.W_main_arg12 m (Gen.dats m) c),
      ((h c).2 main_arg13 (Pipeline.mem_restRefs_of main_arg13 (by decide) (by decide))).trans (Gen.W_main_arg13 m (Gen.dats m) c)⟩) (Gen.run_main m ρ)

end Cert.ReferenceIdeal.Ran

end
-- ==== Proof.RefIdx.lean ====
/- The reference's gather and its two scatters, read at one element. -/
module

public import proofs.«01_k».proof.Proof.RefRun
public import Idealize.ShloMosaic.Lib.Routing.OpsPair
public import Idealize.ShloMosaic.Lib.Pointwise

@[expose] public section

set_option maxRecDepth 16384

noncomputable section

namespace Cert.ReferenceIdeal.Ran

open Cert.ReferenceIdeal Cert.ReferenceIdeal.Gen Idealize.ShloMosaic Idealize.ShloMosaic.TcCoe

abbrev dG := gather_S12x576x1024_S12x120x2_S12x120x1024_2_01_n_n_01_2_111024
abbrev dC := scatter_S12x576x1024_S12x120x2_S12x120x1024_2_01_01_2
abbrev dS := scatter_S12x576_S12x120x2_S12x120_n_01_01_2

theorem toInt_nat (n : ℕ) (h : n < 2 ^ 31) : (BitVec.ofNat 32 n).toInt = n := by
  rw [BitVec.toInt_eq_toNat_cond, BitVec.toNat_ofNat, Nat.mod_eq_of_lt (by omega), if_pos (by omega)]

theorem gather_at {α : Type} (x : S12x576x1024.Idx → α) (d : IVec S12x120x2 32) (b : Fin 12) (q : Fin 120) (k : Fin 1024) (s : Fin 576)
    (hb : d (ix3 b q 0) = BitVec.ofNat 32 ↑b) (hs : d (ix3 b q 1) = BitVec.ofNat 32 ↑s) :
    Host.gather dG x d (ix3 b q k) = x (ix3 b s k) := by
  have e0 : dG.siIdx (ix3 b q k) ⟨0, by decide⟩ = ix3 b q 0 := by
    funext a; fin_cases a <;> rfl
  have e1 : dG.siIdx (ix3 b q k) ⟨1, by decide⟩ = ix3 b q 1 := by
    funext a; fin_cases a <;> rfl
  have h0 : dG.start (ix3 b q k) d 0 = min (d (dG.siIdx (ix3 b q k) ⟨0, by decide⟩)).toInt.toNat 11 := rfl
  have h1 : dG.start (ix3 b q k) d 1 = min (d (dG.siIdx (ix3 b q k) ⟨1, by decide⟩)).toInt.toNat 575 := rfl
  refine congrArg x (funext fun a => Fin.ext ?_)
  fin_cases a
  · show dG.start (ix3 b q k) d 0 + 0 + 0 = ↑b
    rw [h0, e0, hb, toInt_nat _ (by omega)]; omega
  · show dG.start (ix3 b q k) d 1 + 0 + 0 = ↑s
    rw [h1, e1, hs, toInt_nat _ (by omega)]; omega
  · show 0 + 0 + k.val = k.val
    omega

theorem lands3 (d : IVec S12x120x2 32) (b b' : Fin 12) (q : Fin 120) (k k' : Fin 1024) (s : Fin 576) :
    dC.resultIdx? (ix3 b q k) d = some (ix3 b' s k') ↔ (d (ix3 b q 0)).toInt = ↑b' ∧ (d (ix3 b q 1)).toInt = ↑s ∧ k = k' := by
  have e0 : dC.siIdx (ix3 b q k) ⟨0, by decide⟩ = ix3 b q 0 := by
    funext a; fin_cases a <;> rfl
  have e1 : dC.siIdx (ix3 b q k) ⟨1, by decide⟩ = ix3 b q 1 := by
    funext a; fin_cases a <;> rfl
  have h0 : dC.start (ix3 b q k) d 0 = (d (dC.siIdx (ix3 b q k) ⟨0, by decide⟩)).toInt := rfl
  have h1 : dC.start (ix3 b q k) d 1 = (d (dC.siIdx (ix3 b q k) ⟨1, by decide⟩)).toInt := rfl
  have h2 : dC.start (ix3 b q k) d 2 = 0 := rfl
  have w0 : dC.window (ix3 b q k) 0 = 0 := rfl
  have w1 : dC.window (ix3 b q k) 1 = 0 := rfl
  have w2 : dC.window (ix3 b q k) 2 = ↑k := rfl
  rw [Routing.resultIdx?_eq_some]
  rw [e0] at h0; rw [e1] at h1
  constructor
  · intro h
    have a0 := h 0; have a1 := h 1; have a2 := h 2
    rw [h0, w0] at a0; rw [h1, w1] at a1; rw [h2, w2] at a2
    refine ⟨by simpa using a0, by simpa using a1, Fin.ext ?_⟩
    have : ((ix3 b' s k' : S12x576x1024.Idx) 2).val = k'.val := rfl
    omega
  · rintro ⟨a0, a1, rfl⟩ a
    fin_cases a
    · show dC.start (ix3 b q k) d 0 + (dC.window (ix3 b q k) 0 : ℤ) = ↑b'
      rw [h0, w0, a0]; simp
    · show dC.start (ix3 b q k) d 1 + (dC.window (ix3 b q k) 1 : ℤ) = ↑s
      rw [h1, w1, a1]; simp
    · show dC.start (ix3 b q k) d 2 + (dC.window (ix3 b q k) 2 : ℤ) = ↑k
      rw [h2, w2]; simp

theorem lands2 (d : IVec S12x120x2 32) (b b' : Fin 12) (q : Fin 120) (s : Fin 576) :
    dS.resultIdx? (ix2 b q) d = some (ix2 b' s) ↔ (d (ix3 b q 0)).toInt = ↑b' ∧ (d (ix3 b q 1)).toInt = ↑s := by
  have e0 : dS.siIdx (ix2 b q) ⟨0, by decide⟩ = ix3 b q 0 := by
    funext a; fin_cases a <;> rfl
  have e1 : dS.siIdx (ix2 b q) ⟨1, by decide⟩ = ix3 b q 1 := by
    funext a; fin_cases a <;> rfl
  have h0 : dS.start (ix2 b q) d 0 = (d (dS.siIdx (ix2 b q) ⟨0, by decide⟩)).toInt := rfl
  have h1 : dS.start (ix2 b q) d 1 = (d (dS.siIdx (ix2 b q) ⟨1, by decide⟩)).toInt := rfl
  have w0 : dS.window (ix2 b q) 0 = 0 := rfl
  have w1 : dS.window (ix2 b q) 1 = 0 := rfl
  rw [Routing.resultIdx?_eq_some]
  rw [e0] at h0; rw [e1] at h1
  constructor
  · intro h
    have a0 := h 0; have a1 := h 1
    rw [h0, w0] at a0; rw [h1, w1] at a1
    exact ⟨by simpa using a0, by simpa using a1⟩
  · rintro ⟨a0, a1⟩ a
    fin_cases a
    · show dS.start (ix2 b q) d 0 + (dS.window (ix2 b q) 0 : ℤ) = ↑b'
      rw [h0, w0, a0]; simp
    · show dS.start (ix2 b q) d 1 + (dS.window (ix2 b q) 1 : ℤ) = ↑s
      rw [h1, w1, a1]; simp

/-- A scatter that writes: at an element no update lands on, the operand's; -/
theorem scatter_miss {α : Type} {s si u : Shape} {w : ℕ} (d : ScatterDims s si u) (x : s.Idx → α) (idx : IVec si w) (upd : u.Idx → α) (i : s.Idx)
    (h : ∀ j, d.resultIdx? j idx ≠ some i) : Host.scatter d (fun _ b => b) x idx upd i = x i := by
  rw [Routing.scatter_at]
  generalize List.finRange u.numel = l
  induction l with
  | nil => rfl
  | cons n l ih => rw [List.foldl_cons, if_neg (h _)]; exact ih

/-- at an element one update lands on, that update's. -/
theorem scatter_hit {α : Type} {s si u : Shape} {w : ℕ} (d : ScatterDims s si u) (x : s.Idx → α) (idx : IVec si w) (upd : u.Idx → α) (i : s.Idx) (j : u.Idx)
    (hj : d.resultIdx? j idx = some i) (h : ∀ j', d.resultIdx? j' idx = some i → j' = j) : Host.scatter d (fun _ b => b) x idx upd i = upd j := by
  rw [Routing.scatter_at]
  have key : ∀ (l : List (Fin u.numel)) (a : α), (a = upd j ∨ u.rowMajor j ∈ l) →
      l.foldl (fun a n => if d.resultIdx? (u.rowMajor.symm n) idx = some i then upd (u.rowMajor.symm n) else a) a = upd j := by
    intro l
    induction l with
    | nil => intro a ha; exact ha.resolve_right (by simp)
    | cons n l ih =>
      intro a ha
      rw [List.foldl_cons]
      apply ih
      by_cases e : d.resultIdx? (u.rowMajor.symm n) idx = some i
      · left; rw [if_pos e, h _ e]
      · rw [if_neg e]
        rcases ha with ha | ha
        · exact .inl ha
        · rcases List.mem_cons.1 ha with r | r
          · subst r; exact (e (by rwa [Equiv.symm_apply_apply])).elim
          · exact .inr r
  exact key _ _ (.inr (List.mem_finRange _))

end Cert.ReferenceIdeal.Ran

end
-- ==== Proof.RefRead.lean ====
/- What the reference's region is given, as terms of the arguments. -/
module

public import proofs.«01_k».proof.Proof.RefIdx

@[expose] public section

set_option maxRecDepth 16384
set_option maxHeartbeats 2000000

noncomputable section

namespace Cert.ReferenceIdeal.Ran

open Cert.ReferenceIdeal Cert.ReferenceIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-- Which row of which batch entry each listed row reads, a negative number counted from the end. -/
def src (v1 : IVec S12x1 32) (a4 : IVec S12x120 32) : IVec S12x120x2 32 :=
  concatenate S12x120x2 2 [⟨S12x120x1, broadcastInDim S12x120x1 ![0, 1] bcast_S12x120_S12x120x1_0_1 (broadcastInDim S12x120 ![0, 1] bcast_S12x1_S12x120_0_1
      (select (cmpi .slt v1 (broadcastInDim S12x1 ![] bcast_S_S12x1 (constantI S_ 32 0#32))) (addi v1 (broadcastInDim S12x1 ![] bcast_S_S12x1 (constantI S_ 32 12#32))) v1))⟩,
    ⟨S12x120x1, broadcastInDim S12x120x1 ![0, 1] bcast_S12x120_S12x120x1_0_1
      (select (cmpi .slt a4 (broadcastInDim S12x120 ![] bcast_S_S12x120 (constantI S_ 32 0#32))) (addi a4 (broadcastInDim S12x120 ![] bcast_S_S12x120 (constantI S_ 32 576#32))) a4)⟩]
    concatenates_S12x120x1_S12x120x1_S12x120x2_d2

/-- The batch entries' numbers, -/
def bat : IVec S12x1 32 := broadcastInDim S12x1 ![0] bcast_S12_S12x1_0 (iotaInDim S12 32 0)

/-- and which listed entries are counted. -/
def cnt (a5 : IVec S12 32) : IVec S12x120 1 :=
  cmpi .slt (broadcastInDim S12x120 ![0, 1] bcast_S1x120_S12x120_0_1 (broadcastInDim S1x120 ![1] bcast_S120_S1x120_1 (iotaInDim S120 32 0)))
    (broadcastInDim S12x120 ![0, 1] bcast_S12x1_S12x120_0_1 (broadcastInDim S12x1 ![0] bcast_S12_S12x1_0 a5))

/-- One row per batch entry, repeated for each listed one. -/
def rows (a : FVec F S12x1024 .f32) : FVec F S1440x1024 .f32 :=
  shapeCast _ (broadcastInDim S12x120x1024 ![0, 1, 2] bcast_S12x1x1024_S12x120x1024_0_1_2 (broadcastInDim S12x1x1024 ![0, 2] bcast_S12x1024_S12x1x1024_0_2 a)) shapeCasts_S12x120x1024_S1440x1024

theorem V_v23 (c : Dev nD) : Gen.V m c main_v23
    = shapeCast _ (Host.gather dG (m ((c.tc : Thread nD τ).loc main_arg0)) (src bat (m ((c.tc : Thread nD τ).loc main_arg4)))) shapeCasts_S12x120x1024_S1440x1024 := by
  show Gen.V0 m c (Proc.devRef .tc main_v23) = _
  simp only [src, bat, Gen.V0, Gen.hostOps0, List.flatten_cons, List.flatten_nil, List.append_nil, List.cons_append, List.nil_append]
  after_results_simp <;> rfl

theorem V_v26 (c : Dev nD) : Gen.V m c main_v26 = rows (m ((c.tc : Thread nD τ).loc main_arg1)) := by
  show Gen.V0 m c (Proc.devRef .tc main_v26) = _
  simp only [rows, Gen.V0, Gen.hostOps0, List.flatten_cons, List.flatten_nil, List.append_nil, List.cons_append, List.nil_append]
  after_results_simp <;> rfl

theorem V_v29 (c : Dev nD) : Gen.V m c main_v29 = rows (m ((c.tc : Thread nD τ).loc main_arg2)) := by
  show Gen.V0 m c (Proc.devRef .tc main_v29) = _
  simp only [rows, Gen.V0, Gen.hostOps0, List.flatten_cons, List.flatten_nil, List.append_nil, List.cons_append, List.nil_append]
  after_results_simp <;> rfl

theorem V_v31 (c : Dev nD) : Gen.V m c main_v31
    = shapeCast S1440x1 (extui 32 (cnt (m ((c.tc : Thread nD τ).loc main_arg5))) natLt_1_32) shapeCasts_S12x120_S1440x1 := by
  show Gen.V0 m c (Proc.devRef .tc main_v31) = _
  simp only [cnt, Gen.V0, Gen.hostOps0, List.flatten_cons, List.flatten_nil, List.append_nil, List.cons_append, List.nil_append]
  after_results_simp <;> rfl

theorem V_v32 (c : Dev nD) : Gen.V m c main_v32 = shapeCast S1x4096 (m ((c.tc : Thread nD τ).loc main_arg9)) shapeCasts_S4096_S1x4096 := by
  show Gen.V0 m c (Proc.devRef .tc main_v32) = _
  simp only [Gen.V0, Gen.hostOps0, List.flatten_cons, List.flatten_nil, List.append_nil, List.cons_append, List.nil_append]
  after_results_simp <;> rfl

theorem V_v33 (c : Dev nD) : Gen.V m c main_v33 = shapeCast S1x4096 (m ((c.tc : Thread nD τ).loc main_arg10)) shapeCasts_S4096_S1x4096 := by
  show Gen.V0 m c (Proc.devRef .tc main_v33) = _
  simp only [Gen.V0, Gen.hostOps0, List.flatten_cons, List.flatten_nil, List.append_nil, List.cons_append, List.nil_append]
  after_results_simp <;> rfl

theorem V_v34 (c : Dev nD) : Gen.V m c main_v34 = shapeCast S1x1024 (m ((c.tc : Thread nD τ).loc main_arg12)) shapeCasts_S1024_S1x1024 := by
  show Gen.V0 m c (Proc.devRef .tc main_v34) = _
  simp only [Gen.V0, Gen.hostOps0, List.flatten_cons, List.flatten_nil, List.append_nil, List.cons_append, List.nil_append]
  after_results_simp <;> rfl

theorem V_v35 (c : Dev nD) : Gen.V m c main_v35 = shapeCast S1x1024 (m ((c.tc : Thread nD τ).loc main_arg13)) shapeCasts_S1024_S1x1024 := by
  show Gen.V0 m c (Proc.devRef .tc main_v35) = _
  simp only [Gen.V0, Gen.hostOps0, List.flatten_cons, List.flatten_nil, List.append_nil, List.cons_append, List.nil_append]
  after_results_simp <;> rfl

theorem V_v36 (c : Dev nD) : Gen.V m c main_v36 = shapeCast S6912x1024 (m ((c.tc : Thread nD τ).loc main_arg6)) shapeCasts_S12x576x1024_S6912x1024 := by
  show Gen.V0 m c (Proc.devRef .tc main_v36) = _
  simp only [Gen.V0, Gen.hostOps0, List.flatten_cons, List.flatten_nil, List.append_nil, List.cons_append, List.nil_append]
  after_results_simp <;> rfl

/-- The row of listed entry `q` of batch entry `b`. -/
def row (b : Fin 12) (q : Fin 120) : Fin 1440 := ⟨120 * ↑b + ↑q, by omega⟩

theorem cast3_at {α : Type} {n : ℕ} (v : (⟨3, ![12, 120, n]⟩ : Shape).Idx → α) (h : (⟨3, ![12, 120, n]⟩ : Shape).ShapeCasts ⟨2, ![1440, n]⟩) (b : Fin 12) (q : Fin 120)
    (k : Fin n) : shapeCast ⟨2, ![1440, n]⟩ v h (ix2 (row b q) k) = v (ix3 b q k) := by
  refine shapeCast_apply v h _ _ ?_
  rw [Shape.rowMajor_val_three, Shape.rowMajor_val_two]
  show (↑b * 120 + ↑q) * n + k.val = (120 * ↑b + ↑q) * n + k.val
  rw [Nat.mul_comm (↑b)]

theorem uncast3_at {α : Type} {n : ℕ} (v : (⟨2, ![1440, n]⟩ : Shape).Idx → α) (h : (⟨2, ![1440, n]⟩ : Shape).ShapeCasts ⟨3, ![12, 120, n]⟩) (b : Fin 12) (q : Fin 120)
    (k : Fin n) : shapeCast ⟨3, ![12, 120, n]⟩ v h (ix3 b q k) = v (ix2 (row b q) k) := by
  refine shapeCast_apply v h _ _ ?_
  rw [Shape.rowMajor_val_three, Shape.rowMajor_val_two]
  show (120 * ↑b + ↑q) * n + k.val = (↑b * 120 + ↑q) * n + k.val
  rw [Nat.mul_comm (↑b)]

theorem uncast2_at {α : Type} (v : S1440x1.Idx → α) (b : Fin 12) (q : Fin 120) : shapeCast S12x120 v shapeCasts_S1440x1_S12x120 (ix2 b q) = v (ix2 (row b q) 0) := by
  refine shapeCast_apply v _ _ _ ?_
  rw [Shape.rowMajor_val_two, Shape.rowMajor_val_two]
  show (120 * ↑b + ↑q) * 1 + 0 = ↑b * 120 + q.val
  omega

theorem cast2_at {α : Type} (v : S12x120.Idx → α) (b : Fin 12) (q : Fin 120) : shapeCast S1440x1 v shapeCasts_S12x120_S1440x1 (ix2 (row b q) 0) = v (ix2 b q) := by
  refine shapeCast_apply v _ _ _ ?_
  rw [Shape.rowMajor_val_two, Shape.rowMajor_val_two]
  show ↑b * 120 + q.val = (120 * ↑b + ↑q) * 1 + 0
  omega

/-- The row of token `s` of batch entry `b` in the flattened cache. -/
def crow (b : Fin 12) (s : Fin 576) : Fin 6912 := ⟨576 * ↑b + ↑s, by omega⟩

theorem ccast_at {α : Type} (v : S12x576x1024.Idx → α) (b : Fin 12) (s : Fin 576) (k : Fin 1024) :
    shapeCast S6912x1024 v shapeCasts_S12x576x1024_S6912x1024 (ix2 (crow b s) k) = v (ix3 b s k) := by
  refine shapeCast_apply v _ _ _ ?_
  rw [Shape.rowMajor_val_three, Shape.rowMajor_val_two]
  show (↑b * 576 + ↑s) * 1024 + k.val = (576 * ↑b + ↑s) * 1024 + k.val
  omega

theorem cuncast_at {α : Type} (v : S6912x1024.Idx → α) (b : Fin 12) (s : Fin 576) (k : Fin 1024) :
    shapeCast S12x576x1024 v shapeCasts_S6912x1024_S12x576x1024 (ix3 b s k) = v (ix2 (crow b s) k) := by
  refine shapeCast_apply v _ _ _ ?_
  rw [Shape.rowMajor_val_three, Shape.rowMajor_val_two]
  show (576 * ↑b + ↑s) * 1024 + k.val = (↑b * 576 + ↑s) * 1024 + k.val
  omega

theorem cnt_at (a5 : IVec S12 32) (b : Fin 12) (q : Fin 120) : cnt a5 (ix2 b q) = IntOp.cmpi .slt (BitVec.ofNat 32 ↑q) (a5 (ix1 b)) := by
  pointwise [cnt]

theorem rows_at (a : FVec F S12x1024 .f32) (b : Fin 12) (q : Fin 120) (k : Fin 1024) : rows a (ix2 (row b q) k) = a (ix2 b k) := by
  unfold rows
  refine (cast3_at _ _ b q k).trans ?_
  pointwise

theorem src0_at (a4 : IVec S12x120 32) (b : Fin 12) (q : Fin 120) : src bat a4 (ix3 b q 0) = BitVec.ofNat 32 ↑b := by
  have e : src bat a4 (ix3 b q 0) = Scalar.select (IntOp.cmpi .slt (BitVec.ofNat 32 ↑b) 0#32) (BitVec.ofNat 32 ↑b + 12#32) (BitVec.ofNat 32 ↑b) := by
    pointwise [src, bat]
    rfl
  rw [e, Routing.wrap_of_lt _ _ (by rw [BitVec.toNat_ofNat]; omega)]

theorem src1_at (a4 : IVec S12x120 32) (b : Fin 12) (q : Fin 120) : src bat a4 (ix3 b q 1)
    = Scalar.select (IntOp.cmpi .slt (a4 (ix2 b q)) 0#32) (a4 (ix2 b q) + 576#32) (a4 (ix2 b q)) := by
  pointwise [src, bat]
  rfl

theorem dst0_at (v7 : IVec S12x120 1) (a4 : IVec S12x120 32) (b : Fin 12) (q : Fin 120) : dst bat v7 a4 (ix3 b q 0) = BitVec.ofNat 32 ↑b := by
  have e : dst bat v7 a4 (ix3 b q 0) = Scalar.select (IntOp.cmpi .slt (BitVec.ofNat 32 ↑b) 0#32) (BitVec.ofNat 32 ↑b + 12#32) (BitVec.ofNat 32 ↑b) := by
    pointwise [dst, bat]
    rfl
  rw [e, Routing.wrap_of_lt _ _ (by rw [BitVec.toNat_ofNat]; omega)]

theorem dst1_at (v7 : IVec S12x120 1) (a4 : IVec S12x120 32) (b : Fin 12) (q : Fin 120) : dst bat v7 a4 (ix3 b q 1)
    = Scalar.select (IntOp.cmpi .slt (Scalar.select (v7 (ix2 b q)) (a4 (ix2 b q)) 576#32) 0#32) (Scalar.select (v7 (ix2 b q)) (a4 (ix2 b q)) 576#32 + 576#32)
        (Scalar.select (v7 (ix2 b q)) (a4 (ix2 b q)) 576#32) := by
  pointwise [dst, bat]
  rfl

theorem out_at (x : FVec Ideal S12x576x1024 .bf16) (g : FVec Ideal S12x1024 .f32) (cd : FVec Ideal S12x576x1024 .f32) (sc : FVec Ideal S12x576 .f32) (b : Fin 12)
    (s : Fin 576) (k : Fin 1024) : out x g cd sc (ix3 b s k) = x (ix3 b s k) + g (ix2 b k) * (cd (ix3 b s k) * sc (ix2 b s)) := by
  pointwise [out]

end Cert.ReferenceIdeal.Ran

end
-- ==== Proof.RefBlock.lean ====
/- The reference's region: what it leaves in each of its result arrays is the rows of Spec.lean, read one entry at a time. -/
module

public import proofs.«01_k».proof.Proof.RefPay2
public import proofs.«01_k».proof.Proof.RefRead
public import proofs.«01_k».proof.Proof.Layer
public import Idealize.ShloMosaic.Lib.Pipeline.ValueKit

@[expose] public section

set_option maxRecDepth 16384

noncomputable section

namespace Cert.ReferenceIdeal.Gen

open Cert.ReferenceIdeal Cert.ReferenceIdeal.Gen Idealize.ShloMosaic Idealize.ShloMosaic.TcCoe Idealize.SL.Sem
open Cert

/-- What the region is given. -/
structure Blk where
  x0 : Vec Ideal S1440x1024 .bf16
  x1 : Vec Ideal S1440x1024 .f32
  x2 : Vec Ideal S1440x1024 .f32
  x3 : Vec Ideal S1440x1 .i32
  x4 : Vec Ideal S1024x4096 .fp8e4m3
  x5 : Vec Ideal S1x4096 .f32
  x6 : Vec Ideal S1x4096 .f32
  x7 : Vec Ideal S4096x1024 .fp8e4m3
  x8 : Vec Ideal S1x1024 .f32
  x9 : Vec Ideal S1x1024 .f32
  x10 : Vec Ideal S6912x1024 .fp8e4m3

namespace Blk

variable (b : Blk)

def lv (r : Fin 1440) : BitVec 1 := IntOp.cmpi .ne (b.x3 (ix2 r 0)) 0#32
def H (r : Fin 1440) : Fin 1024 → EReal :=
  Spec.hrow (b.lv r) (fun k => b.x0 (ix2 r k)) (fun k => b.x2 (ix2 r k)) (fun k => b.x1 (ix2 r k))
def G (r : Fin 1440) : Fin 4096 → EReal :=
  Spec.grow (b.lv r) (b.H r) (fun k f => b.x4 (ix2 k f)) (fun f => b.x5 (ix2 0 f)) (fun f => b.x6 (ix2 0 f))
def Y (r : Fin 1440) : Fin 1024 → EReal :=
  Spec.yrow (b.lv r) (b.G r) (fun f k => b.x7 (ix2 f k)) (fun k => b.x8 (ix2 0 k)) (fun k => b.x9 (ix2 0 k))

def p21 := k0_pay21 b.x0 b.x1 b.x2 b.x3 b.x4 b.x5 b.x6 b.x7 b.x8 b.x9 b.x10
def p22 := k0_pay22 b.x0 b.x1 b.x2 b.x3 b.x4 b.x5 b.x6 b.x7 b.x8 b.x9 b.x10
def p23 := k0_pay23 b.x0 b.x1 b.x2 b.x3 b.x4 b.x5 b.x6 b.x7 b.x8 b.x9 b.x10
def p25 := k0_pay25 b.x0 b.x1 b.x2 b.x3 b.x4 b.x5 b.x6 b.x7 b.x8 b.x9 b.x10
def p26 := k0_pay26 b.x0 b.x1 b.x2 b.x3 b.x4 b.x5 b.x6 b.x7 b.x8 b.x9 b.x10
def p29 := k0_pay29 b.x0 b.x1 b.x2 b.x3 b.x4 b.x5 b.x6 b.x7 b.x8 b.x9 b.x10
def p30 := k0_pay30 b.x0 b.x1 b.x2 b.x3 b.x4 b.x5 b.x6 b.x7 b.x8 b.x9 b.x10

theorem p21_at (r : Fin 1440) : b.p21 (ix2 r 0) = b.lv r := by
  unfold p21 k0_pay21; rw [View.ld_unit_zero (by funext a; fin_cases a <;> rfl), pay4_at]; rfl

theorem p22_at (r : Fin 1440) (k : Fin 1024) : b.p22 (ix2 r k) = b.H r k := by
  unfold p22 k0_pay22; rw [View.ld_unit_zero (by funext a; fin_cases a <;> rfl), View.ld_unit_zero (by funext a; fin_cases a <;> rfl),
    View.ld_unit_zero (by funext a; fin_cases a <;> rfl), View.ld_unit_zero (by funext a; fin_cases a <;> rfl), pay5_at]; rfl

theorem p23_at (r : Fin 1440) : b.p23 (ix2 r 0) = Spec.quo (b.H r) := by
  unfold p23 k0_pay23; rw [pay6_at]
  exact congrArg Spec.quo (funext fun k => p22_at b r k)

theorem p25_at (r : Fin 1440) (f : Fin 4096) : b.p25 (ix2 r f)
    = Spec.lin (b.H r) (fun k => b.x4 (ix2 k f)) (b.x5 (ix2 0 f)) (b.x6 (ix2 0 f)) := by
  have h : b.p25 = k0_pay11 b.p22 b.p23 k0_pay7 b.x4 b.x5 b.x6 := by
    unfold p25 k0_pay25
    rw [View.ld_unit_zero (by funext a; fin_cases a <;> rfl), View.ld_unit_zero (by funext a; fin_cases a <;> rfl),
      View.ld_unit_zero (by funext a; fin_cases a <;> rfl)]
    rfl
  rw [h, pay11_at, p23_at]
  simp only [p22_at]
  rfl

/-- The hidden row before it is quantised. -/
def hid : FVec Ideal S1440x4096 .f32 := k0_pay14 b.p21 b.p25 b.p26 k0_pay13

theorem hid_at (r : Fin 1440) (f : Fin 4096) : b.hid (ix2 r f) = b.G r f := by
  have h : b.hid = k0_pay14 b.p21 (k0_pay11 b.p22 b.p23 k0_pay7 (View.ld b.x4 r0_2) (View.ld b.x5 r0_3) (View.ld b.x6 r0_3))
      (k0_pay12 b.p22 b.p23 k0_pay7 (View.ld b.x4 r0_2) (View.ld b.x5 r0_3) (View.ld b.x6 r0_3)) k0_pay13 := rfl
  have e : k0_pay11 b.p22 b.p23 k0_pay7 (View.ld b.x4 r0_2) (View.ld b.x5 r0_3) (View.ld b.x6 r0_3) = b.p25 := rfl
  rw [h, pay14_at, p21_at, e, p25_at]
  rfl

theorem e15_at (r : Fin 1440) : k0_pay15 b.p21 b.p25 b.p26 k0_pay13 (ix2 r 0) = Spec.ex (Spec.quo (b.G r)) := by
  rw [pay15_at]
  exact congrArg (fun g => Spec.ex (Spec.quo g)) (funext fun f => hid_at b r f)

theorem p29_at (r : Fin 1440) (f : Fin 4096) : b.p29 (ix2 r f) = Spec.codes (b.G r) f := by
  have h : b.p29 = k0_pay16 b.p21 b.p25 b.p26 k0_pay13 := rfl
  have e : k0_pay14 b.p21 b.p25 b.p26 k0_pay13 (ix2 r f) = b.G r f := hid_at b r f
  rw [h, pay16_at, e15_at, e]
  rfl

theorem p30_at (r : Fin 1440) : b.p30 (ix2 r 0) = Spec.scale (b.G r) := by
  have h : b.p30 = k0_pay17 b.p21 b.p25 b.p26 k0_pay13 := rfl
  rw [h, pay17_at, e15_at]
  rfl

theorem y18_at (r : Fin 1440) (k : Fin 1024) :
    k0_pay18 b.p21 b.p29 b.p30 b.x7 (constant S1440x1024 .f32 0x00000000#32) b.x8 b.x9 (ix2 r k) = b.Y r k := by
  rw [pay18_at, p21_at, p30_at]
  simp only [p29_at]
  rfl

theorem e19_at (r : Fin 1440) : k0_pay19 b.p21 b.p29 b.p30 b.x7 (constant S1440x1024 .f32 0x00000000#32) b.x8 b.x9 (ix2 r 0) = Spec.ex (Spec.quo (b.Y r)) := by
  rw [pay19_at]
  exact congrArg (fun g => Spec.ex (Spec.quo g)) (funext fun f => y18_at b r f)

def o11 : Vec Ideal S1440x1024 .fp8e4m3 := out0_11 b.x0 b.x1 b.x2 b.x3 b.x4 b.x5 b.x6 b.x7 b.x8 b.x9 b.x10
def o12 : Vec Ideal S1440x1 .f32 := out0_12 b.x0 b.x1 b.x2 b.x3 b.x4 b.x5 b.x6 b.x7 b.x8 b.x9 b.x10
def o13 : Vec Ideal S1440x4096 .fp8e4m3 := out0_13 b.x0 b.x1 b.x2 b.x3 b.x4 b.x5 b.x6 b.x7 b.x8 b.x9 b.x10
def o14 : Vec Ideal S1440x1 .f32 := out0_14 b.x0 b.x1 b.x2 b.x3 b.x4 b.x5 b.x6 b.x7 b.x8 b.x9 b.x10
def o15 : Vec Ideal S1440x1024 .f32 := out0_15 b.x0 b.x1 b.x2 b.x3 b.x4 b.x5 b.x6 b.x7 b.x8 b.x9 b.x10
def o16 : Vec Ideal S1440x1 .f32 := out0_16 b.x0 b.x1 b.x2 b.x3 b.x4 b.x5 b.x6 b.x7 b.x8 b.x9 b.x10
def o17 : Vec Ideal S6912x1024 .f32 := out0_17 b.x0 b.x1 b.x2 b.x3 b.x4 b.x5 b.x6 b.x7 b.x8 b.x9 b.x10

theorem o11_at (r : Fin 1440) (k : Fin 1024) : b.o11 (ix2 r k) = Spec.codes (b.H r) k := by
  unfold o11 out0_11
  rw [View.canon_cons_unit_zero (by funext a; fin_cases a <;> rfl)]
  show k0_pay9 b.p22 b.p23 k0_pay7 (ix2 r k) = _
  rw [pay9_at, p22_at, p23_at]; rfl

theorem o12_at (r : Fin 1440) : b.o12 (ix2 r 0) = Spec.scale (b.H r) := by
  unfold o12 out0_12
  rw [View.canon_cons_unit_zero (by funext a; fin_cases a <;> rfl)]
  show k0_pay10 b.p23 k0_pay7 (ix2 r 0) = _
  rw [pay10_at, p23_at]; rfl

theorem o13_at (r : Fin 1440) (f : Fin 4096) : b.o13 (ix2 r f) = Spec.codes (b.G r) f := by
  unfold o13 out0_13
  rw [View.canon_cons_unit_zero (by funext a; fin_cases a <;> rfl)]
  exact p29_at b r f

theorem o14_at (r : Fin 1440) : b.o14 (ix2 r 0) = Spec.scale (b.G r) := by
  unfold o14 out0_14
  rw [View.canon_cons_unit_zero (by funext a; fin_cases a <;> rfl)]
  exact p30_at b r

theorem o15_at (r : Fin 1440) (k : Fin 1024) : b.o15 (ix2 r k) = Spec.codes (b.Y r) k := by
  unfold o15 out0_15
  rw [View.canon_cons_unit_zero (by funext a; fin_cases a <;> rfl), View.ld_unit_zero (by funext a; fin_cases a <;> rfl),
    View.ld_unit_zero (by funext a; fin_cases a <;> rfl), View.ld_unit_zero (by funext a; fin_cases a <;> rfl)]
  show k0_pay2 (k0_pay20 b.p21 b.p29 b.p30 b.x7 (constant S1440x1024 .f32 0x00000000#32) b.x8 b.x9) (ix2 r k) = _
  rw [pay2_at, y18_at, e19_at]; rfl

theorem o16_at (r : Fin 1440) : b.o16 (ix2 r 0) = Spec.scale (b.Y r) := by
  unfold o16 out0_16
  rw [View.canon_cons_unit_zero (by funext a; fin_cases a <;> rfl), View.ld_unit_zero (by funext a; fin_cases a <;> rfl),
    View.ld_unit_zero (by funext a; fin_cases a <;> rfl), View.ld_unit_zero (by funext a; fin_cases a <;> rfl)]
  show k0_pay1 (k0_pay19 b.p21 b.p29 b.p30 b.x7 (constant S1440x1024 .f32 0x00000000#32) b.x8 b.x9) (ix2 r 0) = _
  rw [pay1_at, e19_at]; rfl

theorem o17_at (r : Fin 6912) (k : Fin 1024) : b.o17 (ix2 r k) = b.x10 (ix2 r k) := by
  unfold o17 out0_17
  rw [View.canon_cons_unit_zero (by funext a; fin_cases a <;> rfl), View.ld_unit_zero (by funext a; fin_cases a <;> rfl)]
  exact pay3_at b.x10 r k

end Blk

end Cert.ReferenceIdeal.Gen

end
-- ==== Proof.RefArr.lean ====
/- The reference's results, one entry at a time, as the layer of Layer.lean at its arguments. -/
module

public import proofs.«01_k».proof.Proof.RefBlock

@[expose] public section

set_option maxRecDepth 16384

noncomputable section

namespace Cert.ReferenceIdeal.Ran

open Cert.ReferenceIdeal Cert.ReferenceIdeal.Gen Idealize.ShloMosaic Idealize.ShloMosaic.TcCoe Idealize.SL.Sem
open Cert

variable (m : (ℓ : Loc nD τ sig) → Buf (Elt Ideal) ℓ)

/-- Every window's block index at the one point (decided). -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

theorem iblk0 (c : Dev nD) : iblk m c 0 t0_0 = V m c main_v23 := by blk_ext! [iblk, idx t0_0]
theorem iblk1 (c : Dev nD) : iblk m c 1 t0_0 = V m c main_v26 := by blk_ext! [iblk, idx t0_0]
theorem iblk2 (c : Dev nD) : iblk m c 2 t0_0 = V m c main_v29 := by blk_ext! [iblk, idx t0_0]
theorem iblk3 (c : Dev nD) : iblk m c 3 t0_0 = V m c main_v31 := by blk_ext! [iblk, idx t0_0]
theorem iblk4 (c : Dev nD) : iblk m c 4 t0_0 = V m c main_arg8 := by blk_ext! [iblk, idx t0_0]
theorem iblk5 (c : Dev nD) : iblk m c 5 t0_0 = V m c main_v32 := by blk_ext! [iblk, idx t0_0]
theorem iblk6 (c : Dev nD) : iblk m c 6 t0_0 = V m c main_v33 := by blk_ext! [iblk, idx t0_0]
theorem iblk7 (c : Dev nD) : iblk m c 7 t0_0 = V m c main_arg11 := by blk_ext! [iblk, idx t0_0]
theorem iblk8 (c : Dev nD) : iblk m c 8 t0_0 = V m c main_v34 := by blk_ext! [iblk, idx t0_0]
theorem iblk9 (c : Dev nD) : iblk m c 9 t0_0 = V m c main_v35 := by blk_ext! [iblk, idx t0_0]
theorem iblk10 (c : Dev nD) : iblk m c 10 t0_0 = V m c main_v36 := by blk_ext! [iblk, idx t0_0]

/-- The arguments of a core. -/
def args (c : Dev nD) : Spec.Args where
  x := m ((c.tc : Thread nD τ).loc main_arg0)
  sh := m ((c.tc : Thread nD τ).loc main_arg1)
  sc := m ((c.tc : Thread nD τ).loc main_arg2)
  gt := m ((c.tc : Thread nD τ).loc main_arg3)
  ids := m ((c.tc : Thread nD τ).loc main_arg4)
  n := m ((c.tc : Thread nD τ).loc main_arg5)
  cc := m ((c.tc : Thread nD τ).loc main_arg6)
  cs := m ((c.tc : Thread nD τ).loc main_arg7)
  w1 := m ((c.tc : Thread nD τ).loc main_arg8)
  s1 := m ((c.tc : Thread nD τ).loc main_arg9)
  b1 := m ((c.tc : Thread nD τ).loc main_arg10)
  w2 := m ((c.tc : Thread nD τ).loc main_arg11)
  s2 := m ((c.tc : Thread nD τ).loc main_arg12)
  b2 := m ((c.tc : Thread nD τ).loc main_arg13)

/-- What the region is given on a core. -/
def blkOf (c : Dev nD) : Blk where
  x0 := iblk m c 0 t0_0
  x1 := iblk m c 1 t0_0
  x2 := iblk m c 2 t0_0
  x3 := iblk m c 3 t0_0
  x4 := iblk m c 4 t0_0
  x5 := iblk m c 5 t0_0
  x6 := iblk m c 6 t0_0
  x7 := iblk m c 7 t0_0
  x8 := iblk m c 8 t0_0
  x9 := iblk m c 9 t0_0
  x10 := iblk m c 10 t0_0

set_option maxHeartbeats 4000000 in
theorem blkOf_o11 (c : Dev nD) : (blkOf m c).o11 = out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o11 blkOf; rfl
set_option maxHeartbeats 4000000 in
theorem blkOf_o12 (c : Dev nD) : (blkOf m c).o12 = out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o12 blkOf; rfl
set_option maxHeartbeats 4000000 in
theorem blkOf_o13 (c : Dev nD) : (blkOf m c).o13 = out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o13 blkOf; rfl
set_option maxHeartbeats 4000000 in
theorem blkOf_o14 (c : Dev nD) : (blkOf m c).o14 = out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o14 blkOf; rfl
set_option maxHeartbeats 4000000 in
theorem blkOf_o15 (c : Dev nD) : (blkOf m c).o15 = out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o15 blkOf; rfl
set_option maxHeartbeats 4000000 in
theorem blkOf_o16 (c : Dev nD) : (blkOf m c).o16 = out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o16 blkOf; rfl
set_option maxHeartbeats 4000000 in
theorem blkOf_o17 (c : Dev nD) : (blkOf m c).o17 = out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by unfold Blk.o17 blkOf; rfl

theorem cast1024_at (v : S1024.Idx → EReal) (k : Fin 1024) : shapeCast S1x1024 v shapeCasts_S1024_S1x1024 (ix2 0 k) = v (ix1 k) := by pointwise
theorem cast4096_at (v : S4096.Idx → EReal) (k : Fin 4096) : shapeCast S1x4096 v shapeCasts_S4096_S1x4096 (ix2 0 k) = v (ix1 k) := by pointwise

theorem x5_at (c : Dev nD) (f : Fin 4096) : (blkOf m c).x5 (ix2 0 f) = (args m c).s1 (ix1 f) := by
  show iblk m c 5 t0_0 (ix2 0 f) = _
  rw [iblk5, V_v32]; exact cast4096_at _ f
theorem x6_at (c : Dev nD) (f : Fin 4096) : (blkOf m c).x6 (ix2 0 f) = (args m c).b1 (ix1 f) := by
  show iblk m c 6 t0_0 (ix2 0 f) = _
  rw [iblk6, V_v33]; exact cast4096_at _ f
theorem x8_at (c : Dev nD) (f : Fin 1024) : (blkOf m c).x8 (ix2 0 f) = (args m c).s2 (ix1 f) := by
  show iblk m c 8 t0_0 (ix2 0 f) = _
  rw [iblk8, V_v34]; exact cast1024_at _ f
theorem x9_at (c : Dev nD) (f : Fin 1024) : (blkOf m c).x9 (ix2 0 f) = (args m c).b2 (ix1 f) := by
  show iblk m c 9 t0_0 (ix2 0 f) = _
  rw [iblk9, V_v35]; exact cast1024_at _ f
theorem x4_at (c : Dev nD) (k : Fin 1024) (f : Fin 4096) : (blkOf m c).x4 (ix2 k f) = (args m c).w1 (ix2 k f) := by
  show iblk m c 4 t0_0 (ix2 k f) = _
  rw [iblk4, V_main_arg8]; rfl
theorem x7_at (c : Dev nD) (k : Fin 1024) (f : Fin 4096) : (blkOf m c).x7 (ix2 f k) = (args m c).w2 (ix2 f k) := by
  show iblk m c 7 t0_0 (ix2 f k) = _
  rw [iblk7, V_main_arg11]; rfl
theorem x1_at (c : Dev nD) (b : Fin 12) (q : Fin 120) (k : Fin 1024) : (blkOf m c).x1 (ix2 (row b q) k) = (args m c).sh (ix2 b k) := by
  show iblk m c 1 t0_0 (ix2 (row b q) k) = _
  rw [iblk1, V_v26]; exact rows_at _ b q k
theorem x2_at (c : Dev nD) (b : Fin 12) (q : Fin 120) (k : Fin 1024) : (blkOf m c).x2 (ix2 (row b q) k) = (args m c).sc (ix2 b k) := by
  show iblk m c 2 t0_0 (ix2 (row b q) k) = _
  rw [iblk2, V_v29]; exact rows_at _ b q k
theorem x10_at (c : Dev nD) (b : Fin 12) (s : Fin 576) (k : Fin 1024) : (blkOf m c).x10 (ix2 (crow b s) k) = (args m c).cc (ix3 b s k) := by
  show iblk m c 10 t0_0 (ix2 (crow b s) k) = _
  rw [iblk10, V_v36]; exact ccast_at _ b s k

theorem ne_ext : ∀ v : BitVec 1, IntOp.cmpi .ne (v.setWidth 32) 0#32 = v := by decide

theorem lv_at (c : Dev nD) (b : Fin 12) (q : Fin 120) : (blkOf m c).lv (row b q) = (args m c).live b q := by
  have h : (blkOf m c).x3 (ix2 (row b q) 0) = (cnt (m ((c.tc : Thread nD τ).loc main_arg5)) (ix2 b q)).setWidth 32 := by
    show iblk m c 3 t0_0 (ix2 (row b q) 0) = _
    rw [iblk3, V_v31]; exact cast2_at _ b q
  unfold Blk.lv
  rw [h, cnt_at, ne_ext]
  rfl

/-- The row that a counted entry reads. -/
theorem x0_at (c : Dev nD) (hL : (args m c).Listed) (b : Fin 12) (q : Fin 120) (hl : (args m c).live b q = 1#1) (k : Fin 1024) :
    (blkOf m c).x0 (ix2 (row b q) k) = (args m c).x (ix3 b ((args m c).tk b q) k) := by
  show iblk m c 0 t0_0 (ix2 (row b q) k) = _
  rw [iblk0, V_v23]
  refine (cast3_at _ _ b q k).trans (gather_at _ _ b q k _ (src0_at _ b q) ?_)
  have e : m ((c.tc : Thread nD τ).loc main_arg4) (ix2 b q) = BitVec.ofNat 32 ((args m c).tk b q : ℕ) := Spec.Args.tk_val _ hL hl
  rw [src1_at, e, Routing.wrap_of_lt _ _ (by rw [BitVec.toNat_ofNat]; omega)]

theorem H_at (c : Dev nD) (hL : (args m c).Listed) (b : Fin 12) (q : Fin 120) : (blkOf m c).H (row b q) = (args m c).h b q := by
  unfold Blk.H Spec.Args.h
  rw [lv_at]
  simp only [x1_at, x2_at]
  by_cases hl : (args m c).live b q = 1#1
  · simp only [x0_at m c hL b q hl]
  · rw [ValueIdx.eq_zero_of_ne_one hl, Spec.Args.hrow_dead, Spec.Args.hrow_dead]

theorem G_at (c : Dev nD) (hL : (args m c).Listed) (b : Fin 12) (q : Fin 120) : (blkOf m c).G (row b q) = (args m c).g b q := by
  unfold Blk.G Spec.Args.g
  rw [lv_at, H_at m c hL]
  simp only [x4_at, x5_at, x6_at]

theorem Y_at (c : Dev nD) (hL : (args m c).Listed) (b : Fin 12) (q : Fin 120) : (blkOf m c).Y (row b q) = (args m c).y b q := by
  unfold Blk.Y Spec.Args.y
  rw [lv_at, G_at m c hL]
  simp only [x7_at, x8_at, x9_at]

set_option maxHeartbeats 4000000 in
theorem reg0 (c : Dev nD) : reg_main_v37_0 m c = (blkOf m c).o11 := by
  unfold reg_main_v37_0
  refine (dats m 0 c).arrAt_eq_of_after_last 11 t0_0 (by decide +kernel) _ fun j => ?_
  blk_simp
  rw [after0_11, ← blkOf_o11]

set_option maxHeartbeats 4000000 in
theorem reg1 (c : Dev nD) : reg_main_v37_1 m c = (blkOf m c).o12 := by
  unfold reg_main_v37_1
  refine (dats m 0 c).arrAt_eq_of_after_last 12 t0_0 (by decide +kernel) _ fun j => ?_
  blk_simp
  rw [after0_12, ← blkOf_o12]

set_option maxHeartbeats 4000000 in
theorem reg2 (c : Dev nD) : reg_main_v37_2 m c = (blkOf m c).o13 := by
  unfold reg_main_v37_2
  refine (dats m 0 c).arrAt_eq_of_after_last 13 t0_0 (by decide +kernel) _ fun j => ?_
  blk_simp
  rw [after0_13, ← blkOf_o13]

set_option maxHeartbeats 4000000 in
theorem reg3 (c : Dev nD) : reg_main_v37_3 m c = (blkOf m c).o14 := by
  unfold reg_main_v37_3
  refine (dats m 0 c).arrAt_eq_of_after_last 14 t0_0 (by decide +kernel) _ fun j => ?_
  blk_simp
  rw [after0_14, ← blkOf_o14]

set_option maxHeartbeats 4000000 in
theorem reg4 (c : Dev nD) : reg_main_v37_4 m c = (blkOf m c).o15 := by
  unfold reg_main_v37_4
  refine (dats m 0 c).arrAt_eq_of_after_last 15 t0_0 (by decide +kernel) _ fun j => ?_
  blk_simp
  rw [after0_15, ← blkOf_o15]

set_option maxHeartbeats 4000000 in
theorem reg5 (c : Dev nD) : reg_main_v37_5 m c = (blkOf m c).o16 := by
  unfold reg_main_v37_5
  refine (dats m 0 c).arrAt_eq_of_after_last 16 t0_0 (by decide +kernel) _ fun j => ?_
  blk_simp
  rw [after0_16, ← blkOf_o16]

set_option maxHeartbeats 4000000 in
theorem reg6 (c : Dev nD) : reg_main_v37_6 m c = (blkOf m c).o17 := by
  unfold reg_main_v37_6
  refine (dats m 0 c).arrAt_eq_of_after_last 17 t0_0 (by decide +kernel) _ fun j => ?_
  blk_simp
  rw [after0_17, ← blkOf_o17]

theorem res1_at (c : Dev nD) (hL : (args m c).Listed) (b : Fin 12) (q : Fin 120) (k : Fin 1024) :
    shapeCast S12x120x1024 (reg_main_v37_0 m c) shapeCasts_S1440x1024_S12x120x1024 (ix3 b q k) = Spec.codes ((args m c).h b q) k := by
  rw [← H_at m c hL]
  refine (uncast3_at _ _ b q k).trans ?_
  rw [reg0]; exact Blk.o11_at (blkOf m c) (row b q) k

theorem res2_at (c : Dev nD) (hL : (args m c).Listed) (b : Fin 12) (q : Fin 120) :
    shapeCast S12x120 (reg_main_v37_1 m c) shapeCasts_S1440x1_S12x120 (ix2 b q) = Spec.scale ((args m c).h b q) := by
  rw [← H_at m c hL]
  refine (uncast2_at _ b q).trans ?_
  rw [reg1]; exact Blk.o12_at (blkOf m c) (row b q)

theorem res3_at (c : Dev nD) (hL : (args m c).Listed) (b : Fin 12) (q : Fin 120) (k : Fin 4096) :
    shapeCast S12x120x4096 (reg_main_v37_2 m c) shapeCasts_S1440x4096_S12x120x4096 (ix3 b q k) = Spec.codes ((args m c).g b q) k := by
  rw [← G_at m c hL]
  refine (uncast3_at _ _ b q k).trans ?_
  rw [reg2]; exact Blk.o13_at (blkOf m c) (row b q) k

theorem res4_at (c : Dev nD) (hL : (args m c).Listed) (b : Fin 12) (q : Fin 120) :
    shapeCast S12x120 (reg_main_v37_3 m c) shapeCasts_S1440x1_S12x120 (ix2 b q) = Spec.scale ((args m c).g b q) := by
  rw [← G_at m c hL]
  refine (uncast2_at _ b q).trans ?_
  rw [reg3]; exact Blk.o14_at (blkOf m c) (row b q)

/-- Where the listed rows go, on a core. -/
def dest (c : Dev nD) : IVec S12x120x2 32 := dst bat (cnt (m ((c.tc : Thread nD τ).loc main_arg5))) (m ((c.tc : Thread nD τ).loc main_arg4))

theorem dest0 (c : Dev nD) (b : Fin 12) (q : Fin 120) : (dest m c (ix3 b q 0)).toInt = ↑b := by
  unfold dest; rw [dst0_at, toInt_nat _ (by omega)]

/-- A listed row goes to token `s` exactly when it is counted and names `s`. -/
theorem dest1 (c : Dev nD) (hL : (args m c).Listed) (b : Fin 12) (q : Fin 120) (s : Fin 576) :
    (dest m c (ix3 b q 1)).toInt = ↑s ↔ (args m c).live b q = 1#1 ∧ (args m c).tk b q = s := by
  have hc : cnt (m ((c.tc : Thread nD τ).loc main_arg5)) (ix2 b q) = (args m c).live b q := cnt_at _ b q
  unfold dest
  rw [dst1_at, hc]
  by_cases hl : (args m c).live b q = 1#1
  · have e : m ((c.tc : Thread nD τ).loc main_arg4) (ix2 b q) = BitVec.ofNat 32 ((args m c).tk b q : ℕ) := Spec.Args.tk_val _ hL hl
    have e1 : Scalar.select ((args m c).live b q) (m ((c.tc : Thread nD τ).loc main_arg4) (ix2 b q)) 576#32 = BitVec.ofNat 32 ((args m c).tk b q : ℕ) := by
      rw [hl, e]; rfl
    rw [e1, Routing.wrap_of_lt _ _ (by rw [BitVec.toNat_ofNat]; omega), toInt_nat _ (by omega)]
    constructor
    · intro h; exact ⟨hl, Fin.ext (by omega)⟩
    · rintro ⟨-, rfl⟩; rfl
  · have e1 : Scalar.select ((args m c).live b q) (m ((c.tc : Thread nD τ).loc main_arg4) (ix2 b q)) 576#32 = 576#32 := by
      rw [ValueIdx.eq_zero_of_ne_one hl]; rfl
    rw [e1, Routing.wrap_of_lt _ _ (by decide)]
    constructor
    · intro h
      have : (576#32 : BitVec 32).toInt = 576 := by decide
      omega
    · rintro ⟨h, -⟩; exact (hl h).elim

theorem once (c : Dev nD) (hL : (args m c).Listed) (b : Fin 12) (q q' : Fin 120) (h : (args m c).live b q = 1#1) (h' : (args m c).live b q' = 1#1)
    (e : (args m c).tk b q' = (args m c).tk b q) : q' = q :=
  hL.once b q' q h' h (by rw [Spec.Args.tk_val _ hL h, Spec.Args.tk_val _ hL h', e])

/-- The new cached codes and scales of a core. -/
def cod (c : Dev nD) : FVec Ideal S12x576x1024 .f32 := newCodes (reg_main_v37_6 m c) (dest m c) (reg_main_v37_4 m c)
def scl (c : Dev nD) : FVec Ideal S12x576 .f32 := newScales (m ((c.tc : Thread nD τ).loc main_arg7)) (dest m c) (reg_main_v37_5 m c)

theorem cod_hit (c : Dev nD) (hL : (args m c).Listed) (b : Fin 12) (q : Fin 120) (hl : (args m c).live b q = 1#1) (k : Fin 1024) :
    cod m c (ix3 b ((args m c).tk b q) k) = Spec.codes ((args m c).y b q) k := by
  unfold cod newCodes
  refine (scatter_hit dC _ _ _ _ (ix3 b q k) ((lands3 _ _ _ _ _ _ _).2 ⟨dest0 m c b q, (dest1 m c hL b q _).2 ⟨hl, rfl⟩, rfl⟩) ?_).trans ?_
  · intro j' h
    obtain ⟨b', q', k', rfl⟩ : ∃ b' q' k', j' = ix3 b' q' k' := ⟨j' 0, j' 1, j' 2, by funext a; fin_cases a <;> rfl⟩
    obtain ⟨h0, h1, h2⟩ := (lands3 _ _ _ _ _ _ _).1 h
    have hb : b' = b := Fin.ext (by have := dest0 m c b' q'; omega)
    subst hb; subst h2
    obtain ⟨hl', e⟩ := (dest1 m c hL b' q' _).1 h1
    rw [once m c hL b' q q' hl hl' e]
  · rw [← Y_at m c hL]
    refine (uncast3_at _ _ b q k).trans ?_
    rw [reg4]; exact Blk.o15_at (blkOf m c) (row b q) k

theorem cod_miss (c : Dev nD) (hL : (args m c).Listed) (b : Fin 12) (s : Fin 576) (hs : ∀ q, (args m c).live b q = 1#1 → (args m c).tk b q ≠ s) (k : Fin 1024) :
    cod m c (ix3 b s k) = (args m c).cc (ix3 b s k) := by
  unfold cod newCodes
  refine (scatter_miss dC _ _ _ _ ?_).trans ?_
  · intro j' h
    obtain ⟨b', q', k', rfl⟩ : ∃ b' q' k', j' = ix3 b' q' k' := ⟨j' 0, j' 1, j' 2, by funext a; fin_cases a <;> rfl⟩
    obtain ⟨h0, h1, h2⟩ := (lands3 _ _ _ _ _ _ _).1 h
    have hb : b' = b := Fin.ext (by have := dest0 m c b' q'; omega)
    subst hb
    obtain ⟨hl', e⟩ := (dest1 m c hL b' q' _).1 h1
    exact hs q' hl' e
  · refine (cuncast_at _ b s k).trans ?_
    rw [reg6]
    exact (Blk.o17_at (blkOf m c) (crow b s) k).trans (x10_at m c b s k)

theorem scl_hit (c : Dev nD) (hL : (args m c).Listed) (b : Fin 12) (q : Fin 120) (hl : (args m c).live b q = 1#1) :
    scl m c (ix2 b ((args m c).tk b q)) = Spec.scale ((args m c).y b q) := by
  unfold scl newScales
  refine (scatter_hit dS _ _ _ _ (ix2 b q) ((lands2 _ _ _ _ _).2 ⟨dest0 m c b q, (dest1 m c hL b q _).2 ⟨hl, rfl⟩⟩) ?_).trans ?_
  · intro j' h
    obtain ⟨b', q', rfl⟩ : ∃ b' q', j' = ix2 b' q' := ⟨j' 0, j' 1, by funext a; fin_cases a <;> rfl⟩
    obtain ⟨h0, h1⟩ := (lands2 _ _ _ _ _).1 h
    have hb : b' = b := Fin.ext (by have := dest0 m c b' q'; omega)
    subst hb
    obtain ⟨hl', e⟩ := (dest1 m c hL b' q' _).1 h1
    rw [once m c hL b' q q' hl hl' e]
  · rw [← Y_at m c hL]
    refine (uncast2_at _ b q).trans ?_
    rw [reg5]; exact Blk.o16_at (blkOf m c) (row b q)

theorem scl_miss (c : Dev nD) (hL : (args m c).Listed) (b : Fin 12) (s : Fin 576) (hs : ∀ q, (args m c).live b q = 1#1 → (args m c).tk b q ≠ s) :
    scl m c (ix2 b s) = (args m c).cs (ix2 b s) := by
  unfold scl newScales
  refine (scatter_miss dS _ _ _ _ ?_).trans rfl
  intro j' h
  obtain ⟨b', q', rfl⟩ : ∃ b' q', j' = ix2 b' q' := ⟨j' 0, j' 1, by funext a; fin_cases a <;> rfl⟩
  obtain ⟨h0, h1⟩ := (lands2 _ _ _ _ _).1 h
  have hb : b' = b := Fin.ext (by have := dest0 m c b' q'; omega)
  subst hb
  obtain ⟨hl', e⟩ := (dest1 m c hL b' q' _).1 h1
  exact hs q' hl' e

/-- The first result. -/
theorem res0_at (c : Dev nD) (b : Fin 12) (s : Fin 576) (k : Fin 1024) : res_main_v80 m c (ix3 b s k)
    = (args m c).x (ix3 b s k) + (args m c).gt (ix2 b k) * (cod m c (ix3 b s k) * scl m c (ix2 b s)) := by
  unfold res_main_v80
  exact out_at _ _ (cod m c) (scl m c) b s k

end Cert.ReferenceIdeal.Ran

end
-- ==== Proof.RefOut.lean ====
/- The reference's run: its results are the layer's, and its arguments are unchanged. -/
module

public import proofs.«01_k».proof.Proof.RefArr
public import proofs.«01_k».proof.Proof.Outs

@[expose] public section

set_option maxRecDepth 16384

noncomputable section

namespace Cert.ReferenceIdeal.Ran

open Cert.ReferenceIdeal Cert.ReferenceIdeal.Gen Idealize.ShloMosaic Idealize.ShloMosaic.TcCoe Idealize.SL.Sem
open Cert

variable (m : (ℓ : Loc nD τ sig) → Buf (Elt Ideal) ℓ)

theorem split3 {a b c : ℕ} (y : (⟨3, ![a, b, c]⟩ : Shape).Idx) : y = ix3 (y 0) (y 1) (y 2) := by
  funext i; fin_cases i <;> rfl
theorem split2 {a b : ℕ} (y : (⟨2, ![a, b]⟩ : Shape).Idx) : y = ix2 (y 0) (y 1) := by
  funext i; fin_cases i <;> rfl

/-- Equality of arrays, entry by entry. -/
theorem ext3 {a b c : ℕ} (u v : (⟨3, ![a, b, c]⟩ : Shape).Idx → EReal) (h : ∀ i j k, u (ix3 i j k) = v (ix3 i j k)) : u = v :=
  funext fun y => by rw [split3 y]; exact h _ _ _
theorem ext2 {a b : ℕ} (u v : (⟨2, ![a, b]⟩ : Shape).Idx → EReal) (h : ∀ i j, u (ix2 i j) = v (ix2 i j)) : u = v :=
  funext fun y => by rw [split2 y]; exact h _ _

theorem cod_at (c : Dev nD) (hL : (args m c).Listed) (b : Fin 12) (s : Fin 576) (k : Fin 1024) : cod m c (ix3 b s k) = (args m c).cod b s k :=
  (args m c).cod_eq b (fun s k => cod m c (ix3 b s k)) (fun q hl k => cod_hit m c hL b q hl k) (fun s hs k => cod_miss m c hL b s hs k) s k

theorem scl_at (c : Dev nD) (hL : (args m c).Listed) (b : Fin 12) (s : Fin 576) : scl m c (ix2 b s) = (args m c).scl b s :=
  (args m c).scl_eq b (fun s => scl m c (ix2 b s)) (fun q hl => scl_hit m c hL b q hl) (fun s hs => scl_miss m c hL b s hs) s

theorem out0 (c : Dev nD) (hL : (args m c).Listed) : res_main_v80 m c = (args m c).r0 :=
  ext3 _ _ fun b s k => by rw [res0_at, cod_at m c hL, scl_at m c hL]; rfl
theorem out1 (c : Dev nD) (hL : (args m c).Listed) : shapeCast S12x120x1024 (reg_main_v37_0 m c) shapeCasts_S1440x1024_S12x120x1024 = (args m c).r1 :=
  ext3 _ _ fun b q k => res1_at m c hL b q k
theorem out2 (c : Dev nD) (hL : (args m c).Listed) : shapeCast S12x120 (reg_main_v37_1 m c) shapeCasts_S1440x1_S12x120 = (args m c).r2 :=
  ext2 _ _ fun b q => res2_at m c hL b q
theorem out3 (c : Dev nD) (hL : (args m c).Listed) : shapeCast S12x120x4096 (reg_main_v37_2 m c) shapeCasts_S1440x4096_S12x120x4096 = (args m c).r3 :=
  ext3 _ _ fun b q k => res3_at m c hL b q k
theorem out4 (c : Dev nD) (hL : (args m c).Listed) : shapeCast S12x120 (reg_main_v37_3 m c) shapeCasts_S1440x1_S12x120 = (args m c).r4 :=
  ext2 _ _ fun b q => res4_at m c hL b q
theorem cod_all (c : Dev nD) (hL : (args m c).Listed) : cod m c = (args m c).r5 :=
  ext3 _ _ fun b s k => cod_at m c hL b s k
/-- A conversion between formats is the identity on exact values. -/
theorem conv (u w : FVec Ideal S12x576x1024 .f32) (h : u = w) : (Host.convertf .fp8e4m3 u : FVec Ideal S12x576x1024 .fp8e4m3) = w := h
theorem out5 (c : Dev nD) (hL : (args m c).Listed) : (Host.convertf .fp8e4m3 (cod m c) : FVec Ideal S12x576x1024 .fp8e4m3) = (args m c).r5 :=
  conv (cod m c) ((args m c).r5) (cod_all m c hL)
theorem out6 (c : Dev nD) (hL : (args m c).Listed) : scl m c = (args m c).r6 :=
  ext2 _ _ fun b s => scl_at m c hL b s

theorem values (ρ : Dev nD → PrngReg) (hL : ∀ c : Dev nD, (args m c).Listed) :
    θ_run defs (onTc (τ := τ) (main (F := Ideal))) ⟨m, fun _ => 0, ρ⟩ fun r => ∀ c : Dev nD,
      r.2.mem ((c.tc : Thread nD τ).loc main_v80) = (args m c).r0
      ∧ r.2.mem ((c.tc : Thread nD τ).loc main_v81) = (args m c).r1
      ∧ r.2.mem ((c.tc : Thread nD τ).loc main_v82) = (args m c).r2
      ∧ r.2.mem ((c.tc : Thread nD τ).loc main_v83) = (args m c).r3
      ∧ r.2.mem ((c.tc : Thread nD τ).loc main_v84) = (args m c).r4
      ∧ r.2.mem ((c.tc : Thread nD τ).loc main_v85) = (args m c).r5
      ∧ r.2.mem ((c.tc : Thread nD τ).loc main_v71) = (args m c).r6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
    obtain ⟨h0, h1, h2, h3, h4, h5, h6, hr⟩ := h c
    exact ⟨h0.trans (out0 m c (hL c)), h1.trans (out1 m c (hL c)), h2.trans (out2 m c (hL c)), h3.trans (out3 m c (hL c)), h4.trans (out4 m c (hL c)), h5.trans (out5 m c (hL c)), h6.trans (out6 m c (hL c)), hr⟩) (run m ρ)

end Cert.ReferenceIdeal.Ran

end
-- ==== Proof.Listed.lean ====
/- What the precondition says of the list. -/
module

public import proofs.«01_k».proof.Pre_a_list
public import proofs.«01_k».proof.Proof.Layer
public import Idealize.ShloMosaic.Lib.Pointwise

@[expose] public section

set_option maxRecDepth 16384

noncomputable section

namespace Cert.Spec.Args

open Idealize.ShloMosaic
open Cert.Pre_a_list (S12x576x1024 S12x1024 S12x120 S12 S12x576 S1024x4096 S4096 S4096x1024 S1024 S12x120x120)

theorem one_and (a b : BitVec 1) : IntOp.andi a b = 1#1 ↔ a = 1#1 ∧ b = 1#1 := by revert a b; decide
theorem one_or (a b : BitVec 1) : IntOp.ori a b = 1#1 ↔ a = 1#1 ∨ b = 1#1 := by revert a b; decide
theorem one_not (a : BitVec 1) : ~~~a = 1#1 ↔ a ≠ 1#1 := by revert a; decide

/-- The predicate at the entries `q` and `q'` of the list of a sequence. -/
theorem pre_at [Cert.Pre_a_list.Facts] (A : Args) (h : Cert.Pre_a_list.fn (F := Ideal) A.x A.sh A.sc A.gt A.ids A.n A.cc A.cs A.w1 A.s1 A.b1 A.w2 A.s2 A.b2 = fun _ => 1#1)
    (b : Fin 12) (q q' : Fin 120) :
    (IntOp.cmpi .sle (A.n (ix1 b)) 120#32 = 1#1
      ∧ (A.live b q ≠ 1#1 ∨ (IntOp.cmpi .sge (A.ids (ix2 b q)) 0#32 = 1#1 ∧ IntOp.cmpi .slt (A.ids (ix2 b q)) 576#32 = 1#1)))
    ∧ ¬ (((A.live b q = 1#1 ∧ A.live b q' = 1#1) ∧ IntOp.cmpi .ne (BitVec.ofNat 32 ↑q) (BitVec.ofNat 32 ↑q') = 1#1)
      ∧ IntOp.cmpi .eq (A.ids (ix2 b q)) (A.ids (ix2 b q')) = 1#1) := by
  have p : Cert.Pre_a_list.fn (F := Ideal) A.x A.sh A.sc A.gt A.ids A.n A.cc A.cs A.w1 A.s1 A.b1 A.w2 A.s2 A.b2 (ix3 b q q')
      = IntOp.andi (IntOp.andi (IntOp.cmpi .sle (A.n (ix1 b)) 120#32)
          (IntOp.ori (~~~(A.live b q)) (IntOp.andi (IntOp.cmpi .sge (A.ids (ix2 b q)) 0#32) (IntOp.cmpi .slt (A.ids (ix2 b q)) 576#32))))
        (~~~(IntOp.andi (IntOp.andi (IntOp.andi (A.live b q) (A.live b q')) (IntOp.cmpi .ne (BitVec.ofNat 32 ↑q) (BitVec.ofNat 32 ↑q')))
          (IntOp.cmpi .eq (A.ids (ix2 b q)) (A.ids (ix2 b q'))))) := by
    unfold Cert.Pre_a_list.fn Cert.Pre_a_list.fn_part1 live
    pointwise
  have e := p.symm.trans (congrFun h (ix3 b q q'))
  simp only [one_and, one_or, one_not, ne_eq] at e
  exact e

theorem sle_iff (x y : BitVec 32) : IntOp.cmpi .sle x y = 1#1 ↔ x.toInt ≤ y.toInt := by
  show BitVec.ofBool (x.sle y) = 1#1 ↔ _
  rw [BitVec.sle]
  by_cases h : x.toInt ≤ y.toInt <;> simp [h]

theorem slt_iff (x y : BitVec 32) : IntOp.cmpi .slt x y = 1#1 ↔ x.toInt < y.toInt := by
  show BitVec.ofBool (x.slt y) = 1#1 ↔ _
  rw [BitVec.slt]
  by_cases h : x.toInt < y.toInt <;> simp [h]

theorem sge_iff (x y : BitVec 32) : IntOp.cmpi .sge x y = 1#1 ↔ y.toInt ≤ x.toInt := sle_iff y x

theorem eq_iff (x y : BitVec 32) : IntOp.cmpi .eq x y = 1#1 ↔ x = y := by
  show BitVec.ofBool (x == y) = 1#1 ↔ _
  by_cases h : x = y
  · subst h; simp
  · rw [show (x == y) = false from beq_eq_false_iff_ne.2 h]; simp [h]

theorem ne_iff (x y : BitVec 32) : IntOp.cmpi .ne x y = 1#1 ↔ x ≠ y := by
  show BitVec.ofBool (x != y) = 1#1 ↔ _
  by_cases h : x = y
  · subst h; simp
  · rw [show (x != y) = true from bne_iff_ne.2 h]; simp [h]

/-- The precondition is `Listed`. -/
theorem listed [Cert.Pre_a_list.Facts] (A : Args)
    (h : Cert.Pre_a_list.fn (F := Ideal) A.x A.sh A.sc A.gt A.ids A.n A.cc A.cs A.w1 A.s1 A.b1 A.w2 A.s2 A.b2 = fun _ => 1#1) : A.Listed where
  count b := (sle_iff _ _).1 (pre_at A h b 0 0).1.1
  token b q hl := by
    obtain h | ⟨h0, h1⟩ := (pre_at A h b q q).1.2
    · exact (h hl).elim
    · exact ⟨(sge_iff _ _).1 h0, (slt_iff _ _).1 h1⟩
  once b q q' hl hl' e := by
    by_contra hq
    refine (pre_at A h b q q').2 ⟨⟨⟨hl, hl'⟩, (ne_iff _ _).2 fun h => hq (Fin.ext ?_)⟩, (eq_iff _ _).2 e⟩
    have := congrArg BitVec.toNat h
    rw [BitVec.toNat_ofNat, BitVec.toNat_ofNat, Nat.mod_eq_of_lt (by omega), Nat.mod_eq_of_lt (by omega)] at this
    exact this

end Cert.Spec.Args

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_a_list
public import proofs.«01_k».proof.Proof.Gen.ReferenceIdeal.Frame
public import proofs.«01_k».proof.Proof.BitsFrame
public import proofs.«01_k».proof.Proof.KernelOut
public import proofs.«01_k».proof.Proof.RefOut
public import proofs.«01_k».proof.Proof.Listed
public import Idealize.ShloMosaic.Adequacy
public import Idealize.ShloMosaic.Init

@[expose] public section

noncomputable section

namespace Cert.Proof

open Idealize.ShloMosaic Idealize.ShloMosaic.TcCoe Idealize.SL.Sem

/-- The precondition, at the kernel's arguments. -/
theorem listed (m : (ℓ : Loc Cert.KernelIdeal.nD Cert.KernelIdeal.τ Cert.KernelIdeal.sig) → Buf (Elt Ideal) ℓ)
    (h : Cert.Pre_KernelIdeal_a_list (hPre_a_list := Cert.Pre_a_list.Gen.facts) m) (c : Dev Cert.KernelIdeal.nD) : (Cert.KernelIdeal.Gen.args m c).Listed :=
  @Cert.Spec.Args.listed Cert.Pre_a_list.Gen.facts (Cert.KernelIdeal.Gen.args m c) (h c)

/-- On equal arguments the kernel and the reference end with the layer's results. -/
theorem algebraic : @Cert.algebraic_KernelIdeal_ReferenceIdeal_pre_a_list Cert.KernelIdeal.Gen.facts Cert.ReferenceIdeal.Gen.facts Cert.Pre_a_list.Gen.facts := by
  intro m g m' g' hpre hargs
  have ea : ∀ c : Dev Cert.KernelIdeal.nD, Cert.ReferenceIdeal.Ran.args m' c = Cert.KernelIdeal.Gen.args m c := by
    intro c
    obtain ⟨e0, e1, e2, e3, e4, e5, e6, e7, e8, e9, e10, e11, e12, e13⟩ := hargs c
    unfold Cert.ReferenceIdeal.Ran.args Cert.KernelIdeal.Gen.args
    congr 1
  have hL := listed m hpre
  have hL' : ∀ c : Dev Cert.ReferenceIdeal.nD, (Cert.ReferenceIdeal.Ran.args m' c).Listed := fun c => (ea c).symm ▸ hL c
  refine ⟨fun c => (Cert.KernelIdeal.Gen.args m c).r0, fun c => (Cert.KernelIdeal.Gen.args m c).r1, fun c => (Cert.KernelIdeal.Gen.args m c).r2,
    fun c => (Cert.KernelIdeal.Gen.args m c).r3, fun c => (Cert.KernelIdeal.Gen.args m c).r4, fun c => (Cert.KernelIdeal.Gen.args m c).r5,
    fun c => (Cert.KernelIdeal.Gen.args m c).r6, Cert.KernelIdeal.Gen.values m g trivial hL, ?_⟩
  refine (θ_run (Cert.ReferenceIdeal.defs (F := Ideal)) _ _).mono (fun r h c => ?_) (Cert.ReferenceIdeal.Ran.values m' g' hL')
  have h := h c
  rw [ea c] at h
  exact h

/-- Both programs and the reference run and leave their arguments as they were, the idealization rewrote nothing, and the two agree. -/
theorem claim : Cert.Claim := ⟨Cert.Kernel.Gen.facts, Cert.KernelIdeal.Gen.facts, Cert.ReferenceIdeal.Gen.facts, Cert.Pre_a_list.Gen.facts,
  fun m ρ _ => Cert.Kernel.Gen.frame m ρ trivial, fun m ρ _ => Cert.KernelIdeal.Gen.frame m ρ trivial, fun m ρ _ => Cert.KernelIdeal.Gen.frame m ρ trivial,
  fun m ρ _ => Cert.ReferenceIdeal.Gen.frame m ρ, fun m ρ _ => Cert.ReferenceIdeal.Gen.frame m ρ, trivial, algebraic⟩

end Cert.Proof

end
